-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Kernel_agreeing [hPre_agreeing : Cert.Pre_agreeing.Facts] (m : (ℓ : Loc Cert.Kernel.nD Cert.Kernel.τ Cert.Kernel.sig) → Buf (Elt Bits) ℓ) : Prop :=
  ∀ c : Dev Cert.Kernel.nD,
    (Cert.Pre_agreeing.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_agreeing [hPre_agreeing : Cert.Pre_agreeing.Facts] (m : (ℓ : Loc Cert.KernelIdeal.nD Cert.KernelIdeal.τ Cert.KernelIdeal.sig) → Buf (Elt Ideal) ℓ) : Prop :=
  ∀ c : Dev Cert.KernelIdeal.nD,
    (Cert.Pre_agreeing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_agreeing [hPre_agreeing : Cert.Pre_agreeing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_agreeing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference [hPre_agreeing : Cert.Pre_agreeing.Facts] (m : (ℓ : Loc Cert.Reference.nD Cert.Reference.τ Cert.Reference.sig) → Buf (Elt Bits) ℓ) : Prop :=
  ∀ c : Dev Cert.Reference.nD,
    (Cert.Pre_agreeing.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Stable [hPre_in_range : Cert.Pre_in_range.Facts] (m : (ℓ : Loc Cert.Stable.nD Cert.Stable.τ Cert.Stable.sig) → Buf (Elt Bits) ℓ) : Prop :=
  ∀ c : Dev Cert.Stable.nD,
    (Cert.Pre_in_range.fn (F := Bits) (m ((c.tc : Thread Cert.Stable.nD Cert.Stable.τ).loc Cert.Stable.main_arg0)) (m ((c.tc : Thread Cert.Stable.nD Cert.Stable.τ).loc Cert.Stable.main_arg1)) (m ((c.tc : Thread Cert.Stable.nD Cert.Stable.τ).loc Cert.Stable.main_arg2)) (m ((c.tc : Thread Cert.Stable.nD Cert.Stable.τ).loc Cert.Stable.main_arg3)) (m ((c.tc : Thread Cert.Stable.nD Cert.Stable.τ).loc Cert.Stable.main_arg4))) = (fun _ => 1#1)

def Pre_StableIdeal [hPre_in_range : Cert.Pre_in_range.Facts] (m : (ℓ : Loc Cert.StableIdeal.nD Cert.StableIdeal.τ Cert.StableIdeal.sig) → Buf (Elt Ideal) ℓ) : Prop :=
  ∀ c : Dev Cert.StableIdeal.nD,
    (Cert.Pre_in_range.fn (F := Ideal) (m ((c.tc : Thread Cert.StableIdeal.nD Cert.StableIdeal.τ).loc Cert.StableIdeal.main_arg0)) (m ((c.tc : Thread Cert.StableIdeal.nD Cert.StableIdeal.τ).loc Cert.StableIdeal.main_arg1)) (m ((c.tc : Thread Cert.StableIdeal.nD Cert.StableIdeal.τ).loc Cert.StableIdeal.main_arg2)) (m ((c.tc : Thread Cert.StableIdeal.nD Cert.StableIdeal.τ).loc Cert.StableIdeal.main_arg3)) (m ((c.tc : Thread Cert.StableIdeal.nD Cert.StableIdeal.τ).loc Cert.StableIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_agreeing [hKernel : Cert.Kernel.Facts] [hPre_agreeing : Cert.Pre_agreeing.Facts] : Prop :=
  ∀ (m : (ℓ : Loc Cert.Kernel.nD Cert.Kernel.τ Cert.Kernel.sig) → Buf (Elt Bits) ℓ) (g : Dev Cert.Kernel.nD → PrngReg), Pre_Kernel_agreeing m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_agreeing [hKernelIdeal : Cert.KernelIdeal.Facts] [hPre_agreeing : Cert.Pre_agreeing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_agreeing m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_agreeing [hReferenceIdeal : Cert.ReferenceIdeal.Facts] [hPre_agreeing : Cert.Pre_agreeing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_agreeing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_agreeing : Cert.Pre_agreeing.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Stable [hStable : Cert.Stable.Facts] [hPre_in_range : Cert.Pre_in_range.Facts] : Prop :=
  ∀ (m : (ℓ : Loc Cert.Stable.nD Cert.Stable.τ Cert.Stable.sig) → Buf (Elt Bits) ℓ) (g : Dev Cert.Stable.nD → PrngReg), Pre_Stable m →
    θ_run (Cert.Stable.defs (F := Bits)) (Cert.Stable.threads (F := Bits)) ⟨m, fun _ => 0, g⟩ (fun r => (∀ c : Dev Cert.Stable.nD,
      r.2.mem ((c.tc : Thread Cert.Stable.nD Cert.Stable.τ).loc Cert.Stable.main_arg0) = m ((c.tc : Thread Cert.Stable.nD Cert.Stable.τ).loc Cert.Stable.main_arg0)
      ∧ r.2.mem ((c.tc : Thread Cert.Stable.nD Cert.Stable.τ).loc Cert.Stable.main_arg1) = m ((c.tc : Thread Cert.Stable.nD Cert.Stable.τ).loc Cert.Stable.main_arg1)
      ∧ r.2.mem ((c.tc : Thread Cert.Stable.nD Cert.Stable.τ).loc Cert.Stable.main_arg2) = m ((c.tc : Thread Cert.Stable.nD Cert.Stable.τ).loc Cert.Stable.main_arg2)
      ∧ r.2.mem ((c.tc : Thread Cert.Stable.nD Cert.Stable.τ).loc Cert.Stable.main_arg3) = m ((c.tc : Thread Cert.Stable.nD Cert.Stable.τ).loc Cert.Stable.main_arg3)
      ∧ r.2.mem ((c.tc : Thread Cert.Stable.nD Cert.Stable.τ).loc Cert.Stable.main_arg4) = m ((c.tc : Thread Cert.Stable.nD Cert.Stable.τ).loc Cert.Stable.main_arg4))
      ∧ r.2.sem = fun _ => 0)

def quiescent_StableIdeal [hStableIdeal : Cert.StableIdeal.Facts] [hPre_in_range : Cert.Pre_in_range.Facts] : Prop :=
  ∀ (m : (ℓ : Loc Cert.StableIdeal.nD Cert.StableIdeal.τ Cert.StableIdeal.sig) → Buf (Elt Ideal) ℓ) (g : Dev Cert.StableIdeal.nD → PrngReg), Pre_StableIdeal m →
    θ_run (Cert.StableIdeal.defs (F := Ideal)) (Cert.StableIdeal.threads (F := Ideal)) ⟨m, fun _ => 0, g⟩ (fun r => (∀ c : Dev Cert.StableIdeal.nD,
      r.2.mem ((c.tc : Thread Cert.StableIdeal.nD Cert.StableIdeal.τ).loc Cert.StableIdeal.main_arg0) = m ((c.tc : Thread Cert.StableIdeal.nD Cert.StableIdeal.τ).loc Cert.StableIdeal.main_arg0)
      ∧ r.2.mem ((c.tc : Thread Cert.StableIdeal.nD Cert.StableIdeal.τ).loc Cert.StableIdeal.main_arg1) = m ((c.tc : Thread Cert.StableIdeal.nD Cert.StableIdeal.τ).loc Cert.StableIdeal.main_arg1)
      ∧ r.2.mem ((c.tc : Thread Cert.StableIdeal.nD Cert.StableIdeal.τ).loc Cert.StableIdeal.main_arg2) = m ((c.tc : Thread Cert.StableIdeal.nD Cert.StableIdeal.τ).loc Cert.StableIdeal.main_arg2)
      ∧ r.2.mem ((c.tc : Thread Cert.StableIdeal.nD Cert.StableIdeal.τ).loc Cert.StableIdeal.main_arg3) = m ((c.tc : Thread Cert.StableIdeal.nD Cert.StableIdeal.τ).loc Cert.StableIdeal.main_arg3)
      ∧ r.2.mem ((c.tc : Thread Cert.StableIdeal.nD Cert.StableIdeal.τ).loc Cert.StableIdeal.main_arg4) = m ((c.tc : Thread Cert.StableIdeal.nD Cert.StableIdeal.τ).loc Cert.StableIdeal.main_arg4))
      ∧ r.2.sem = fun _ => 0)

def preserves_Kernel_KernelIdeal : Prop :=
  True

def algebraic_KernelIdeal_ReferenceIdeal_pre_agreeing [hKernelIdeal : Cert.KernelIdeal.Facts] [hReferenceIdeal : Cert.ReferenceIdeal.Facts] [hPre_agreeing : Cert.Pre_agreeing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_agreeing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference_pre_agreeing [hKernel : Cert.Kernel.Facts] [hReference : Cert.Reference.Facts] [hPre_agreeing : Cert.Pre_agreeing.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_agreeing m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Stable_StableIdeal : Prop :=
  True

def algebraic_StableIdeal_ReferenceIdeal [hStableIdeal : Cert.StableIdeal.Facts] [hReferenceIdeal : Cert.ReferenceIdeal.Facts] [hPre_in_range : Cert.Pre_in_range.Facts] : Prop :=
  ∀ (m : (ℓ : Loc Cert.StableIdeal.nD Cert.StableIdeal.τ Cert.StableIdeal.sig) → Buf (Elt Ideal) ℓ) (g : Dev Cert.StableIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_StableIdeal m →
    (∀ c : Dev Cert.StableIdeal.nD,
      m' ((c.tc : Thread Cert.ReferenceIdeal.nD Cert.ReferenceIdeal.τ).loc Cert.ReferenceIdeal.main_arg0) = m ((c.tc : Thread Cert.StableIdeal.nD Cert.StableIdeal.τ).loc Cert.StableIdeal.main_arg0)
      ∧ m' ((c.tc : Thread Cert.ReferenceIdeal.nD Cert.ReferenceIdeal.τ).loc Cert.ReferenceIdeal.main_arg1) = m ((c.tc : Thread Cert.StableIdeal.nD Cert.StableIdeal.τ).loc Cert.StableIdeal.main_arg1)
      ∧ m' ((c.tc : Thread Cert.ReferenceIdeal.nD Cert.ReferenceIdeal.τ).loc Cert.ReferenceIdeal.main_arg2) = m ((c.tc : Thread Cert.StableIdeal.nD Cert.StableIdeal.τ).loc Cert.StableIdeal.main_arg2)
      ∧ m' ((c.tc : Thread Cert.ReferenceIdeal.nD Cert.ReferenceIdeal.τ).loc Cert.ReferenceIdeal.main_arg3) = m ((c.tc : Thread Cert.StableIdeal.nD Cert.StableIdeal.τ).loc Cert.StableIdeal.main_arg3)
      ∧ m' ((c.tc : Thread Cert.ReferenceIdeal.nD Cert.ReferenceIdeal.τ).loc Cert.ReferenceIdeal.main_arg4) = m ((c.tc : Thread Cert.StableIdeal.nD Cert.StableIdeal.τ).loc Cert.StableIdeal.main_arg4)) →
    ∃ (v0 : (c : Dev Cert.StableIdeal.nD) → Buf (Elt Ideal) ((c.tc : Thread Cert.StableIdeal.nD Cert.StableIdeal.τ).loc Cert.StableIdeal.main_v12)),
      θ_run (Cert.StableIdeal.defs (F := Ideal)) (Cert.StableIdeal.threads (F := Ideal)) ⟨m, fun _ => 0, g⟩ (fun r => ∀ c : Dev Cert.StableIdeal.nD,
          r.2.mem ((c.tc : Thread Cert.StableIdeal.nD Cert.StableIdeal.τ).loc Cert.StableIdeal.main_v12) = v0 c
          ∧ r.2.mem ((c.tc : Thread Cert.StableIdeal.nD Cert.StableIdeal.τ).loc Cert.StableIdeal.main_arg0) = m ((c.tc : Thread Cert.StableIdeal.nD Cert.StableIdeal.τ).loc Cert.StableIdeal.main_arg0)
          ∧ r.2.mem ((c.tc : Thread Cert.StableIdeal.nD Cert.StableIdeal.τ).loc Cert.StableIdeal.main_arg1) = m ((c.tc : Thread Cert.StableIdeal.nD Cert.StableIdeal.τ).loc Cert.StableIdeal.main_arg1)
          ∧ r.2.mem ((c.tc : Thread Cert.StableIdeal.nD Cert.StableIdeal.τ).loc Cert.StableIdeal.main_arg2) = m ((c.tc : Thread Cert.StableIdeal.nD Cert.StableIdeal.τ).loc Cert.StableIdeal.main_arg2)
          ∧ r.2.mem ((c.tc : Thread Cert.StableIdeal.nD Cert.StableIdeal.τ).loc Cert.StableIdeal.main_arg3) = m ((c.tc : Thread Cert.StableIdeal.nD Cert.StableIdeal.τ).loc Cert.StableIdeal.main_arg3)
          ∧ r.2.mem ((c.tc : Thread Cert.StableIdeal.nD Cert.StableIdeal.τ).loc Cert.StableIdeal.main_arg4) = m ((c.tc : Thread Cert.StableIdeal.nD Cert.StableIdeal.τ).loc Cert.StableIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Stable_Reference [hStable : Cert.Stable.Facts] [hReference : Cert.Reference.Facts] [hPre_in_range : Cert.Pre_in_range.Facts] : Prop :=
  ∀ (m : (ℓ : Loc Cert.Stable.nD Cert.Stable.τ Cert.Stable.sig) → Buf (Elt Bits) ℓ) (g : Dev Cert.Stable.nD → PrngReg)
    (m' : (ℓ : Loc Cert.Reference.nD Cert.Reference.τ Cert.Reference.sig) → Buf (Elt Bits) ℓ) (g' : Dev Cert.Reference.nD → PrngReg), Pre_Stable m →
    (∀ c : Dev Cert.Stable.nD,
      m' ((c.tc : Thread Cert.Reference.nD Cert.Reference.τ).loc Cert.Reference.main_arg0) = m ((c.tc : Thread Cert.Stable.nD Cert.Stable.τ).loc Cert.Stable.main_arg0)
      ∧ m' ((c.tc : Thread Cert.Reference.nD Cert.Reference.τ).loc Cert.Reference.main_arg1) = m ((c.tc : Thread Cert.Stable.nD Cert.Stable.τ).loc Cert.Stable.main_arg1)
      ∧ m' ((c.tc : Thread Cert.Reference.nD Cert.Reference.τ).loc Cert.Reference.main_arg2) = m ((c.tc : Thread Cert.Stable.nD Cert.Stable.τ).loc Cert.Stable.main_arg2)
      ∧ m' ((c.tc : Thread Cert.Reference.nD Cert.Reference.τ).loc Cert.Reference.main_arg3) = m ((c.tc : Thread Cert.Stable.nD Cert.Stable.τ).loc Cert.Stable.main_arg3)
      ∧ m' ((c.tc : Thread Cert.Reference.nD Cert.Reference.τ).loc Cert.Reference.main_arg4) = m ((c.tc : Thread Cert.Stable.nD Cert.Stable.τ).loc Cert.Stable.main_arg4)) →
    ∃ (v0 : (c : Dev Cert.Stable.nD) → Buf (Elt Bits) ((c.tc : Thread Cert.Stable.nD Cert.Stable.τ).loc Cert.Stable.main_v12)),
      θ_run (Cert.Stable.defs (F := Bits)) (Cert.Stable.threads (F := Bits)) ⟨m, fun _ => 0, g⟩ (fun r => ∀ c : Dev Cert.Stable.nD,
          r.2.mem ((c.tc : Thread Cert.Stable.nD Cert.Stable.τ).loc Cert.Stable.main_v12) = v0 c
          ∧ r.2.mem ((c.tc : Thread Cert.Stable.nD Cert.Stable.τ).loc Cert.Stable.main_arg0) = m ((c.tc : Thread Cert.Stable.nD Cert.Stable.τ).loc Cert.Stable.main_arg0)
          ∧ r.2.mem ((c.tc : Thread Cert.Stable.nD Cert.Stable.τ).loc Cert.Stable.main_arg1) = m ((c.tc : Thread Cert.Stable.nD Cert.Stable.τ).loc Cert.Stable.main_arg1)
          ∧ r.2.mem ((c.tc : Thread Cert.Stable.nD Cert.Stable.τ).loc Cert.Stable.main_arg2) = m ((c.tc : Thread Cert.Stable.nD Cert.Stable.τ).loc Cert.Stable.main_arg2)
          ∧ r.2.mem ((c.tc : Thread Cert.Stable.nD Cert.Stable.τ).loc Cert.Stable.main_arg3) = m ((c.tc : Thread Cert.Stable.nD Cert.Stable.τ).loc Cert.Stable.main_arg3)
          ∧ r.2.mem ((c.tc : Thread Cert.Stable.nD Cert.Stable.τ).loc Cert.Stable.main_arg4) = m ((c.tc : Thread Cert.Stable.nD Cert.Stable.τ).loc Cert.Stable.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReferenceIdeal : Cert.ReferenceIdeal.Facts) (hReference : Cert.Reference.Facts) (hStable : Cert.Stable.Facts) (hStableIdeal : Cert.StableIdeal.Facts) (hPre_in_range : Cert.Pre_in_range.Facts) (hPre_agreeing : Cert.Pre_agreeing.Facts),
    quiescent_Kernel (hKernel := hKernel) (hPre_in_range := hPre_in_range)
    ∧ quiescent_Kernel_pre_agreeing (hKernel := hKernel) (hPre_agreeing := hPre_agreeing)
    ∧ quiescent_KernelIdeal (hKernelIdeal := hKernelIdeal) (hPre_in_range := hPre_in_range)
    ∧ quiescent_KernelIdeal_pre_agreeing (hKernelIdeal := hKernelIdeal) (hPre_agreeing := hPre_agreeing)
    ∧ quiescent_ReferenceIdeal (hReferenceIdeal := hReferenceIdeal)
    ∧ quiescent_ReferenceIdeal_pre_agreeing (hReferenceIdeal := hReferenceIdeal) (hPre_agreeing := hPre_agreeing)
    ∧ quiescent_ReferenceIdeal_pre_in_range (hReferenceIdeal := hReferenceIdeal) (hPre_in_range := hPre_in_range)
    ∧ quiescent_Reference (hReference := hReference) (hPre_agreeing := hPre_agreeing)
    ∧ quiescent_Reference_pre_in_range (hReference := hReference) (hPre_in_range := hPre_in_range)
    ∧ quiescent_Stable (hStable := hStable) (hPre_in_range := hPre_in_range)
    ∧ quiescent_StableIdeal (hStableIdeal := hStableIdeal) (hPre_in_range := hPre_in_range)
    ∧ preserves_Kernel_KernelIdeal
    ∧ algebraic_KernelIdeal_ReferenceIdeal_pre_agreeing (hKernelIdeal := hKernelIdeal) (hReferenceIdeal := hReferenceIdeal) (hPre_agreeing := hPre_agreeing)
    ∧ bitexact_Kernel_Reference_pre_agreeing (hKernel := hKernel) (hReference := hReference) (hPre_agreeing := hPre_agreeing)
    ∧ preserves_Stable_StableIdeal
    ∧ algebraic_StableIdeal_ReferenceIdeal (hStableIdeal := hStableIdeal) (hReferenceIdeal := hReferenceIdeal) (hPre_in_range := hPre_in_range)
    ∧ bitexact_Stable_Reference (hStable := hStable) (hReference := hReference) (hPre_in_range := hPre_in_range)
-- ==== Pre_agreeing.lean ====
abbrev S4096x256 : Shape := ⟨2, ![4096, 256]⟩
abbrev S262144 : Shape := ⟨1, ![262144]⟩
abbrev S20 : Shape := ⟨1, ![20]⟩
abbrev S_ : Shape := ⟨0, ![]⟩
abbrev S16777216 : Shape := ⟨1, ![16777216]⟩
abbrev S262144x1 : Shape := ⟨2, ![262144, 1]⟩

class Facts : Prop where
  bcast_S_S262144 : S_.BroadcastsInDim S262144 (![] : Fin 0 → Fin S262144.rank)
  bcast_S_S16777216 : S_.BroadcastsInDim S16777216 (![] : Fin 0 → Fin S16777216.rank)
  bcast_S262144_S262144x1_0 : S262144.BroadcastsInDim S262144x1 (![0] : Fin 1 → Fin S262144x1.rank)
  reducesTo_S262144_S_d0 : S262144.ReducesTo [0] S_
  h_S_ : 0 < S_.numel
  scatter_S16777216_S262144x1_S262144_n_0_0_1_wf : ScatterDims.WF S16777216 S262144x1 S262144 [] [0] [0] 1
  gather_S16777216_S262144x1_S262144_n_0_n_n_0_1_1_wf : GatherDims.WF S16777216 S262144x1 S262144 [] [0] [] [0] [] 1 ![1]

variable [Facts]

def scatter_S16777216_S262144x1_S262144_n_0_0_1 : ScatterDims S16777216 S262144x1 S262144 where
  updateWindowDims := []
  insertedWindowDims := [0]
  scatterDimsToOperandDims := [0]
  indexVectorDim := 1
  wf := scatter_S16777216_S262144x1_S262144_n_0_0_1_wf
def gather_S16777216_S262144x1_S262144_n_0_n_n_0_1_1 : GatherDims S16777216 S262144x1 S262144 where
  offsetDims := []
  collapsedSliceDims := [0]
  operandBatchingDims := []
  startIndicesBatchingDims := []
  startIndexMap := [0]
  indexVectorDim := 1
  sliceSizes := ![1]
  wf := gather_S16777216_S262144x1_S262144_n_0_n_n_0_1_1_wf
def fn_clip {F : FTy → Type} [FloatOps F] (arg0 : IVec S262144 32) (arg1 : IVec S_ 32) (arg2 : IVec S_ 32) : IVec S262144 32 :=
  let v0 : IVec S_ 32 := id arg1
  let v1 : IVec S262144 32 := broadcastInDim S262144 ![] bcast_S_S262144 v0
  let v2 : IVec S262144 32 := maxsi v1 arg0
  let v3 : IVec S_ 32 := id arg2
  let v4 : IVec S262144 32 := broadcastInDim S262144 ![] bcast_S_S262144 v3
  let v5 : IVec S262144 32 := minsi v4 v2
  v5

def fn_part2 {F : FTy → Type} [FloatOps F] (main_v4 : IVec S262144 32) (main_v7 : IVec S262144 32) (main_v15 : IVec S16777216 32) (main_v30 : IVec S_ 1) (main_c_15 : IVec S_ 32) : IVec S_ 1 :=
  let main_v31 : IVec S262144 32 := broadcastInDim S262144 ![] bcast_S_S262144 main_c_15
  let main_v32 : IVec S262144 1 := cmpi .slt main_v7 main_v31
  let main_c_16 : IVec S_ 32 := constantI S_ 32 16777216#32
  let main_v33 : IVec S262144 32 := broadcastInDim S262144 ![] bcast_S_S262144 main_c_16
  let main_v34 : IVec S262144 32 := addi main_v7 main_v33
  let main_v35 : IVec S262144 32 := select main_v32 main_v34 main_v7
  let main_v36 : IVec S262144x1 32 := broadcastInDim S262144x1 ![0] bcast_S262144_S262144x1_0 main_v35
  let main_v37 : IVec S262144 32 := (fun x i => Host.gather gather_S16777216_S262144x1_S262144_n_0_n_n_0_1_1 x i) main_v15 main_v36
  let main_v38 : IVec S262144 1 := cmpi .eq main_v37 main_v4
  let main_c_17 : IVec S_ 1 := constantI S_ 1 1#1
  let main_v39 : IVec S_ 1 := (fun x v => Host.reduce IntOp.andi x v reducesTo_S262144_S_d0 h_S_) main_v38 main_c_17
  let main_v40 : IVec S_ 1 := andi main_v30 main_v39
  main_v40

def fn_part1 {F : FTy → Type} [FloatOps F] (main_arg1 : IVec S262144 32) (main_arg2 : IVec S262144 32) (main_v4 : IVec S262144 32) (main_v7 : IVec S262144 32) (main_v15 : IVec S16777216 32) : IVec S_ 1 :=
  let main_c_7 : IVec S_ 32 := constantI S_ 32 0#32
  let main_v16 : IVec S262144 32 := broadcastInDim S262144 ![] bcast_S_S262144 main_c_7
  let main_v17 : IVec S262144 1 := cmpi .sge main_arg1 main_v16
  let main_c_8 : IVec S_ 1 := constantI S_ 1 1#1
  let main_v18 : IVec S_ 1 := (fun x v => Host.reduce IntOp.andi x v reducesTo_S262144_S_d0 h_S_) main_v17 main_c_8
  let main_c_9 : IVec S_ 32 := constantI S_ 32 4096#32
  let main_v19 : IVec S262144 32 := broadcastInDim S262144 ![] bcast_S_S262144 main_c_9
  let main_v20 : IVec S262144 1 := cmpi .slt main_arg1 main_v19
  let main_c_10 : IVec S_ 1 := constantI S_ 1 1#1
  let main_v21 : IVec S_ 1 := (fun x v => Host.reduce IntOp.andi x v reducesTo_S262144_S_d0 h_S_) main_v20 main_c_10
  let main_v22 : IVec S_ 1 := andi main_v18 main_v21
  let main_c_11 : IVec S_ 32 := constantI S_ 32 0#32
  let main_v23 : IVec S262144 32 := broadcastInDim S262144 ![] bcast_S_S262144 main_c_11
  let main_v24 : IVec S262144 1 := cmpi .sge main_arg2 main_v23
  let main_c_12 : IVec S_ 1 := constantI S_ 1 1#1
  let main_v25 : IVec S_ 1 := (fun x v => Host.reduce IntOp.andi x v reducesTo_S262144_S_d0 h_S_) main_v24 main_c_12
  let main_v26 : IVec S_ 1 := andi main_v22 main_v25
  let main_c_13 : IVec S_ 32 := constantI S_ 32 4096#32
  let main_v27 : IVec S262144 32 := broadcastInDim S262144 ![] bcast_S_S262144 main_c_13
  let main_v28 : IVec S262144 1 := cmpi .slt main_arg2 main_v27
  let main_c_14 : IVec S_ 1 := constantI S_ 1 1#1
  let main_v29 : IVec S_ 1 := (fun x v => Host.reduce IntOp.andi x v reducesTo_S262144_S_d0 h_S_) main_v28 main_c_14
  let main_v30 : IVec S_ 1 := andi main_v26 main_v29
  let main_c_15 : IVec S_ 32 := constantI S_ 32 0#32
  fn_part2 (F := F) main_v4 main_v7 main_v15 main_v30 main_c_15

def fn {F : FTy → Type} [FloatOps F] (main_arg0 : FVec F S4096x256 .f32) (main_arg1 : IVec S262144 32) (main_arg2 : IVec S262144 32) (main_arg3 : IVec S262144 32) (main_arg4 : FVec F S20 .f32) : IVec S_ 1 :=
  let main_c : IVec S_ 32 := constantI S_ 32 20#32
  let main_v0 : IVec S262144 32 := broadcastInDim S262144 ![] bcast_S_S262144 main_c
  let main_v1 : IVec S262144 32 := minsi main_arg3 main_v0
  let main_c_0 : IVec S_ 32 := constantI S_ 32 1#32
  let main_v2 : IVec S262144 32 := broadcastInDim S262144 ![] bcast_S_S262144 main_c_0
  let main_v3 : IVec S262144 32 := subi main_v1 main_v2
  let main_c_1 : IVec S_ 32 := constantI S_ 32 0#32
  let main_c_2 : IVec S_ 32 := constantI S_ 32 19#32
  let main_v4 : IVec S262144 32 := fn_clip (F := F) main_v3 main_c_1 main_c_2
  let main_c_3 : IVec S_ 32 := constantI S_ 32 4096#32
  let main_v5 : IVec S262144 32 := broadcastInDim S262144 ![] bcast_S_S262144 main_c_3
  let main_v6 : IVec S262144 32 := muli main_arg1 main_v5
  let main_v7 : IVec S262144 32 := addi main_v6 main_arg2
  let main_c_4 : IVec S_ 32 := constantI S_ 32 0#32
  let main_v8 : IVec S16777216 32 := broadcastInDim S16777216 ![] bcast_S_S16777216 main_c_4
  let main_c_5 : IVec S_ 32 := constantI S_ 32 0#32
  let main_v9 : IVec S262144 32 := broadcastInDim S262144 ![] bcast_S_S262144 main_c_5
  let main_v10 : IVec S262144 1 := cmpi .slt main_v7 main_v9
  let main_c_6 : IVec S_ 32 := constantI S_ 32 16777216#32
  let main_v11 : IVec S262144 32 := broadcastInDim S262144 ![] bcast_S_S262144 main_c_6
  let main_v12 : IVec S262144 32 := addi main_v7 main_v11
  let main_v13 : IVec S262144 32 := select main_v10 main_v12 main_v7
  let main_v14 : IVec S262144x1 32 := broadcastInDim S262144x1 ![0] bcast_S262144_S262144x1_0 main_v13
  let main_v15 : IVec S16777216 32 := (fun x i u => Host.scatter scatter_S16777216_S262144x1_S262144_n_0_0_1 (fun _ b => b) x i u) main_v8 main_v14 main_v4
  fn_part1 (F := F) main_arg1 main_arg2 main_v4 main_v7 main_v15
-- ==== Pre_in_range.lean ====
abbrev S4096x256 : Shape := ⟨2, ![4096, 256]⟩
abbrev S262144 : Shape := ⟨1, ![262144]⟩
abbrev S20 : Shape := ⟨1, ![20]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S4096x256 .f32) (main_arg1 : IVec S262144 32) (main_arg2 : IVec S262144 32) (main_arg3 : IVec S262144 32) (main_arg4 : FVec F S20 .f32) : IVec S_ 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 1 := constantI S_ 1 1#1
  let main_v2 : IVec S_ 1 := (fun x v => Host.reduce IntOp.andi x v reducesTo_S262144_S_d0 h_S_) main_v1 main_c_0
  let main_c_1 : IVec S_ 32 := constantI S_ 32 4096#32
  let main_v3 : IVec S262144 32 := broadcastInDim S262144 ![] bcast_S_S262144 main_c_1
  let main_v4 : IVec S262144 1 := cmpi .slt main_arg1 main_v3
  let main_c_2 : IVec S_ 1 := constantI S_ 1 1#1
  let main_v5 : IVec S_ 1 := (fun x v => Host.reduce IntOp.andi x v reducesTo_S262144_S_d0 h_S_) main_v4 main_c_2
  let main_v6 : IVec S_ 1 := andi main_v2 main_v5
  let main_c_3 : IVec S_ 32 := constantI S_ 32 0#32
  let main_v7 : IVec S262144 32 := broadcastInDim S262144 ![] bcast_S_S262144 main_c_3
  let main_v8 : IVec S262144 1 := cmpi .sge main_arg2 main_v7
  let main_c_4 : IVec S_ 1 := constantI S_ 1 1#1
  let main_v9 : IVec S_ 1 := (fun x v => Host.reduce IntOp.andi x v reducesTo_S262144_S_d0 h_S_) main_v8 main_c_4
  let main_v10 : IVec S_ 1 := andi main_v6 main_v9
  let main_c_5 : IVec S_ 32 := constantI S_ 32 4096#32
  let main_v11 : IVec S262144 32 := broadcastInDim S262144 ![] bcast_S_S262144 main_c_5
  let main_v12 : IVec S262144 1 := cmpi .slt main_arg2 main_v11
  let main_c_6 : IVec S_ 1 := constantI S_ 1 1#1
  let main_v13 : IVec S_ 1 := (fun x v => Host.reduce IntOp.andi x v reducesTo_S262144_S_d0 h_S_) main_v12 main_c_6
  let main_v14 : IVec S_ 1 := andi main_v10 main_v13
  main_v14
-- ==== Kernel.lean ====
abbrev S4096x256 : Shape := ⟨2, ![4096, 256]⟩
abbrev S262144 : Shape := ⟨1, ![262144]⟩
abbrev S20 : Shape := ⟨1, ![20]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S264192 : Shape := ⟨1, ![264192]⟩
abbrev S4096x4096 : Shape := ⟨2, ![4096, 4096]⟩
abbrev S4096 : Shape := ⟨1, ![4096]⟩
abbrev S256 : Shape := ⟨1, ![256]⟩
abbrev S272 : Shape := ⟨1, ![272]⟩
abbrev S16x4096 : Shape := ⟨2, ![16, 4096]⟩
abbrev S2048 : Shape := ⟨1, ![2048]⟩
abbrev S16 : Shape := ⟨1, ![16]⟩
abbrev S1x16 : Shape := ⟨2, ![1, 16]⟩

abbrev nBuf : Table → Nat
  | .hbm => 53
  | .shared => 1
  | .local .scVector .vmem => 7
  | _ => 0

abbrev bufTy : (tb : Table) → Fin (nBuf tb) → BufTy
  | .hbm, ⟨0, _⟩ => ⟨S4096x256, .f32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S20, .f32⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S1, .i32⟩
  | .hbm, ⟨32, _⟩ => ⟨S_, .i32⟩
  | .hbm, ⟨33, _⟩ => ⟨S262144x1, .i32⟩
  | .hbm, ⟨34, _⟩ => ⟨S262144x1, .i1⟩
  | .hbm, ⟨35, _⟩ => ⟨S1x1, .i32⟩
  | .hbm, ⟨36, _⟩ => ⟨S262144x1, .i32⟩
  | .hbm, ⟨37, _⟩ => ⟨S262144x1, .i1⟩
  | .hbm, ⟨38, _⟩ => ⟨S262144x1, .i1⟩
  | .hbm, ⟨39, _⟩ => ⟨S_, .i1⟩
  | .hbm, ⟨40, _⟩ => ⟨S262144, .i1⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144, .i32⟩
  | .hbm, ⟨46, _⟩ => ⟨S262144, .f32⟩
  | .hbm, ⟨47, _⟩ => ⟨S_, .i32⟩
  | .hbm, ⟨48, _⟩ => ⟨S264192, .i32⟩
  | .hbm, ⟨49, _⟩ => ⟨S_, .i32⟩
  | .hbm, ⟨50, _⟩ => ⟨S_, .f32⟩
  | .hbm, ⟨51, _⟩ => ⟨S264192, .f32⟩
  | .hbm, ⟨52, _⟩ => ⟨S4096x4096, .f32⟩
  | .shared, ⟨0, _⟩ => ⟨S4096, .i32⟩
  | .local .scVector .vmem, ⟨0, _⟩ => ⟨S4096, .i32⟩
  | .local .scVector .vmem, ⟨1, _⟩ => ⟨S256, .i32⟩
  | .local .scVector .vmem, ⟨2, _⟩ => ⟨S4096, .i32⟩
  | .local .scVector .vmem, ⟨3, _⟩ => ⟨S272, .i32⟩
  | .local .scVector .vmem, ⟨4, _⟩ => ⟨S16x4096, .f32⟩
  | .local .scVector .vmem, ⟨5, _⟩ => ⟨S2048, .i32⟩
  | .local .scVector .vmem, ⟨6, _⟩ => ⟨S2048, .f32⟩
  | _, _ => ⟨S4096x256, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v8 : Ref sig .tc := ⟨.hbm, 44, rfl⟩
abbrev main_v9_0 : Ref sig .tc := ⟨.hbm, 45, rfl⟩
abbrev main_v9_1 : Ref sig .tc := ⟨.hbm, 46, rfl⟩
abbrev main_c_4 : Ref sig .tc := ⟨.hbm, 47, rfl⟩
abbrev main_v10 : Ref sig .tc := ⟨.hbm, 48, rfl⟩
abbrev main_c_5 : Ref sig .tc := ⟨.hbm, 49, rfl⟩
abbrev main_call3_v0 : Ref sig .tc := ⟨.hbm, 50, rfl⟩
abbrev main_v11 : Ref sig .tc := ⟨.hbm, 51, rfl⟩
abbrev main_v12 : Ref sig .tc := ⟨.hbm, 52, rfl⟩
abbrev main_v10_scv : Ref sig .scVector := ⟨.hbm, 48, rfl⟩
abbrev main_v11_scv : Ref sig .scVector := ⟨.hbm, 51, rfl⟩
abbrev main_v12_scv : Ref sig .scVector := ⟨.hbm, 52, rfl⟩
abbrev cc0_scratch7 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c4_i32 : BitVec 32 := 4#32
  let v20 : BitVec 32 := Scalar.addi c0_i32_1 c4_i32
  let c1_i32_2 : BitVec 32 := 1#32
  ⟨c0_i32_1, v20, c1_i32_2⟩
def k0_off1 (i : grid0.Coords) (k0_t1 : Fin k0_t1_loop.trips) : Fin 1 → Nat :=
  let arg1 : BitVec 32 := BitVec.ofNat 32 (i 1).val
  let c16384_i32 : BitVec 32 := 16384#32
  let v705 : BitVec 32 := Scalar.muli arg1 c16384_i32
  let c0_i32_1 : BitVec 32 := 0#32
  let c1_i32_2 : BitVec 32 := 1#32
  let arg14 : BitVec 32 := Scf.iv c0_i32_1 c1_i32_2 k0_t1
  let c4096_i32_80 : BitVec 32 := 4096#32
  let v706 : BitVec 32 := Scalar.muli arg14 c4096_i32_80
  let v707 : BitVec 32 := Scalar.addi v705 v706
  ![v707.toNat]
@[reducible] def k0_t2_loop : Scf.Loop 32 :=
  let c0_i32_82 : BitVec 32 := 0#32
  let c256_i32_83 : BitVec 32 := 256#32
  let v708 : BitVec 32 := Scalar.addi c0_i32_82 c256_i32_83
  let c1_i32_84 : BitVec 32 := 1#32
  ⟨c0_i32_82, v708, c1_i32_84⟩
def k0_off2 (k0_t2 : Fin k0_t2_loop.trips) : Fin 1 → Nat :=
  let c0_i32_82 : BitVec 32 := 0#32
  let c1_i32_84 : BitVec 32 := 1#32
  let arg16 : BitVec 32 := Scf.iv c0_i32_82 c1_i32_84 k0_t2
  let c16_i32_87 : BitVec 32 := 16#32
  let v710 : BitVec 32 := Scalar.muli arg16 c16_i32_87
  let v711 : Index := Scalar.indexCast v710
  ![v711.toNat]

def k0_chk1 (v714 : IVec S16 32) : Prop :=
  (∀ a x, ((![v714] : Fin 1 → IVec S16 32) a x).toNat < S256.size a)
theorem k0_idx1_inb : ∀ (v714 : IVec S16 32) (k0_hw1 : k0_chk1 v714), ∀ a x, ((![v714] : Fin 1 → IVec S16 32) a x).toNat < S256.size a := fun v714 k0_hw1 => k0_hw1
def k0_off3 (i : grid0.Coords) : Fin 1 → Nat :=
  let arg1 : BitVec 32 := BitVec.ofNat 32 (i 1).val
  let c256_i32 : BitVec 32 := 256#32
  let v22 : BitVec 32 := Scalar.muli arg1 c256_i32
  ![v22.toNat]
@[reducible] def k0_t3_loop : Scf.Loop 32 :=
  let c0_i32_73 : BitVec 32 := 0#32
  let c4096_i32 : BitVec 32 := 4096#32
  let v699 : BitVec 32 := Scalar.addi c0_i32_73 c4096_i32
  let c1_i32_74 : BitVec 32 := 1#32
  ⟨c0_i32_73, v699, c1_i32_74⟩
def k0_off4 (k0_t3 : Fin k0_t3_loop.trips) : Fin 2 → Nat :=
  let c0_i32_73 : BitVec 32 := 0#32
  let c1_i32_74 : BitVec 32 := 1#32
  let arg14 : BitVec 32 := Scf.iv c0_i32_73 c1_i32_74 k0_t3
  let c8_i32_80 : BitVec 32 := 8#32
  let v705 : BitVec 32 := Scalar.shrsi arg14 c8_i32_80
  let v708 : Index := Scalar.indexCast v705
  let c255_i32 : BitVec 32 := 255#32
  let v706 : BitVec 32 := Scalar.andi arg14 c255_i32
  let c16_i32_81 : BitVec 32 := 16#32
  let v707 : BitVec 32 := Scalar.muli v706 c16_i32_81
  let v709 : Index := Scalar.indexCast v707
  ![v708.toNat, v709.toNat]
@[reducible] def k0_t4_loop : Scf.Loop 32 :=
  let c0_i32_77 : BitVec 32 := 0#32
  let c8_i32 : BitVec 32 := 8#32
  let v703 : BitVec 32 := Scalar.addi c0_i32_77 c8_i32
  let c1_i32_78 : BitVec 32 := 1#32
  ⟨c0_i32_77, v703, c1_i32_78⟩
def k0_mult1 (i : grid0.Coords) (k0_t4 : Fin k0_t4_loop.trips) : BitVec 32 :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c4_i32_81 : BitVec 32 := 4#32
  let v707 : BitVec 32 := Scalar.shrsi v706 c4_i32_81
  let c4_i32_82 : BitVec 32 := 4#32
  let v708 : BitVec 32 := Scalar.shli v707 c4_i32_82
  v708
def k0_off5 (i : grid0.Coords) (k0_t4 : Fin k0_t4_loop.trips) : Fin 1 → Nat :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c4_i32_81 : BitVec 32 := 4#32
  let v707 : BitVec 32 := Scalar.shrsi v706 c4_i32_81
  let c4_i32_82 : BitVec 32 := 4#32
  let v708 : BitVec 32 := Scalar.shli v707 c4_i32_82
  let v709 : BitVec 32 := v708
  let v710 : Index := Scalar.indexCast v709
  ![v710.toNat]
def k0_mult2 (i : grid0.Coords) (k0_t4 : Fin k0_t4_loop.trips) : BitVec 32 :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c1_i32_84 : BitVec 32 := 1#32
  let v719 : BitVec 32 := Scalar.addi v706 c1_i32_84
  let c4_i32_85 : BitVec 32 := 4#32
  let v720 : BitVec 32 := Scalar.shrsi v719 c4_i32_85
  let c4_i32_86 : BitVec 32 := 4#32
  let v721 : BitVec 32 := Scalar.shli v720 c4_i32_86
  v721
def k0_off6 (i : grid0.Coords) (k0_t4 : Fin k0_t4_loop.trips) : Fin 1 → Nat :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c1_i32_84 : BitVec 32 := 1#32
  let v719 : BitVec 32 := Scalar.addi v706 c1_i32_84
  let c4_i32_85 : BitVec 32 := 4#32
  let v720 : BitVec 32 := Scalar.shrsi v719 c4_i32_85
  let c4_i32_86 : BitVec 32 := 4#32
  let v721 : BitVec 32 := Scalar.shli v720 c4_i32_86
  let v722 : BitVec 32 := v721
  let v723 : Index := Scalar.indexCast v722
  ![v723.toNat]
def k0_mult3 (v718 : BitVec 32) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  v733

def k0_chk2 (v718 : BitVec 32) : Prop :=
  (16 ∣ (k0_mult3 v718).toNat)
theorem k0_mult3_dvd : ∀ (v718 : BitVec 32) (k0_hw2 : k0_chk2 v718), 16 ∣ (k0_mult3 v718).toNat := fun v718 k0_hw2 => k0_hw2

@[reducible] def k0_t5_loop (v718 : BitVec 32) (v731 : BitVec 32) : Scf.Loop 32 :=
  let c0_i32_99 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let c1_i32_102 : BitVec 32 := 1#32
  ⟨c0_i32_99, v759, c1_i32_102⟩

def k0_mult4 (v718 : BitVec 32) (v731 : BitVec 32) (k0_t5 : Fin (k0_t5_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let c1_i32_102 : BitVec 32 := 1#32
  let arg16 : BitVec 32 := Scf.iv c0_i32_99 c1_i32_102 k0_t5
  let c2048_i32_115 : BitVec 32 := 2048#32
  let v776 : BitVec 32 := Scalar.muli arg16 c2048_i32_115
  let v777 : BitVec 32 := Scalar.addi v734 v776
  v777
def k0_off7 (v718 : BitVec 32) (v731 : BitVec 32) (k0_t5 : Fin (k0_t5_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let c1_i32_102 : BitVec 32 := 1#32
  let arg16 : BitVec 32 := Scf.iv c0_i32_99 c1_i32_102 k0_t5
  let c2048_i32_115 : BitVec 32 := 2048#32
  let v776 : BitVec 32 := Scalar.muli arg16 c2048_i32_115
  let v777 : BitVec 32 := Scalar.addi v734 v776
  let v778 : BitVec 32 := v777
  ![v778.toNat]
@[reducible] def k0_t6_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off8 (k0_t6 : Fin k0_t6_loop.trips) : Fin 1 → Nat :=
  let c0_i32_117 : BitVec 32 := 0#32
  let c1_i32_119 : BitVec 32 := 1#32
  let arg18 : BitVec 32 := Scf.iv c0_i32_117 c1_i32_119 k0_t6
  let c16_i32_123 : BitVec 32 := 16#32
  let v790 : BitVec 32 := Scalar.muli arg18 c16_i32_123
  let v791 : Index := Scalar.indexCast v790
  ![v791.toNat]

def k0_chk4 (v796 : IVec S16 32) (v798 : IVec S16 32) : Prop :=
  (∀ a x, ((![v796, v798] : Fin 2 → IVec S16 32) a x).toNat < S16x4096.size a)
theorem k0_idx2_inb : ∀ (v796 : IVec S16 32) (v798 : IVec S16 32) (k0_hw4 : k0_chk4 v796 v798), ∀ a x, ((![v796, v798] : Fin 2 → IVec S16 32) a x).toNat < S16x4096.size a := fun v796 v798 k0_hw4 => k0_hw4
@[reducible] def k0_t7_loop (v718 : BitVec 32) (v731 : BitVec 32) : Scf.Loop 32 :=
  let c0_i32_99 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let v756 : BitVec 32 := Scalar.addi c0_i32_99 v755
  let c1_i32_103 : BitVec 32 := 1#32
  ⟨v759, v756, c1_i32_103⟩
def k0_mult5 (v718 : BitVec 32) (v731 : BitVec 32) (k0_t7 : Fin (k0_t7_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let c1_i32_103 : BitVec 32 := 1#32
  let arg16 : BitVec 32 := Scf.iv v759 c1_i32_103 k0_t7
  let c2048_i32_115 : BitVec 32 := 2048#32
  let v776 : BitVec 32 := Scalar.muli arg16 c2048_i32_115
  let v777 : BitVec 32 := Scalar.addi v734 v776
  v777
def k0_off9 (v718 : BitVec 32) (v731 : BitVec 32) (k0_t7 : Fin (k0_t7_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let c1_i32_103 : BitVec 32 := 1#32
  let arg16 : BitVec 32 := Scf.iv v759 c1_i32_103 k0_t7
  let c2048_i32_115 : BitVec 32 := 2048#32
  let v776 : BitVec 32 := Scalar.muli arg16 c2048_i32_115
  let v777 : BitVec 32 := Scalar.addi v734 v776
  let v778 : BitVec 32 := v777
  ![v778.toNat]
@[reducible] def k0_t8_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off10 (k0_t8 : Fin k0_t8_loop.trips) : Fin 1 → Nat :=
  let c0_i32_117 : BitVec 32 := 0#32
  let c1_i32_119 : BitVec 32 := 1#32
  let arg18 : BitVec 32 := Scf.iv c0_i32_117 c1_i32_119 k0_t8
  let c16_i32_123 : BitVec 32 := 16#32
  let v790 : BitVec 32 := Scalar.muli arg18 c16_i32_123
  let v791 : Index := Scalar.indexCast v790
  ![v791.toNat]

def k0_chk5 (v796 : IVec S16 32) (v798 : IVec S16 32) : Prop :=
  (∀ a x, ((![v796, v798] : Fin 2 → IVec S16 32) a x).toNat < S16x4096.size a)
theorem k0_idx3_inb : ∀ (v796 : IVec S16 32) (v798 : IVec S16 32) (k0_hw5 : k0_chk5 v796 v798), ∀ a x, ((![v796, v798] : Fin 2 → IVec S16 32) a x).toNat < S16x4096.size a := fun v796 v798 k0_hw5 => k0_hw5
def k0_off11 (i : grid0.Coords) (k0_t4 : Fin k0_t4_loop.trips) : Fin 2 → Nat :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c128_i32 : BitVec 32 := 128#32
  let v762 : BitVec 32 := Scalar.muli v702 c128_i32
  let c0_i32_77 : BitVec 32 := 0#32
  let c1_i32_78 : BitVec 32 := 1#32
  let arg14 : BitVec 32 := Scf.iv c0_i32_77 c1_i32_78 k0_t4
  let c16_i32_104 : BitVec 32 := 16#32
  let v763 : BitVec 32 := Scalar.muli arg14 c16_i32_104
  let v764 : BitVec 32 := Scalar.addi v762 v763
  let c0_i32_105 : BitVec 32 := 0#32
  ![v764.toNat, 0]
@[reducible] def k0_t9_loop (v718 : BitVec 32) (v731 : BitVec 32) : Scf.Loop 32 :=
  let c0_i32_109 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let c1_i32_112 : BitVec 32 := 1#32
  ⟨c0_i32_109, v773, c1_i32_112⟩
def k0_mult6 (v718 : BitVec 32) (v731 : BitVec 32) (k0_t9 : Fin (k0_t9_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let c1_i32_112 : BitVec 32 := 1#32
  let arg16 : BitVec 32 := Scf.iv c0_i32_109 c1_i32_112 k0_t9
  let c2048_i32_115 : BitVec 32 := 2048#32
  let v776 : BitVec 32 := Scalar.muli arg16 c2048_i32_115
  let v777 : BitVec 32 := Scalar.addi v734 v776
  v777
def k0_off12 (v718 : BitVec 32) (v731 : BitVec 32) (k0_t9 : Fin (k0_t9_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let c1_i32_112 : BitVec 32 := 1#32
  let arg16 : BitVec 32 := Scf.iv c0_i32_109 c1_i32_112 k0_t9
  let c2048_i32_115 : BitVec 32 := 2048#32
  let v776 : BitVec 32 := Scalar.muli arg16 c2048_i32_115
  let v777 : BitVec 32 := Scalar.addi v734 v776
  let v778 : BitVec 32 := v777
  ![v778.toNat]
@[reducible] def k0_t10_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off13 (k0_t10 : Fin k0_t10_loop.trips) : Fin 1 → Nat :=
  let c0_i32_117 : BitVec 32 := 0#32
  let c1_i32_119 : BitVec 32 := 1#32
  let arg18 : BitVec 32 := Scf.iv c0_i32_117 c1_i32_119 k0_t10
  let c16_i32_123 : BitVec 32 := 16#32
  let v790 : BitVec 32 := Scalar.muli arg18 c16_i32_123
  let v791 : Index := Scalar.indexCast v790
  ![v791.toNat]

def k0_chk6 (v796 : IVec S16 32) (v798 : IVec S16 32) : Prop :=
  (∀ a x, ((![v796, v798] : Fin 2 → IVec S16 32) a x).toNat < S16x4096.size a)
theorem k0_idx4_inb : ∀ (v796 : IVec S16 32) (v798 : IVec S16 32) (k0_hw6 : k0_chk6 v796 v798), ∀ a x, ((![v796, v798] : Fin 2 → IVec S16 32) a x).toNat < S16x4096.size a := fun v796 v798 k0_hw6 => k0_hw6
@[reducible] def k0_t11_loop (v718 : BitVec 32) (v731 : BitVec 32) : Scf.Loop 32 :=
  let c0_i32_109 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let v770 : BitVec 32 := Scalar.addi c0_i32_109 v769
  let c1_i32_113 : BitVec 32 := 1#32
  ⟨v773, v770, c1_i32_113⟩
def k0_mult7 (v718 : BitVec 32) (v731 : BitVec 32) (k0_t11 : Fin (k0_t11_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let c1_i32_113 : BitVec 32 := 1#32
  let arg16 : BitVec 32 := Scf.iv v773 c1_i32_113 k0_t11
  let c2048_i32_115 : BitVec 32 := 2048#32
  let v776 : BitVec 32 := Scalar.muli arg16 c2048_i32_115
  let v777 : BitVec 32 := Scalar.addi v734 v776
  v777
def k0_off14 (v718 : BitVec 32) (v731 : BitVec 32) (k0_t11 : Fin (k0_t11_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let c1_i32_113 : BitVec 32 := 1#32
  let arg16 : BitVec 32 := Scf.iv v773 c1_i32_113 k0_t11
  let c2048_i32_115 : BitVec 32 := 2048#32
  let v776 : BitVec 32 := Scalar.muli arg16 c2048_i32_115
  let v777 : BitVec 32 := Scalar.addi v734 v776
  let v778 : BitVec 32 := v777
  ![v778.toNat]

def k0_chk3 (v718 : BitVec 32) (v731 : BitVec 32) : Prop :=
  ((k0_t5_loop v718 v731).OK) ∧
  (∀ k0_t5 : Fin (k0_t5_loop v718 v731).trips, 16 ∣ (k0_mult4 v718 v731 k0_t5).toNat) ∧
  (∀ k0_t5 : Fin (k0_t5_loop v718 v731).trips, ∀ a, (k0_off7 v718 v731 k0_t5) a + S2048.size a ≤ S264192.size a) ∧
  ((k0_t7_loop v718 v731).OK) ∧
  (∀ k0_t7 : Fin (k0_t7_loop v718 v731).trips, 16 ∣ (k0_mult5 v718 v731 k0_t7).toNat) ∧
  (∀ k0_t7 : Fin (k0_t7_loop v718 v731).trips, ∀ a, (k0_off9 v718 v731 k0_t7) a + S2048.size a ≤ S264192.size a) ∧
  ((k0_t9_loop v718 v731).OK) ∧
  (∀ k0_t9 : Fin (k0_t9_loop v718 v731).trips, 16 ∣ (k0_mult6 v718 v731 k0_t9).toNat) ∧
  (∀ k0_t9 : Fin (k0_t9_loop v718 v731).trips, ∀ a, (k0_off12 v718 v731 k0_t9) a + S2048.size a ≤ S264192.size a) ∧
  ((k0_t11_loop v718 v731).OK) ∧
  (∀ k0_t11 : Fin (k0_t11_loop v718 v731).trips, 16 ∣ (k0_mult7 v718 v731 k0_t11).toNat) ∧
  (∀ k0_t11 : Fin (k0_t11_loop v718 v731).trips, ∀ a, (k0_off14 v718 v731 k0_t11) a + S2048.size a ≤ S264192.size a)
theorem k0_t5_ok : ∀ (v718 : BitVec 32) (v731 : BitVec 32) (k0_hw3 : k0_chk3 v718 v731), (k0_t5_loop v718 v731).OK := fun v718 v731 k0_hw3 => k0_hw3.1
theorem k0_mult4_dvd : ∀ (v718 : BitVec 32) (v731 : BitVec 32) (k0_hw3 : k0_chk3 v718 v731) (k0_t5 : Fin (k0_t5_loop v718 v731).trips), 16 ∣ (k0_mult4 v718 v731 k0_t5).toNat := fun v718 v731 k0_hw3 k0_t5 => k0_hw3.2.1 k0_t5
theorem k0_off7_inb : ∀ (v718 : BitVec 32) (v731 : BitVec 32) (k0_hw3 : k0_chk3 v718 v731) (k0_t5 : Fin (k0_t5_loop v718 v731).trips), ∀ a, (k0_off7 v718 v731 k0_t5) a + S2048.size a ≤ S264192.size a := fun v718 v731 k0_hw3 k0_t5 => k0_hw3.2.2.1 k0_t5
theorem k0_t7_ok : ∀ (v718 : BitVec 32) (v731 : BitVec 32) (k0_hw3 : k0_chk3 v718 v731), (k0_t7_loop v718 v731).OK := fun v718 v731 k0_hw3 => k0_hw3.2.2.2.1
theorem k0_mult5_dvd : ∀ (v718 : BitVec 32) (v731 : BitVec 32) (k0_hw3 : k0_chk3 v718 v731) (k0_t7 : Fin (k0_t7_loop v718 v731).trips), 16 ∣ (k0_mult5 v718 v731 k0_t7).toNat := fun v718 v731 k0_hw3 k0_t7 => k0_hw3.2.2.2.2.1 k0_t7
theorem k0_off9_inb : ∀ (v718 : BitVec 32) (v731 : BitVec 32) (k0_hw3 : k0_chk3 v718 v731) (k0_t7 : Fin (k0_t7_loop v718 v731).trips), ∀ a, (k0_off9 v718 v731 k0_t7) a + S2048.size a ≤ S264192.size a := fun v718 v731 k0_hw3 k0_t7 => k0_hw3.2.2.2.2.2.1 k0_t7
theorem k0_t9_ok : ∀ (v718 : BitVec 32) (v731 : BitVec 32) (k0_hw3 : k0_chk3 v718 v731), (k0_t9_loop v718 v731).OK := fun v718 v731 k0_hw3 => k0_hw3.2.2.2.2.2.2.1
theorem k0_mult6_dvd : ∀ (v718 : BitVec 32) (v731 : BitVec 32) (k0_hw3 : k0_chk3 v718 v731) (k0_t9 : Fin (k0_t9_loop v718 v731).trips), 16 ∣ (k0_mult6 v718 v731 k0_t9).toNat := fun v718 v731 k0_hw3 k0_t9 => k0_hw3.2.2.2.2.2.2.2.1 k0_t9
theorem k0_off12_inb : ∀ (v718 : BitVec 32) (v731 : BitVec 32) (k0_hw3 : k0_chk3 v718 v731) (k0_t9 : Fin (k0_t9_loop v718 v731).trips), ∀ a, (k0_off12 v718 v731 k0_t9) a + S2048.size a ≤ S264192.size a := fun v718 v731 k0_hw3 k0_t9 => k0_hw3.2.2.2.2.2.2.2.2.1 k0_t9
theorem k0_t11_ok : ∀ (v718 : BitVec 32) (v731 : BitVec 32) (k0_hw3 : k0_chk3 v718 v731), (k0_t11_loop v718 v731).OK := fun v718 v731 k0_hw3 => k0_hw3.2.2.2.2.2.2.2.2.2.1
theorem k0_mult7_dvd : ∀ (v718 : BitVec 32) (v731 : BitVec 32) (k0_hw3 : k0_chk3 v718 v731) (k0_t11 : Fin (k0_t11_loop v718 v731).trips), 16 ∣ (k0_mult7 v718 v731 k0_t11).toNat := fun v718 v731 k0_hw3 k0_t11 => k0_hw3.2.2.2.2.2.2.2.2.2.2.1 k0_t11
theorem k0_off14_inb : ∀ (v718 : BitVec 32) (v731 : BitVec 32) (k0_hw3 : k0_chk3 v718 v731) (k0_t11 : Fin (k0_t11_loop v718 v731).trips), ∀ a, (k0_off14 v718 v731 k0_t11) a + S2048.size a ≤ S264192.size a := fun v718 v731 k0_hw3 k0_t11 => k0_hw3.2.2.2.2.2.2.2.2.2.2.2 k0_t11

@[reducible] def k0_t12_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off15 (k0_t12 : Fin k0_t12_loop.trips) : Fin 1 → Nat :=
  let c0_i32_117 : BitVec 32 := 0#32
  let c1_i32_119 : BitVec 32 := 1#32
  let arg18 : BitVec 32 := Scf.iv c0_i32_117 c1_i32_119 k0_t12
  let c16_i32_123 : BitVec 32 := 16#32
  let v790 : BitVec 32 := Scalar.muli arg18 c16_i32_123
  let v791 : Index := Scalar.indexCast v790
  ![v791.toNat]

def k0_chk7 (v796 : IVec S16 32) (v798 : IVec S16 32) : Prop :=
  (∀ a x, ((![v796, v798] : Fin 2 → IVec S16 32) a x).toNat < S16x4096.size a)
theorem k0_idx5_inb : ∀ (v796 : IVec S16 32) (v798 : IVec S16 32) (k0_hw7 : k0_chk7 v796 v798), ∀ a x, ((![v796, v798] : Fin 2 → IVec S16 32) a x).toNat < S16x4096.size a := fun v796 v798 k0_hw7 => k0_hw7
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x256 : Shape := ⟨2, ![4096, 256]⟩
abbrev S262144 : Shape := ⟨1, ![262144]⟩
abbrev S20 : Shape := ⟨1, ![20]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S4096x4096 : Shape := ⟨2, ![4096, 4096]⟩
abbrev S262144x2 : Shape := ⟨2, ![262144, 2]⟩

abbrev nBuf : Space → Nat
  | .hbm => 61
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S20, .f32⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S1, .i32⟩
  | .hbm, ⟨28, _⟩ => ⟨S_, .i32⟩
  | .hbm, ⟨29, _⟩ => ⟨S262144x1, .i32⟩
  | .hbm, ⟨30, _⟩ => ⟨S262144x1, .i1⟩
  | .hbm, ⟨31, _⟩ => ⟨S1x1, .i32⟩
  | .hbm, ⟨32, _⟩ => ⟨S262144x1, .i32⟩
  | .hbm, ⟨33, _⟩ => ⟨S262144x1, .i1⟩
  | .hbm, ⟨34, _⟩ => ⟨S262144x1, .i1⟩
  | .hbm, ⟨35, _⟩ => ⟨S_, .i1⟩
  | .hbm, ⟨36, _⟩ => ⟨S262144, .i1⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S_, .f32⟩
  | .hbm, ⟨42, _⟩ => ⟨S4096x4096, .f32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x1, .i32⟩
  | .hbm, ⟨59, _⟩ => ⟨S262144x2, .i32⟩
  | .hbm, ⟨60, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v5 : Ref sig .tc := ⟨.hbm, 40, rfl⟩
abbrev main_cst : Ref sig .tc := ⟨.hbm, 41, rfl⟩
abbrev main_v6 : Ref sig .tc := ⟨.hbm, 42, rfl⟩
abbrev main_c_3 : Ref sig .tc := ⟨.hbm, 43, rfl⟩
abbrev main_v7 : Ref sig .tc := ⟨.hbm, 44, rfl⟩
abbrev main_v8 : Ref sig .tc := ⟨.hbm, 45, rfl⟩
abbrev main_c_4 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_c_5 : Ref sig .tc := ⟨.hbm, 50, rfl⟩
abbrev main_v12 : Ref sig .tc := ⟨.hbm, 51, rfl⟩
abbrev main_v13 : Ref sig .tc := ⟨.hbm, 52, rfl⟩
abbrev main_c_6 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩

abbrev nD : Nat := 1
abbrev τ : Topo := Topo.v7x

variable {F : FTy → Type} [FloatOps F]
-- ==== Stable.lean ====
abbrev S4096x256 : Shape := ⟨2, ![4096, 256]⟩
abbrev S262144 : Shape := ⟨1, ![262144]⟩
abbrev S20 : Shape := ⟨1, ![20]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S264192 : Shape := ⟨1, ![264192]⟩
abbrev S4096x4096 : Shape := ⟨2, ![4096, 4096]⟩
abbrev S4096 : Shape := ⟨1, ![4096]⟩
abbrev S256 : Shape := ⟨1, ![256]⟩
abbrev S272 : Shape := ⟨1, ![272]⟩
abbrev S16x4096 : Shape := ⟨2, ![16, 4096]⟩
abbrev S2048 : Shape := ⟨1, ![2048]⟩
abbrev S16 : Shape := ⟨1, ![16]⟩
abbrev S1x16 : Shape := ⟨2, ![1, 16]⟩

abbrev nBuf : Table → Nat
  | .hbm => 53
  | .shared => 1
  | .local .scVector .vmem => 7
  | _ => 0

abbrev bufTy : (tb : Table) → Fin (nBuf tb) → BufTy
  | .hbm, ⟨0, _⟩ => ⟨S4096x256, .f32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S20, .f32⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S1, .i32⟩
  | .hbm, ⟨32, _⟩ => ⟨S_, .i32⟩
  | .hbm, ⟨33, _⟩ => ⟨S262144x1, .i32⟩
  | .hbm, ⟨34, _⟩ => ⟨S262144x1, .i1⟩
  | .hbm, ⟨35, _⟩ => ⟨S1x1, .i32⟩
  | .hbm, ⟨36, _⟩ => ⟨S262144x1, .i32⟩
  | .hbm, ⟨37, _⟩ => ⟨S262144x1, .i1⟩
  | .hbm, ⟨38, _⟩ => ⟨S262144x1, .i1⟩
  | .hbm, ⟨39, _⟩ => ⟨S_, .i1⟩
  | .hbm, ⟨40, _⟩ => ⟨S262144, .i1⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144, .i32⟩
  | .hbm, ⟨46, _⟩ => ⟨S262144, .f32⟩
  | .hbm, ⟨47, _⟩ => ⟨S_, .i32⟩
  | .hbm, ⟨48, _⟩ => ⟨S264192, .i32⟩
  | .hbm, ⟨49, _⟩ => ⟨S_, .i32⟩
  | .hbm, ⟨50, _⟩ => ⟨S_, .f32⟩
  | .hbm, ⟨51, _⟩ => ⟨S264192, .f32⟩
  | .hbm, ⟨52, _⟩ => ⟨S4096x4096, .f32⟩
  | .shared, ⟨0, _⟩ => ⟨S4096, .i32⟩
  | .local .scVector .vmem, ⟨0, _⟩ => ⟨S4096, .i32⟩
  | .local .scVector .vmem, ⟨1, _⟩ => ⟨S256, .i32⟩
  | .local .scVector .vmem, ⟨2, _⟩ => ⟨S4096, .i32⟩
  | .local .scVector .vmem, ⟨3, _⟩ => ⟨S272, .i32⟩
  | .local .scVector .vmem, ⟨4, _⟩ => ⟨S16x4096, .f32⟩
  | .local .scVector .vmem, ⟨5, _⟩ => ⟨S2048, .i32⟩
  | .local .scVector .vmem, ⟨6, _⟩ => ⟨S2048, .f32⟩
  | _, _ => ⟨S4096x256, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v8 : Ref sig .tc := ⟨.hbm, 44, rfl⟩
abbrev main_v9_0 : Ref sig .tc := ⟨.hbm, 45, rfl⟩
abbrev main_v9_1 : Ref sig .tc := ⟨.hbm, 46, rfl⟩
abbrev main_c_4 : Ref sig .tc := ⟨.hbm, 47, rfl⟩
abbrev main_v10 : Ref sig .tc := ⟨.hbm, 48, rfl⟩
abbrev main_c_5 : Ref sig .tc := ⟨.hbm, 49, rfl⟩
abbrev main_call3_v0 : Ref sig .tc := ⟨.hbm, 50, rfl⟩
abbrev main_v11 : Ref sig .tc := ⟨.hbm, 51, rfl⟩
abbrev main_v12 : Ref sig .tc := ⟨.hbm, 52, rfl⟩
abbrev main_v10_scv : Ref sig .scVector := ⟨.hbm, 48, rfl⟩
abbrev main_v11_scv : Ref sig .scVector := ⟨.hbm, 51, rfl⟩
abbrev main_v12_scv : Ref sig .scVector := ⟨.hbm, 52, rfl⟩
abbrev cc0_scratch7 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c4_i32 : BitVec 32 := 4#32
  let v20 : BitVec 32 := Scalar.addi c0_i32_1 c4_i32
  let c1_i32_2 : BitVec 32 := 1#32
  ⟨c0_i32_1, v20, c1_i32_2⟩
def k0_off1 (i : grid0.Coords) (k0_t1 : Fin k0_t1_loop.trips) : Fin 1 → Nat :=
  let arg1 : BitVec 32 := BitVec.ofNat 32 (i 1).val
  let c16384_i32 : BitVec 32 := 16384#32
  let v705 : BitVec 32 := Scalar.muli arg1 c16384_i32
  let c0_i32_1 : BitVec 32 := 0#32
  let c1_i32_2 : BitVec 32 := 1#32
  let arg14 : BitVec 32 := Scf.iv c0_i32_1 c1_i32_2 k0_t1
  let c4096_i32_80 : BitVec 32 := 4096#32
  let v706 : BitVec 32 := Scalar.muli arg14 c4096_i32_80
  let v707 : BitVec 32 := Scalar.addi v705 v706
  ![v707.toNat]
@[reducible] def k0_t2_loop : Scf.Loop 32 :=
  let c0_i32_82 : BitVec 32 := 0#32
  let c256_i32_83 : BitVec 32 := 256#32
  let v708 : BitVec 32 := Scalar.addi c0_i32_82 c256_i32_83
  let c1_i32_84 : BitVec 32 := 1#32
  ⟨c0_i32_82, v708, c1_i32_84⟩
def k0_off2 (k0_t2 : Fin k0_t2_loop.trips) : Fin 1 → Nat :=
  let c0_i32_82 : BitVec 32 := 0#32
  let c1_i32_84 : BitVec 32 := 1#32
  let arg16 : BitVec 32 := Scf.iv c0_i32_82 c1_i32_84 k0_t2
  let c16_i32_87 : BitVec 32 := 16#32
  let v710 : BitVec 32 := Scalar.muli arg16 c16_i32_87
  let v711 : Index := Scalar.indexCast v710
  ![v711.toNat]

def k0_chk1 (v714 : IVec S16 32) : Prop :=
  (∀ a x, ((![v714] : Fin 1 → IVec S16 32) a x).toNat < S256.size a)
theorem k0_idx1_inb : ∀ (v714 : IVec S16 32) (k0_hw1 : k0_chk1 v714), ∀ a x, ((![v714] : Fin 1 → IVec S16 32) a x).toNat < S256.size a := fun v714 k0_hw1 => k0_hw1
def k0_off3 (i : grid0.Coords) : Fin 1 → Nat :=
  let arg1 : BitVec 32 := BitVec.ofNat 32 (i 1).val
  let c256_i32 : BitVec 32 := 256#32
  let v22 : BitVec 32 := Scalar.muli arg1 c256_i32
  ![v22.toNat]
@[reducible] def k0_t3_loop : Scf.Loop 32 :=
  let c0_i32_73 : BitVec 32 := 0#32
  let c4096_i32 : BitVec 32 := 4096#32
  let v699 : BitVec 32 := Scalar.addi c0_i32_73 c4096_i32
  let c1_i32_74 : BitVec 32 := 1#32
  ⟨c0_i32_73, v699, c1_i32_74⟩
def k0_off4 (k0_t3 : Fin k0_t3_loop.trips) : Fin 2 → Nat :=
  let c0_i32_73 : BitVec 32 := 0#32
  let c1_i32_74 : BitVec 32 := 1#32
  let arg14 : BitVec 32 := Scf.iv c0_i32_73 c1_i32_74 k0_t3
  let c8_i32_80 : BitVec 32 := 8#32
  let v705 : BitVec 32 := Scalar.shrsi arg14 c8_i32_80
  let v708 : Index := Scalar.indexCast v705
  let c255_i32 : BitVec 32 := 255#32
  let v706 : BitVec 32 := Scalar.andi arg14 c255_i32
  let c16_i32_81 : BitVec 32 := 16#32
  let v707 : BitVec 32 := Scalar.muli v706 c16_i32_81
  let v709 : Index := Scalar.indexCast v707
  ![v708.toNat, v709.toNat]
@[reducible] def k0_t4_loop : Scf.Loop 32 :=
  let c0_i32_77 : BitVec 32 := 0#32
  let c8_i32 : BitVec 32 := 8#32
  let v703 : BitVec 32 := Scalar.addi c0_i32_77 c8_i32
  let c1_i32_78 : BitVec 32 := 1#32
  ⟨c0_i32_77, v703, c1_i32_78⟩
def k0_mult1 (i : grid0.Coords) (k0_t4 : Fin k0_t4_loop.trips) : BitVec 32 :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c4_i32_81 : BitVec 32 := 4#32
  let v707 : BitVec 32 := Scalar.shrsi v706 c4_i32_81
  let c4_i32_82 : BitVec 32 := 4#32
  let v708 : BitVec 32 := Scalar.shli v707 c4_i32_82
  v708
def k0_off5 (i : grid0.Coords) (k0_t4 : Fin k0_t4_loop.trips) : Fin 1 → Nat :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c4_i32_81 : BitVec 32 := 4#32
  let v707 : BitVec 32 := Scalar.shrsi v706 c4_i32_81
  let c4_i32_82 : BitVec 32 := 4#32
  let v708 : BitVec 32 := Scalar.shli v707 c4_i32_82
  let v709 : BitVec 32 := v708
  let v710 : Index := Scalar.indexCast v709
  ![v710.toNat]
def k0_mult2 (i : grid0.Coords) (k0_t4 : Fin k0_t4_loop.trips) : BitVec 32 :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c1_i32_84 : BitVec 32 := 1#32
  let v719 : BitVec 32 := Scalar.addi v706 c1_i32_84
  let c4_i32_85 : BitVec 32 := 4#32
  let v720 : BitVec 32 := Scalar.shrsi v719 c4_i32_85
  let c4_i32_86 : BitVec 32 := 4#32
  let v721 : BitVec 32 := Scalar.shli v720 c4_i32_86
  v721
def k0_off6 (i : grid0.Coords) (k0_t4 : Fin k0_t4_loop.trips) : Fin 1 → Nat :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c8_i32_80 : BitVec 32 := 8#32
  let v705 : BitVec 32 := Scalar.muli v702 c8_i32_80
  let c0_i32_77 : BitVec 32 := 0#32
  let c1_i32_78 : BitVec 32 := 1#32
  let arg14 : BitVec 32 := Scf.iv c0_i32_77 c1_i32_78 k0_t4
  let v706 : BitVec 32 := Scalar.addi v705 arg14
  let c1_i32_84 : BitVec 32 := 1#32
  let v719 : BitVec 32 := Scalar.addi v706 c1_i32_84
  let c4_i32_85 : BitVec 32 := 4#32
  let v720 : BitVec 32 := Scalar.shrsi v719 c4_i32_85
  let c4_i32_86 : BitVec 32 := 4#32
  let v721 : BitVec 32 := Scalar.shli v720 c4_i32_86
  let v722 : BitVec 32 := v721
  let v723 : Index := Scalar.indexCast v722
  ![v723.toNat]
def k0_mult3 (v718 : BitVec 32) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  v733

def k0_chk2 (v718 : BitVec 32) : Prop :=
  (16 ∣ (k0_mult3 v718).toNat)
theorem k0_mult3_dvd : ∀ (v718 : BitVec 32) (k0_hw2 : k0_chk2 v718), 16 ∣ (k0_mult3 v718).toNat := fun v718 k0_hw2 => k0_hw2

@[reducible] def k0_t5_loop (v718 : BitVec 32) (v731 : BitVec 32) : Scf.Loop 32 :=
  let c0_i32_99 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let c1_i32_102 : BitVec 32 := 1#32
  ⟨c0_i32_99, v759, c1_i32_102⟩

def k0_mult4 (v718 : BitVec 32) (v731 : BitVec 32) (k0_t5 : Fin (k0_t5_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let c1_i32_102 : BitVec 32 := 1#32
  let arg16 : BitVec 32 := Scf.iv c0_i32_99 c1_i32_102 k0_t5
  let c2048_i32_115 : BitVec 32 := 2048#32
  let v776 : BitVec 32 := Scalar.muli arg16 c2048_i32_115
  let v777 : BitVec 32 := Scalar.addi v734 v776
  v777
def k0_off7 (v718 : BitVec 32) (v731 : BitVec 32) (k0_t5 : Fin (k0_t5_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let c1_i32_102 : BitVec 32 := 1#32
  let arg16 : BitVec 32 := Scf.iv c0_i32_99 c1_i32_102 k0_t5
  let c2048_i32_115 : BitVec 32 := 2048#32
  let v776 : BitVec 32 := Scalar.muli arg16 c2048_i32_115
  let v777 : BitVec 32 := Scalar.addi v734 v776
  let v778 : BitVec 32 := v777
  ![v778.toNat]
@[reducible] def k0_t6_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off8 (k0_t6 : Fin k0_t6_loop.trips) : Fin 1 → Nat :=
  let c0_i32_117 : BitVec 32 := 0#32
  let c1_i32_119 : BitVec 32 := 1#32
  let arg18 : BitVec 32 := Scf.iv c0_i32_117 c1_i32_119 k0_t6
  let c16_i32_123 : BitVec 32 := 16#32
  let v790 : BitVec 32 := Scalar.muli arg18 c16_i32_123
  let v791 : Index := Scalar.indexCast v790
  ![v791.toNat]

def k0_chk4 (v796 : IVec S16 32) (v798 : IVec S16 32) : Prop :=
  (∀ a x, ((![v796, v798] : Fin 2 → IVec S16 32) a x).toNat < S16x4096.size a)
theorem k0_idx2_inb : ∀ (v796 : IVec S16 32) (v798 : IVec S16 32) (k0_hw4 : k0_chk4 v796 v798), ∀ a x, ((![v796, v798] : Fin 2 → IVec S16 32) a x).toNat < S16x4096.size a := fun v796 v798 k0_hw4 => k0_hw4
@[reducible] def k0_t7_loop (v718 : BitVec 32) (v731 : BitVec 32) : Scf.Loop 32 :=
  let c0_i32_99 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let v756 : BitVec 32 := Scalar.addi c0_i32_99 v755
  let c1_i32_103 : BitVec 32 := 1#32
  ⟨v759, v756, c1_i32_103⟩
def k0_mult5 (v718 : BitVec 32) (v731 : BitVec 32) (k0_t7 : Fin (k0_t7_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let c1_i32_103 : BitVec 32 := 1#32
  let arg16 : BitVec 32 := Scf.iv v759 c1_i32_103 k0_t7
  let c2048_i32_115 : BitVec 32 := 2048#32
  let v776 : BitVec 32 := Scalar.muli arg16 c2048_i32_115
  let v777 : BitVec 32 := Scalar.addi v734 v776
  v777
def k0_off9 (v718 : BitVec 32) (v731 : BitVec 32) (k0_t7 : Fin (k0_t7_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_99 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v755 : BitVec 32 := Scalar.subi v754 c0_i32_99
  let c1_i32_101 : BitVec 32 := 1#32
  let v757 : BitVec 32 := Scalar.divsi v755 c1_i32_101
  let v758 : BitVec 32 := Scalar.muli v757 c1_i32_101
  let v759 : BitVec 32 := Scalar.addi c0_i32_99 v758
  let c1_i32_103 : BitVec 32 := 1#32
  let arg16 : BitVec 32 := Scf.iv v759 c1_i32_103 k0_t7
  let c2048_i32_115 : BitVec 32 := 2048#32
  let v776 : BitVec 32 := Scalar.muli arg16 c2048_i32_115
  let v777 : BitVec 32 := Scalar.addi v734 v776
  let v778 : BitVec 32 := v777
  ![v778.toNat]
@[reducible] def k0_t8_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off10 (k0_t8 : Fin k0_t8_loop.trips) : Fin 1 → Nat :=
  let c0_i32_117 : BitVec 32 := 0#32
  let c1_i32_119 : BitVec 32 := 1#32
  let arg18 : BitVec 32 := Scf.iv c0_i32_117 c1_i32_119 k0_t8
  let c16_i32_123 : BitVec 32 := 16#32
  let v790 : BitVec 32 := Scalar.muli arg18 c16_i32_123
  let v791 : Index := Scalar.indexCast v790
  ![v791.toNat]

def k0_chk5 (v796 : IVec S16 32) (v798 : IVec S16 32) : Prop :=
  (∀ a x, ((![v796, v798] : Fin 2 → IVec S16 32) a x).toNat < S16x4096.size a)
theorem k0_idx3_inb : ∀ (v796 : IVec S16 32) (v798 : IVec S16 32) (k0_hw5 : k0_chk5 v796 v798), ∀ a x, ((![v796, v798] : Fin 2 → IVec S16 32) a x).toNat < S16x4096.size a := fun v796 v798 k0_hw5 => k0_hw5
def k0_off11 (i : grid0.Coords) (k0_t4 : Fin k0_t4_loop.trips) : Fin 2 → Nat :=
  let arg0 : BitVec 32 := BitVec.ofNat 32 (i 0).val
  let c16_i32 : BitVec 32 := 16#32
  let v701 : BitVec 32 := Scalar.muli arg0 c16_i32
  let arg1 : BitVec 32 := BitVec.ofNat 32 (i 1).val
  let v702 : BitVec 32 := Scalar.addi v701 arg1
  let c128_i32 : BitVec 32 := 128#32
  let v762 : BitVec 32 := Scalar.muli v702 c128_i32
  let c0_i32_77 : BitVec 32 := 0#32
  let c1_i32_78 : BitVec 32 := 1#32
  let arg14 : BitVec 32 := Scf.iv c0_i32_77 c1_i32_78 k0_t4
  let c16_i32_104 : BitVec 32 := 16#32
  let v763 : BitVec 32 := Scalar.muli arg14 c16_i32_104
  let v764 : BitVec 32 := Scalar.addi v762 v763
  let c0_i32_105 : BitVec 32 := 0#32
  ![v764.toNat, 0]
@[reducible] def k0_t9_loop (v718 : BitVec 32) (v731 : BitVec 32) : Scf.Loop 32 :=
  let c0_i32_109 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let c1_i32_112 : BitVec 32 := 1#32
  ⟨c0_i32_109, v773, c1_i32_112⟩
def k0_mult6 (v718 : BitVec 32) (v731 : BitVec 32) (k0_t9 : Fin (k0_t9_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let c1_i32_112 : BitVec 32 := 1#32
  let arg16 : BitVec 32 := Scf.iv c0_i32_109 c1_i32_112 k0_t9
  let c2048_i32_115 : BitVec 32 := 2048#32
  let v776 : BitVec 32 := Scalar.muli arg16 c2048_i32_115
  let v777 : BitVec 32 := Scalar.addi v734 v776
  v777
def k0_off12 (v718 : BitVec 32) (v731 : BitVec 32) (k0_t9 : Fin (k0_t9_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let c1_i32_112 : BitVec 32 := 1#32
  let arg16 : BitVec 32 := Scf.iv c0_i32_109 c1_i32_112 k0_t9
  let c2048_i32_115 : BitVec 32 := 2048#32
  let v776 : BitVec 32 := Scalar.muli arg16 c2048_i32_115
  let v777 : BitVec 32 := Scalar.addi v734 v776
  let v778 : BitVec 32 := v777
  ![v778.toNat]
@[reducible] def k0_t10_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off13 (k0_t10 : Fin k0_t10_loop.trips) : Fin 1 → Nat :=
  let c0_i32_117 : BitVec 32 := 0#32
  let c1_i32_119 : BitVec 32 := 1#32
  let arg18 : BitVec 32 := Scf.iv c0_i32_117 c1_i32_119 k0_t10
  let c16_i32_123 : BitVec 32 := 16#32
  let v790 : BitVec 32 := Scalar.muli arg18 c16_i32_123
  let v791 : Index := Scalar.indexCast v790
  ![v791.toNat]

def k0_chk6 (v796 : IVec S16 32) (v798 : IVec S16 32) : Prop :=
  (∀ a x, ((![v796, v798] : Fin 2 → IVec S16 32) a x).toNat < S16x4096.size a)
theorem k0_idx4_inb : ∀ (v796 : IVec S16 32) (v798 : IVec S16 32) (k0_hw6 : k0_chk6 v796 v798), ∀ a x, ((![v796, v798] : Fin 2 → IVec S16 32) a x).toNat < S16x4096.size a := fun v796 v798 k0_hw6 => k0_hw6
@[reducible] def k0_t11_loop (v718 : BitVec 32) (v731 : BitVec 32) : Scf.Loop 32 :=
  let c0_i32_109 : BitVec 32 := 0#32
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let v770 : BitVec 32 := Scalar.addi c0_i32_109 v769
  let c1_i32_113 : BitVec 32 := 1#32
  ⟨v773, v770, c1_i32_113⟩
def k0_mult7 (v718 : BitVec 32) (v731 : BitVec 32) (k0_t11 : Fin (k0_t11_loop v718 v731).trips) : BitVec 32 :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let c1_i32_113 : BitVec 32 := 1#32
  let arg16 : BitVec 32 := Scf.iv v773 c1_i32_113 k0_t11
  let c2048_i32_115 : BitVec 32 := 2048#32
  let v776 : BitVec 32 := Scalar.muli arg16 c2048_i32_115
  let v777 : BitVec 32 := Scalar.addi v734 v776
  v777
def k0_off14 (v718 : BitVec 32) (v731 : BitVec 32) (k0_t11 : Fin (k0_t11_loop v718 v731).trips) : Fin 1 → Nat :=
  let c4_i32_89 : BitVec 32 := 4#32
  let v732 : BitVec 32 := Scalar.shrsi v718 c4_i32_89
  let c4_i32_90 : BitVec 32 := 4#32
  let v733 : BitVec 32 := Scalar.shli v732 c4_i32_90
  let v734 : BitVec 32 := v733
  let c0_i32_109 : BitVec 32 := 0#32
  let v735 : BitVec 32 := Scalar.subi v731 v734
  let c2048_i32 : BitVec 32 := 2048#32
  let v736 : BitVec 32 := Scalar.addi v735 c2048_i32
  let c1_i32_91 : BitVec 32 := 1#32
  let v737 : BitVec 32 := Scalar.subi v736 c1_i32_91
  let c0_i32_93 : BitVec 32 := 0#32
  let v739 : BitVec 1 := Scalar.cmpi .sgt v737 c0_i32_93
  let v740 : BitVec 32 := Scalar.extui v739
  let c0_i32_94 : BitVec 32 := 0#32
  let v741 : BitVec 1 := Scalar.cmpi .slt v737 c0_i32_94
  let v742 : BitVec 32 := Scalar.extui v741
  let v743 : BitVec 32 := Scalar.subi v740 v742
  let c2048_i32_92 : BitVec 32 := 2048#32
  let c0_i32_95 : BitVec 32 := 0#32
  let v744 : BitVec 1 := Scalar.cmpi .sgt c2048_i32_92 c0_i32_95
  let v745 : BitVec 32 := Scalar.extui v744
  let c0_i32_96 : BitVec 32 := 0#32
  let v746 : BitVec 1 := Scalar.cmpi .slt c2048_i32_92 c0_i32_96
  let v747 : BitVec 32 := Scalar.extui v746
  let v748 : BitVec 32 := Scalar.subi v745 v747
  let v749 : BitVec 1 := Scalar.cmpi .ne v743 v748
  let v750 : BitVec 32 := Scalar.remsi v737 c2048_i32_92
  let c0_i32_97 : BitVec 32 := 0#32
  let v751 : BitVec 1 := Scalar.cmpi .ne v750 c0_i32_97
  let v752 : BitVec 1 := Scalar.andi v749 v751
  let v738 : BitVec 32 := Scalar.divsi v737 c2048_i32_92
  let c1_i32_98 : BitVec 32 := 1#32
  let v753 : BitVec 32 := Scalar.subi v738 c1_i32_98
  let v754 : BitVec 32 := Scalar.select v752 v753 v738
  let v769 : BitVec 32 := Scalar.subi v754 c0_i32_109
  let c1_i32_111 : BitVec 32 := 1#32
  let v771 : BitVec 32 := Scalar.divsi v769 c1_i32_111
  let v772 : BitVec 32 := Scalar.muli v771 c1_i32_111
  let v773 : BitVec 32 := Scalar.addi c0_i32_109 v772
  let c1_i32_113 : BitVec 32 := 1#32
  let arg16 : BitVec 32 := Scf.iv v773 c1_i32_113 k0_t11
  let c2048_i32_115 : BitVec 32 := 2048#32
  let v776 : BitVec 32 := Scalar.muli arg16 c2048_i32_115
  let v777 : BitVec 32 := Scalar.addi v734 v776
  let v778 : BitVec 32 := v777
  ![v778.toNat]

def k0_chk3 (v718 : BitVec 32) (v731 : BitVec 32) : Prop :=
  ((k0_t5_loop v718 v731).OK) ∧
  (∀ k0_t5 : Fin (k0_t5_loop v718 v731).trips, 16 ∣ (k0_mult4 v718 v731 k0_t5).toNat) ∧
  (∀ k0_t5 : Fin (k0_t5_loop v718 v731).trips, ∀ a, (k0_off7 v718 v731 k0_t5) a + S2048.size a ≤ S264192.size a) ∧
  ((k0_t7_loop v718 v731).OK) ∧
  (∀ k0_t7 : Fin (k0_t7_loop v718 v731).trips, 16 ∣ (k0_mult5 v718 v731 k0_t7).toNat) ∧
  (∀ k0_t7 : Fin (k0_t7_loop v718 v731).trips, ∀ a, (k0_off9 v718 v731 k0_t7) a + S2048.size a ≤ S264192.size a) ∧
  ((k0_t9_loop v718 v731).OK) ∧
  (∀ k0_t9 : Fin (k0_t9_loop v718 v731).trips, 16 ∣ (k0_mult6 v718 v731 k0_t9).toNat) ∧
  (∀ k0_t9 : Fin (k0_t9_loop v718 v731).trips, ∀ a, (k0_off12 v718 v731 k0_t9) a + S2048.size a ≤ S264192.size a) ∧
  ((k0_t11_loop v718 v731).OK) ∧
  (∀ k0_t11 : Fin (k0_t11_loop v718 v731).trips, 16 ∣ (k0_mult7 v718 v731 k0_t11).toNat) ∧
  (∀ k0_t11 : Fin (k0_t11_loop v718 v731).trips, ∀ a, (k0_off14 v718 v731 k0_t11) a + S2048.size a ≤ S264192.size a)
theorem k0_t5_ok : ∀ (v718 : BitVec 32) (v731 : BitVec 32) (k0_hw3 : k0_chk3 v718 v731), (k0_t5_loop v718 v731).OK := fun v718 v731 k0_hw3 => k0_hw3.1
theorem k0_mult4_dvd : ∀ (v718 : BitVec 32) (v731 : BitVec 32) (k0_hw3 : k0_chk3 v718 v731) (k0_t5 : Fin (k0_t5_loop v718 v731).trips), 16 ∣ (k0_mult4 v718 v731 k0_t5).toNat := fun v718 v731 k0_hw3 k0_t5 => k0_hw3.2.1 k0_t5
theorem k0_off7_inb : ∀ (v718 : BitVec 32) (v731 : BitVec 32) (k0_hw3 : k0_chk3 v718 v731) (k0_t5 : Fin (k0_t5_loop v718 v731).trips), ∀ a, (k0_off7 v718 v731 k0_t5) a + S2048.size a ≤ S264192.size a := fun v718 v731 k0_hw3 k0_t5 => k0_hw3.2.2.1 k0_t5
theorem k0_t7_ok : ∀ (v718 : BitVec 32) (v731 : BitVec 32) (k0_hw3 : k0_chk3 v718 v731), (k0_t7_loop v718 v731).OK := fun v718 v731 k0_hw3 => k0_hw3.2.2.2.1
theorem k0_mult5_dvd : ∀ (v718 : BitVec 32) (v731 : BitVec 32) (k0_hw3 : k0_chk3 v718 v731) (k0_t7 : Fin (k0_t7_loop v718 v731).trips), 16 ∣ (k0_mult5 v718 v731 k0_t7).toNat := fun v718 v731 k0_hw3 k0_t7 => k0_hw3.2.2.2.2.1 k0_t7
theorem k0_off9_inb : ∀ (v718 : BitVec 32) (v731 : BitVec 32) (k0_hw3 : k0_chk3 v718 v731) (k0_t7 : Fin (k0_t7_loop v718 v731).trips), ∀ a, (k0_off9 v718 v731 k0_t7) a + S2048.size a ≤ S264192.size a := fun v718 v731 k0_hw3 k0_t7 => k0_hw3.2.2.2.2.2.1 k0_t7
theorem k0_t9_ok : ∀ (v718 : BitVec 32) (v731 : BitVec 32) (k0_hw3 : k0_chk3 v718 v731), (k0_t9_loop v718 v731).OK := fun v718 v731 k0_hw3 => k0_hw3.2.2.2.2.2.2.1
theorem k0_mult6_dvd : ∀ (v718 : BitVec 32) (v731 : BitVec 32) (k0_hw3 : k0_chk3 v718 v731) (k0_t9 : Fin (k0_t9_loop v718 v731).trips), 16 ∣ (k0_mult6 v718 v731 k0_t9).toNat := fun v718 v731 k0_hw3 k0_t9 => k0_hw3.2.2.2.2.2.2.2.1 k0_t9
theorem k0_off12_inb : ∀ (v718 : BitVec 32) (v731 : BitVec 32) (k0_hw3 : k0_chk3 v718 v731) (k0_t9 : Fin (k0_t9_loop v718 v731).trips), ∀ a, (k0_off12 v718 v731 k0_t9) a + S2048.size a ≤ S264192.size a := fun v718 v731 k0_hw3 k0_t9 => k0_hw3.2.2.2.2.2.2.2.2.1 k0_t9
theorem k0_t11_ok : ∀ (v718 : BitVec 32) (v731 : BitVec 32) (k0_hw3 : k0_chk3 v718 v731), (k0_t11_loop v718 v731).OK := fun v718 v731 k0_hw3 => k0_hw3.2.2.2.2.2.2.2.2.2.1
theorem k0_mult7_dvd : ∀ (v718 : BitVec 32) (v731 : BitVec 32) (k0_hw3 : k0_chk3 v718 v731) (k0_t11 : Fin (k0_t11_loop v718 v731).trips), 16 ∣ (k0_mult7 v718 v731 k0_t11).toNat := fun v718 v731 k0_hw3 k0_t11 => k0_hw3.2.2.2.2.2.2.2.2.2.2.1 k0_t11
theorem k0_off14_inb : ∀ (v718 : BitVec 32) (v731 : BitVec 32) (k0_hw3 : k0_chk3 v718 v731) (k0_t11 : Fin (k0_t11_loop v718 v731).trips), ∀ a, (k0_off14 v718 v731 k0_t11) a + S2048.size a ≤ S264192.size a := fun v718 v731 k0_hw3 k0_t11 => k0_hw3.2.2.2.2.2.2.2.2.2.2.2 k0_t11

@[reducible] def k0_t12_loop : Scf.Loop 32 :=
  let c0_i32_117 : BitVec 32 := 0#32
  let c128_i32_118 : BitVec 32 := 128#32
  let v779 : BitVec 32 := Scalar.addi c0_i32_117 c128_i32_118
  let c1_i32_119 : BitVec 32 := 1#32
  ⟨c0_i32_117, v779, c1_i32_119⟩
def k0_off15 (k0_t12 : Fin k0_t12_loop.trips) : Fin 1 → Nat :=
  let c0_i32_117 : BitVec 32 := 0#32
  let c1_i32_119 : BitVec 32 := 1#32
  let arg18 : BitVec 32 := Scf.iv c0_i32_117 c1_i32_119 k0_t12
  let c16_i32_123 : BitVec 32 := 16#32
  let v790 : BitVec 32 := Scalar.muli arg18 c16_i32_123
  let v791 : Index := Scalar.indexCast v790
  ![v791.toNat]

def k0_chk7 (v796 : IVec S16 32) (v798 : IVec S16 32) : Prop :=
  (∀ a x, ((![v796, v798] : Fin 2 → IVec S16 32) a x).toNat < S16x4096.size a)
theorem k0_idx5_inb : ∀ (v796 : IVec S16 32) (v798 : IVec S16 32) (k0_hw7 : k0_chk7 v796 v798), ∀ a x, ((![v796, v798] : Fin 2 → IVec S16 32) a x).toNat < S16x4096.size a := fun v796 v798 k0_hw7 => k0_hw7
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Spec.lean ====
/-
  What the kernel's tasks compute, as plain functions of the sorted keys and their values: the counts of the keys'
  buckets, a bucket's first position, the block of rows being filled, and the result. Pure mathematics: nothing here
  speaks of the program's memory.
-/
module

public import proofs.«01_k».proof.Defs
public import proofs.«01_k».proof.Proof.Gen.KernelIdeal

@[expose] public section

namespace Cert.Proof.Spec

open Cert.KernelIdeal Idealize.ShloMosaic

/-- The index `p` of a vector of `n` entries. -/
def ix1 {n : ℕ} (p : ℕ) (h : p < n) : (⟨1, ![n]⟩ : Shape).Idx := fun a => ⟨p, by match a with | 0 => exact h⟩

theorem ix1_val {n : ℕ} (p : ℕ) (h : p < n) : ((ix1 p h) 0).val = p := rfl

theorem eq_ix1 {n : ℕ} (i : (⟨1, ![n]⟩ : Shape).Idx) : i = ix1 (i 0).val (i 0).isLt := by
  funext a; match a with | 0 => rfl

theorem ext1 {n : ℕ} {i j : (⟨1, ![n]⟩ : Shape).Idx} (h : (i 0).val = (j 0).val) : i = j := by
  funext a; match a with | 0 => exact Fin.ext h

theorem ext2 {n k : ℕ} {i j : (⟨2, ![n, k]⟩ : Shape).Idx} (h : (i 0).val = (j 0).val) (h' : (i 1).val = (j 1).val) : i = j := by
  funext a; match a with | 0 => exact Fin.ext h | 1 => exact Fin.ext h'

/-- Entry `p` of the padded keys, as a number (0 past the end). -/
def keyAt (kb : S264192.Idx → BitVec 32) (p : ℕ) : ℕ := if h : p < 264192 then (kb (ix1 p h)).toNat else 0

/-- Entry `p` of the padded values (`z` past the end). -/
def valAt {α : Type} (z : α) (vb : S264192.Idx → α) (p : ℕ) : α := if h : p < 264192 then vb (ix1 p h) else z

/-- What the call is given: the first 262144 keys ascend and are below 2 ^ 24. -/
structure Sorted (k : ℕ → ℕ) : Prop where
  mono : ∀ p q, p ≤ q → q < 262144 → k p ≤ k q
  lt : ∀ p, p < 262144 → k p < 16777216

/-- How many of the `n` keys from position `base` lie in bucket `b` (65536 key values wide). -/
def hist (k : ℕ → ℕ) (base b n : ℕ) : ℕ := Nat.count (fun p => k (base + p) / 65536 = b) n

/-- The table all tasks of a SparseCore build together: row `t` of 256 entries the counts of the 16384 keys of chunk `t`. -/
def histBuf (k : ℕ → ℕ) : S4096.Idx → BitVec 32 := fun j =>
  BitVec.ofNat 32 (hist k ((j 0).val / 256 * 16384) ((j 0).val % 256) 16384)

/-- How many keys lie in buckets below `b`: the first position of bucket `b`. -/
def start (k : ℕ → ℕ) (b : ℕ) : ℕ := Nat.count (fun p => k p / 65536 < b) 262144

/-- The table of the buckets' first positions; the last 16 entries hold the number of keys. -/
def startBuf (k : ℕ → ℕ) : S272.Idx → BitVec 32 := fun j => BitVec.ofNat 32 (start k (min (j 0).val 256))

/-- Position `n` writes entry `j` of the block: it is among the positions `[lo, hi)` and its key names that entry. -/
def hit (k : ℕ → ℕ) (lo hi n : ℕ) (j : S16x4096.Idx) : Prop :=
  lo ≤ n ∧ n < hi ∧ (j 0).val = k n / 4096 % 16 ∧ (j 1).val = k n % 4096

instance (k : ℕ → ℕ) (lo hi n : ℕ) (j : S16x4096.Idx) : Decidable (hit k lo hi n j) := by unfold hit; infer_instance

/-- The block after positions `0 … n - 1` have written their values `w`, a later one over an earlier one. -/
def put {α : Type} (k : ℕ → ℕ) (lo hi : ℕ) (w : ℕ → α) (f : S16x4096.Idx → α) : ℕ → S16x4096.Idx → α
  | 0 => f
  | n + 1 => fun j => if hit k lo hi n j then w n else put k lo hi w f n j

/-- The value of the last of the first `n` positions whose key is `t`; `z` where there is none. -/
def lastVal {α : Type} (k : ℕ → ℕ) (v : ℕ → α) (z : α) (t : ℕ) : ℕ → α
  | 0 => z
  | n + 1 => if k n = t then v n else lastVal k v z t n

/-- The result: entry `(s, d)` the value of the last position whose key is `s * 4096 + d`. -/
def outBuf {α : Type} (k : ℕ → ℕ) (v : ℕ → α) (z : α) : S4096x4096.Idx → α := fun j =>
  lastVal k v z ((j 0).val * 4096 + (j 1).val) 262144

end Cert.Proof.Spec
-- ==== Proof.Fold.lean ====
/-
  The indexed stores of a task, as steps of the plain functions of `Spec`: sixteen more keys counted, sixteen more
  positions written into the block of rows.
-/
module

public import proofs.«01_k».proof.Proof.Spec
public import proofs.«01_k».proof.Proof.Gen.KernelIdeal.Skeleton

@[expose] public section

namespace Cert.Proof.Spec

open Cert.KernelIdeal Cert.KernelIdeal.Gen Idealize.ShloMosaic

variable {F : FTy → Type} [FloatOps F]

/-- A fold over the lanes, by the values it goes through. -/
theorem foldl_finRange {α : Type} {n : ℕ} (step : α → Fin n → α) (g : ℕ → α) (hs : ∀ k : Fin n, step (g k.val) k = g (k.val + 1)) :
    (List.finRange n).foldl step (g 0) = g n := by
  induction n generalizing g with
  | zero => rfl
  | succ n ih =>
    rw [List.finRange_succ, List.foldl_cons, List.foldl_map, show step (g 0) 0 = g 1 from hs 0]
    exact ih (fun a k => step a k.succ) (fun m => g (m + 1)) (fun k => hs k.succ)

/-- Lane `k` of a vector of sixteen. -/
abbrev lane (k : Fin 16) : S16.Idx := Shape.ofLane (d := ![16]) k

theorem eq_lane (x : S16.Idx) : x = lane (x 0) := by
  funext a; match a with | 0 => rfl

theorem lane_val (k : Fin 16) : ((lane k) 0).val = k.val := rfl

/-! ## Counting -/

theorem hist_succ (k : ℕ → ℕ) (base b n : ℕ) : hist k base b (n + 1) = hist k base b n + if k (base + n) / 65536 = b then 1 else 0 := by
  unfold hist; rw [Nat.count_succ]

/-- One lane's part of an indexed store. -/
def stepIdx {s : Shape} {e : EltTy} {d : Fin 1 → Nat} (idxs : Fin s.rank → IVec ⟨1, d⟩ 32) (v : Vec F ⟨1, d⟩ e) (mask : IVec ⟨1, d⟩ 1) (add : Bool)
    (h : ∀ a x, (idxs a x).toNat < s.size a) (g : Vec F s e) (l : Fin (d 0)) : Vec F s e :=
  if mask (Shape.ofLane l) = 1 then fun j =>
    if (∀ a, (j a).val = (idxAt idxs h (Shape.ofLane l) a).val) then
      (if add then Elt.idxAdd e (g (idxAt idxs h (Shape.ofLane l))) (v (Shape.ofLane l)) else v (Shape.ofLane l)) else g j
  else g

theorem storeIdx_eq' {s : Shape} {e : EltTy} {d : Fin 1 → Nat} (f : Vec F s e) (idxs : Fin s.rank → IVec ⟨1, d⟩ 32) (v : Vec F ⟨1, d⟩ e) (mask : IVec ⟨1, d⟩ 1) (add : Bool)
    (h : ∀ a x, (idxs a x).toNat < s.size a) :
    storeIdx f idxs v mask add h = (List.finRange (d 0)).foldl (stepIdx idxs v mask add h) f := by
  unfold storeIdx
  congr 1
  funext g l
  unfold stepIdx
  by_cases hm : mask (Shape.ofLane l) = 1
  · simp only [if_pos hm]
    congr!
  · simp only [if_neg hm]

theorem storeIdx_eq {s : Shape} {e : EltTy} (f : Vec F s e) (idxs : Fin s.rank → IVec S16 32) (v : Vec F S16 e) (mask : IVec S16 1) (add : Bool)
    (h : ∀ a x, (idxs a x).toNat < s.size a) :
    storeIdx (d := ![16]) f idxs v mask add h = (List.finRange (![16] (0 : Fin 1))).foldl (stepIdx (d := ![16]) idxs v mask add h) f := storeIdx_eq' _ _ _ _ _ _

/-- Adding one at the bucket of each of sixteen keys counts sixteen more keys. -/
theorem storeIdx_hist (k : ℕ → ℕ) (base n : ℕ) (idx : IVec S16 32) (h : ∀ a x, ((![idx] : Fin 1 → IVec S16 32) a x).toNat < S256.size a)
    (hidx : ∀ x : S16.Idx, (idx x).toNat = k (base + (n + (x 0).val)) / 65536) :
    storeIdx (F := F) (s := S256) (e := .i32) (d := ![16]) (fun j : S256.Idx => BitVec.ofNat 32 (hist k base (j 0).val n)) ![idx] (fun _ => 1#32) (fun _ => 1#1) true h
      = fun j : S256.Idx => BitVec.ofNat 32 (hist k base (j 0).val (n + 16)) := by
  refine (storeIdx_eq _ _ _ _ _ _).trans (foldl_finRange (n := ![16] (0 : Fin 1)) _ (fun m => fun j : S256.Idx => BitVec.ofNat 32 (hist k base (j 0).val (n + m))) ?_)
  intro l
  funext j
  have hl : (idx (lane l)).toNat = k (base + (n + l.val)) / 65536 := hidx (lane l)
  have hj : (∀ a : Fin 1, (j a).val = ((![idx] : Fin 1 → IVec S16 32) a (lane l)).toNat) ↔ k (base + (n + l.val)) / 65536 = (j 0).val := by
    constructor
    · intro e; exact (hl.symm.trans (e 0).symm)
    · intro e a; match a with | 0 => exact (hl.trans e).symm
  refine (congrFun (if_pos rfl) j).trans ?_
  by_cases hc : k (base + (n + l.val)) / 65536 = (j 0).val
  · refine (if_pos (hj.mpr hc)).trans ?_
    have hi : ((idxAt (s := S256) ![idx] h (lane l)) 0).val = (j 0).val := ((hj.mpr hc) 0).symm
    show BitVec.ofNat 32 (hist k base ((idxAt (s := S256) ![idx] h (lane l)) 0).val (n + l.val)) + 1#32 = BitVec.ofNat 32 (hist k base (j 0).val ((n + l.val) + 1))
    rw [hi, hist_succ, if_pos hc, BitVec.ofNat_add]
  · refine (if_neg (fun e => hc (hj.mp e))).trans ?_
    show BitVec.ofNat 32 (hist k base (j 0).val (n + l.val)) = BitVec.ofNat 32 (hist k base (j 0).val ((n + l.val) + 1))
    rw [hist_succ, if_neg hc, Nat.add_zero]

/-! ## The block of rows -/

section Put

variable {α : Type} (k : ℕ → ℕ) (lo hi : ℕ) (w : ℕ → α) (f : S16x4096.Idx → α)

theorem put_succ (n : ℕ) : put k lo hi w f (n + 1) = fun j => if hit k lo hi n j then w n else put k lo hi w f n j := rfl

theorem put_succ_of (n : ℕ) (j : S16x4096.Idx) (h : hit k lo hi n j) : put k lo hi w f (n + 1) j = w n := if_pos h
theorem put_succ_not (n : ℕ) (j : S16x4096.Idx) (h : ¬ hit k lo hi n j) : put k lo hi w f (n + 1) j = put k lo hi w f n j := if_neg h

/-- Nothing is written below the first position. -/
theorem put_below (n : ℕ) (h : n ≤ lo) : put k lo hi w f n = f := by
  induction n with
  | zero => rfl
  | succ n ih =>
    funext j
    rw [put_succ_not _ _ _ _ _ _ _ (fun hh => by have := hh.1; omega), ih (by omega)]

/-- Nor from the last on. -/
theorem put_above (n : ℕ) (h : hi ≤ n) : put k lo hi w f n = put k lo hi w f hi := by
  induction n with
  | zero => obtain rfl : hi = 0 := by omega
            rfl
  | succ n ih =>
    rcases Nat.lt_or_ge n hi with h' | h'
    · obtain rfl : hi = n + 1 := by omega
      rfl
    · funext j
      rw [put_succ_not _ _ _ _ _ _ _ (fun hh => by have := hh.2.1; omega), ih h']

/-- An entry no position writes keeps its value. -/
theorem put_unhit (n : ℕ) (j : S16x4096.Idx) (h : ∀ m, m < n → ¬ hit k lo hi m j) : put k lo hi w f n j = f j := by
  induction n with
  | zero => rfl
  | succ n ih => rw [put_succ_not _ _ _ _ _ _ _ (h n (Nat.lt_succ_self n)), ih fun m hm => h m (Nat.lt_succ_of_lt hm)]

/-- Writing one value only. -/
theorem put_const (z : α) (n : ℕ) (j : S16x4096.Idx) (h : (∀ m, m < n → ¬ hit k lo hi m j) → f j = z) : put k lo hi (fun _ => z) f n j = z := by
  induction n with
  | zero => exact h fun m hm => absurd hm (Nat.not_lt_zero m)
  | succ n ih =>
    by_cases hn : hit k lo hi n j
    · exact put_succ_of _ _ _ _ _ _ _ hn
    · rw [put_succ_not _ _ _ _ _ _ _ hn]
      refine ih fun hm => h fun m hm' => ?_
      rcases Nat.lt_succ_iff_lt_or_eq.mp hm' with h' | rfl
      · exact hm m h'
      · exact hn

/-- Overwriting by zero what was written over zero leaves zero. -/
theorem put_put (z : α) (n : ℕ) : put k lo hi (fun _ => z) (put k lo hi w (fun _ => z) n) n = fun _ => z :=
  funext fun j => put_const k lo hi _ z n j fun h => put_unhit k lo hi w _ n j h

theorem put_congr (w' : ℕ → α) (n : ℕ) (h : ∀ m, lo ≤ m → m < hi → w m = w' m) : put k lo hi w f n = put k lo hi w' f n := by
  induction n with
  | zero => rfl
  | succ n ih =>
    funext j
    by_cases hn : hit k lo hi n j
    · rw [put_succ_of _ _ _ _ _ _ _ hn, put_succ_of _ _ _ _ _ _ _ hn, h n hn.1 hn.2.1]
    · rw [put_succ_not _ _ _ _ _ _ _ hn, put_succ_not _ _ _ _ _ _ _ hn, ih]

end Put

section StorePut

variable {e : EltTy} (k : ℕ → ℕ) (lo hi : ℕ) (w : ℕ → Elt F e) (f : Vec F S16x4096 e) (n : ℕ)
  (ri ci : IVec S16 32) (v : Vec F S16 e) (live last : IVec S16 1)
  (h : ∀ a x, ((![ri, ci] : Fin 2 → IVec S16 32) a x).toNat < S16x4096.size a)
  (hr : ∀ x : S16.Idx, (ri x).toNat = k (n + (x 0).val) / 4096 % 16) (hc : ∀ x : S16.Idx, (ci x).toNat = k (n + (x 0).val) % 4096)
  (hlive : ∀ x : S16.Idx, live x = 1 ↔ (lo ≤ n + (x 0).val ∧ n + (x 0).val < hi))
  (hv : ∀ x : S16.Idx, lo ≤ n + (x 0).val → n + (x 0).val < hi → v x = w (n + (x 0).val))

include hr hc in
theorem idx_iff (l : Fin 16) (j : S16x4096.Idx) :
    (∀ a : Fin 2, (j a).val = ((![ri, ci] : Fin 2 → IVec S16 32) a (lane l)).toNat) ↔ ((j 0).val = k (n + l.val) / 4096 % 16 ∧ (j 1).val = k (n + l.val) % 4096) := by
  have h0 : (ri (lane l)).toNat = k (n + l.val) / 4096 % 16 := hr (lane l)
  have h1 : (ci (lane l)).toNat = k (n + l.val) % 4096 := hc (lane l)
  constructor
  · intro e; exact ⟨(e 0).trans h0, (e 1).trans h1⟩
  · rintro ⟨e0, e1⟩ a
    match a with
    | 0 => exact e0.trans h0.symm
    | 1 => exact e1.trans h1.symm

include hr hc hlive hv in
/-- Storing sixteen positions' values, those in range, writes them. -/
theorem storeIdx_put :
    storeIdx (d := ![16]) (put k lo hi w f n) ![ri, ci] v live false h = put k lo hi w f (n + 16) := by
  refine (storeIdx_eq (s := S16x4096) _ _ _ _ _ _).trans (foldl_finRange (n := ![16] (0 : Fin 1)) _ (fun m => put k lo hi w f (n + m)) ?_)
  intro l
  funext j
  show stepIdx (s := S16x4096) (d := ![16]) ![ri, ci] v live false h (put k lo hi w f (n + l.val)) l j = put k lo hi w f ((n + l.val) + 1) j
  have hi' := idx_iff k n ri ci hr hc l j
  have hl : live (lane l) = 1 ↔ (lo ≤ n + l.val ∧ n + l.val < hi) := hlive (lane l)
  by_cases hlv : live (lane l) = 1
  · refine (congrFun (if_pos hlv) j).trans ?_
    by_cases hj : ((j 0).val = k (n + l.val) / 4096 % 16 ∧ (j 1).val = k (n + l.val) % 4096)
    · refine (if_pos (hi'.mpr hj)).trans ?_
      rw [put_succ_of _ _ _ _ _ _ _ ⟨(hl.mp hlv).1, (hl.mp hlv).2, hj⟩]
      exact hv (lane l) (hl.mp hlv).1 (hl.mp hlv).2
    · refine (if_neg (fun e => hj (hi'.mp e))).trans ?_
      rw [put_succ_not _ _ _ _ _ _ _ fun hh => hj hh.2.2]
  · refine (congrFun (if_neg hlv) j).trans ?_
    rw [put_succ_not _ _ _ _ _ _ _ fun hh => hlv (hl.mpr ⟨hh.1, hh.2.1⟩)]

include hr hc hlive hv in
/-- The same where of the lanes with equal keys only the last stores: the keys in range agree above their low 16 bits. -/
theorem storeIdx_put_last (b : ℕ) (hb : ∀ m, lo ≤ m → m < hi → k m / 65536 = b)
    (hlast : ∀ l : Fin 16, last (lane l) = 1 ↔ (live (lane l) = 1 ∧ ∀ l' : Fin 16, l.val < l'.val → live (lane l') = 1 → k (n + l'.val) ≠ k (n + l.val))) :
    storeIdx (d := ![16]) (put k lo hi w f n) ![ri, ci] v last false h = put k lo hi w f (n + 16) := by
  -- before lane `m`: an entry some lane from `m` on is to write is untouched
  let g : ℕ → Vec F S16x4096 e := fun m j =>
    if ∃ l : Fin 16, m ≤ l.val ∧ hit k lo hi (n + l.val) j then put k lo hi w f n j else put k lo hi w f (n + m) j
  have h0 : put k lo hi w f n = g 0 := funext fun j => by
    show _ = if _ then _ else _
    split <;> rfl
  have h16 : g 16 = put k lo hi w f (n + 16) := funext fun j => if_neg fun ⟨l, hl, _⟩ => by have := l.isLt; omega
  refine (storeIdx_eq (s := S16x4096) _ _ _ _ _ _).trans ?_
  rw [h0, ← h16]
  refine foldl_finRange (n := ![16] (0 : Fin 1)) _ g ?_
  intro l
  funext j
  have hi' := idx_iff k n ri ci hr hc l j
  have hl : live (lane l) = 1 ↔ (lo ≤ n + l.val ∧ n + l.val < hi) := hlive (lane l)
  -- a lane's hit is that it is live and names the entry
  by_cases hex : ∃ l' : Fin 16, l.val + 1 ≤ l'.val ∧ hit k lo hi (n + l'.val) j
  · -- a later lane writes `j`: this one does not
    have hg : g l.val j = g (l.val + 1) j := by
      show (if _ then _ else _) = if _ then _ else _
      rw [if_pos hex, if_pos (by obtain ⟨l', h1, h2⟩ := hex; exact ⟨l', by omega, h2⟩)]
    rw [← hg]
    by_cases hls : last (lane l) = 1
    · refine (congrFun (if_pos hls) j).trans (if_neg fun e => ?_)
      obtain ⟨l', h1, h2⟩ := hex
      have hj := hi'.mp e
      have hlv := hl.mp ((hlast l).mp hls).1
      have hne := ((hlast l).mp hls).2 l' (by omega) ((hlive (lane l')).mpr ⟨h2.1, h2.2.1⟩)
      apply hne
      have e1 := hb _ h2.1 h2.2.1
      have e2 := hb _ hlv.1 hlv.2
      have e3 := h2.2.2
      have := hj.1; have := hj.2; have := e3.1; have := e3.2
      omega
    · exact congrFun (if_neg hls) j
  · have hg1 : g (l.val + 1) j = put k lo hi w f ((n + l.val) + 1) j := if_neg hex
    by_cases hh : hit k lo hi (n + l.val) j
    · have hls : last (lane l) = 1 := (hlast l).mpr ⟨hl.mpr ⟨hh.1, hh.2.1⟩, fun l' hl' hlv he => hex ⟨l', hl', by
        have := (hlive (lane l')).mp hlv
        exact ⟨this.1, this.2, by rw [he]; exact hh.2.2⟩⟩⟩
      rw [hg1, put_succ_of _ _ _ _ _ _ _ hh]
      refine (congrFun (if_pos hls) j).trans ((if_pos (hi'.mpr hh.2.2)).trans ?_)
      exact hv (lane l) hh.1 hh.2.1
    · have hg0 : g l.val j = put k lo hi w f (n + l.val) j := if_neg fun ⟨l', h1, h2⟩ => by
        rcases Nat.eq_or_lt_of_le h1 with h3 | h3
        · rw [← h3] at h2; exact hh h2
        · exact hex ⟨l', h3, h2⟩
      rw [hg1, put_succ_not _ _ _ _ _ _ _ hh, ← hg0]
      by_cases hls : last (lane l) = 1
      · refine (congrFun (if_pos hls) j).trans (if_neg fun e => hh ?_)
        have := hl.mp ((hlast l).mp hls).1
        exact ⟨this.1, this.2, hi'.mp e⟩
      · exact congrFun (if_neg hls) j

end StorePut

end Cert.Proof.Spec
-- ==== Proof.Table.lean ====
/-
  The table of the buckets' first positions: the sixteen rows of counts added up, their running sums, and the stores
  that fill the table sixteen entries at a time.
-/
module

public import proofs.«01_k».proof.Proof.Fold
public import proofs.«01_k».proof.Proof.Gen.KernelIdeal.Skeleton

@[expose] public section

namespace Cert.Proof.Spec

open Cert.KernelIdeal Cert.KernelIdeal.Gen Idealize.ShloMosaic

variable (k : ℕ → ℕ)

/-- Row `t` of the counts, at the sixteen buckets of group `g`. -/
def tv (t g : ℕ) : S16.Idx → BitVec 32 := fun x => BitVec.ofNat 32 (hist k (t * 16384) (16 * g + (x 0).val) 16384)

/-- The first `n` rows added up. -/
def cum (g n : ℕ) : S16.Idx → BitVec 32 := fun x => BitVec.ofNat 32 (hist k 0 (16 * g + (x 0).val) (16384 * n))

/-- The first position of group `g`. -/
def rn (g : ℕ) : BitVec 32 := BitVec.ofNat 32 (start k (16 * g))

/-- The first positions of group `g`'s buckets. -/
def strt (g : ℕ) : S16.Idx → BitVec 32 := fun x => BitVec.ofNat 32 (start k (min (16 * g + (x 0).val) 256))

/-- The table with its first `g` groups filled. -/
def stG (g : ℕ) (f : S272.Idx → BitVec 32) : S272.Idx → BitVec 32 := fun j => if (j 0).val < 16 * g then startBuf k j else f j

theorem hist_add (base b n m : ℕ) : hist k base b (n + m) = hist k base b n + hist k (base + n) b m := by
  unfold hist
  rw [Nat.count_add]
  congr 1
  simp only [Nat.add_assoc]

theorem start_succ (b : ℕ) : start k (b + 1) = start k b + hist k 0 b 262144 := by
  unfold start hist
  generalize 262144 = N
  induction N with
  | zero => rfl
  | succ n ih =>
    rw [Nat.count_succ, Nat.count_succ, Nat.count_succ, ih, Nat.zero_add]
    split_ifs <;> omega

theorem start_zero : start k 0 = 0 := by
  unfold start
  generalize 262144 = N
  induction N with
  | zero => rfl
  | succ n ih => rw [Nat.count_succ, ih, if_neg (by omega)]

theorem start_add (b n : ℕ) : start k (b + n) = start k b + ∑ i ∈ Finset.range n, hist k 0 (b + i) 262144 := by
  induction n with
  | zero => rw [Finset.sum_range_zero, Nat.add_zero, Nat.add_zero]
  | succ n ih => rw [← Nat.add_assoc, start_succ, ih, Finset.sum_range_succ, Nat.add_assoc]

theorem cum_zero (g : ℕ) : cum k g 0 = k0_pay15 := rfl

theorem cum_add (g n : ℕ) : addi (cum k g n) (tv k n g) = cum k g (n + 1) := by
  funext x
  show BitVec.ofNat 32 _ + BitVec.ofNat 32 _ = BitVec.ofNat 32 _
  rw [← BitVec.ofNat_add, show 16384 * (n + 1) = 16384 * n + 16384 by ring, hist_add, Nat.zero_add, Nat.mul_comm 16384 n]

theorem read_row (o : ℕ) (inb : ∀ a, (![o] : Fin 1 → ℕ) a + S16.size a ≤ S4096.size a) (t g : ℕ) (ho : o = 256 * t + 16 * g) (hg : g < 16) :
    (fun x => histBuf k ((Rect.unit (s := S4096) ![o] S16.size inb).emb x)) = tv k t g := by
  funext x
  have hx : (x 0).val < 16 := (x 0).isLt
  have h : ((Rect.unit (s := S4096) ![o] S16.size inb).emb x 0).val = 256 * t + 16 * g + (x 0).val := by
    rw [Rect.emb_apply]
    show o + 1 * (x 0).val = _
    omega
  unfold histBuf tv
  rw [h, show (256 * t + 16 * g + (x 0).val) / 256 = t by omega, show (256 * t + 16 * g + (x 0).val) % 256 = 16 * g + (x 0).val by omega]

/-- Running sums. -/
theorem scan_sum (v : IVec S16 32) (w : ℕ → ℕ) (hv : ∀ x : S16.Idx, v x = BitVec.ofNat 32 (w (x 0).val)) (x : S16.Idx) :
    scan .sum v x = BitVec.ofNat 32 (∑ i ∈ Finset.range ((x 0).val + 1), w i) := by
  unfold scan
  rw [List.foldl_filter]
  have hx : (x 0).val < 16 := (x 0).isLt
  refine Eq.trans (congrArg (fun a => List.foldl _ a (List.finRange 16)) (?_ : v (lane 0) = BitVec.ofNat 32 (w 0 + ∑ m ∈ Finset.range 0, if 0 < m ∧ m ≤ (x 0).val then w m else 0)))
    (Eq.trans (foldl_finRange (n := 16) _ (fun n => BitVec.ofNat 32 (w 0 + ∑ m ∈ Finset.range n, if 0 < m ∧ m ≤ (x 0).val then w m else 0)) ?_) ?_)
  · exact hv _
  · intro m
    dsimp only
    rw [Finset.sum_range_succ]
    by_cases h : 0 < m.val ∧ m.val ≤ (x 0).val
    · rw [if_pos (decide_eq_true h), if_pos h, ← Nat.add_assoc]
      show _ + v (lane m) = _
      rw [hv]
      exact (BitVec.ofNat_add _ _).symm
    · rw [if_neg (by simpa using h), if_neg h]; rfl
  · refine congrArg (BitVec.ofNat 32) ?_
    generalize (x 0).val = j at hx ⊢
    rw [Finset.sum_range_succ' w j, Nat.add_comm, Finset.sum_range_succ' _ 15, if_neg (by omega), Nat.add_zero, ← Finset.sum_filter]
    refine congrArg (· + w 0) ?_
    refine Finset.sum_congr (Finset.ext fun m => ?_) fun _ _ => rfl
    rw [Finset.mem_filter, Finset.mem_range, Finset.mem_range]
    omega

theorem cum_succ (g n : ℕ) : cum k g (n + 1) = addi (cum k g n) (tv k n g) := (cum_add k g n).symm

theorem rn_zero : rn k 0 = 0#32 := by unfold rn; rw [Nat.mul_zero, start_zero]

theorem store_group (g : ℕ) (hg : g < 16) :
    addi (subi (scan .sum (cum k g 16)) (cum k g 16)) (broadcast S16 (rn k g)) = strt k g := by
  funext x
  have hx : (x 0).val < 16 := (x 0).isLt
  show scan .sum (cum k g 16) x - cum k g 16 x + rn k g = _
  rw [scan_sum (cum k g 16) (fun i => hist k 0 (16 * g + i) 262144) (fun _ => rfl), Finset.sum_range_succ, BitVec.ofNat_add]
  show _ + BitVec.ofNat 32 (hist k 0 (16 * g + (x 0).val) 262144) - BitVec.ofNat 32 (hist k 0 (16 * g + (x 0).val) 262144) + _ = _
  rw [BitVec.add_sub_cancel]
  unfold rn strt
  rw [min_eq_left (by omega), start_add, Nat.add_comm (start k (16 * g)), BitVec.ofNat_add]

theorem run_next (g : ℕ) (h : ∀ a, (![15] : Fin 1 → ℕ) a < S16.size a) :
    Scalar.addi (rn k g) (extractAt ![15] (scan .sum (cum k g 16)) h) = rn k (g + 1) := by
  show rn k g + scan .sum (cum k g 16) _ = _
  rw [scan_sum (cum k g 16) (fun i => hist k 0 (16 * g + i) 262144) (fun _ => rfl)]
  unfold rn
  rw [← BitVec.ofNat_add, show 16 * (g + 1) = 16 * g + 16 by ring, start_add k (16 * g) 16]
  rfl

theorem store_last : addi (fun _ => 0#32) (broadcast S16 (rn k 16)) = strt k 16 := by
  funext x
  show 0#32 + rn k 16 = _
  unfold rn strt
  rw [min_eq_right (by omega), BitVec.zero_add]

theorem stG_all (f : S272.Idx → BitVec 32) : stG k 17 f = startBuf k := by
  funext j
  exact if_pos (j 0).isLt

theorem stG_succ (g : ℕ) (f f' : S272.Idx → BitVec 32) (h : ∀ j : S272.Idx, 16 * g ≤ (j 0).val → (h' : (j 0).val < 16 * g + 16) →
    f' j = strt k g (ix1 ((j 0).val - 16 * g) (by omega))) (hm : ∀ j : S272.Idx, (j 0).val < 16 * g ∨ 16 * g + 16 ≤ (j 0).val → f' j = stG k g f j) :
    f' = stG k (g + 1) f := by
  funext j
  by_cases h1 : (j 0).val < 16 * g
  · rw [hm j (.inl h1)]; unfold stG; rw [if_pos h1, if_pos (by omega)]
  · by_cases h2 : (j 0).val < 16 * g + 16
    · rw [h j (by omega) h2]
      unfold stG strt startBuf
      rw [if_pos (by omega), ix1_val, show 16 * g + ((j 0).val - 16 * g) = (j 0).val by omega]
    · rw [hm j (.inr (by omega))]; unfold stG; rw [if_neg h1, if_neg (by omega)]

end Cert.Proof.Spec
-- ==== Proof.Setup.lean ====
/-
  The SparseCore call as the launch theorem sees it: the algebra, the barrier's cells and what they hand over, the shares
  and pieces of the buffers each task works on, and the record of what the launch's handshakes carry. All of it is over
  the keys `kb` and values `vb` the call reads and the contents `ob` its result buffer holds before it, one per device.

  Every task reads all keys and values (read shares of the two buffers) and writes 128 rows of the result, 16 at a time.
  The tasks of a SparseCore share one table of counts: each writes its row of it, and at the barrier hands every task of
  its SparseCore (itself included) a read share of that row, with the counts it holds.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Spec

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

/-- The algebra every assertion of the certificate is over. -/
abbrev 𝕄 (F : FTy → Type) : Type := MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (𝕄 F)).LandsIn (upEmb : UEmb _ (𝕄 F)) := by unfold EB; infer_instance

/-! ## The buffers -/

abbrev kLoc (d : Dev nD) : Loc nD τ sig := (SparseCore.T d).loc main_v10
abbrev vLoc (d : Dev nD) : Loc nD τ sig := (SparseCore.T d).loc main_v11
abbrev oLoc (d : Dev nD) : Loc nD τ sig := (SparseCore.T d).loc main_v12
/-- SparseCore `c`'s shared table of counts, as every tile of it addresses it. -/
abbrev shRef (c : Fin τ.nSC) : DevRef τ sig := ⟨.shared, ⟨0, by decide⟩, c⟩
abbrev shLoc (d : Dev nD) (c : Fin τ.nSC) : Loc nD τ sig := (d, shRef c)

theorem shdiv : 16 ∣ S4096.size 0 := ⟨256, rfl⟩
abbrev shRow (i : Fin 16) : Rect S4096 := Rect.part (s := S4096) (a₀ := 0) shdiv i
/-- Task `i`'s row of the shared table. -/
abbrev shSet (i : Fin 16) : Finset S4096.Idx := (shRow i).set

theorem odiv : 256 ∣ S4096x4096.size 0 := ⟨16, rfl⟩
/-- A block of 16 rows of the result: a SparseCore, a task of it, a trip of the task. -/
abbrev OIx : Type := Fin 2 × Fin 16 × Fin 8
def oNum (x : OIx) : Fin 256 := ⟨(x.1.val * 16 + x.2.1.val) * 8 + x.2.2.val, by have := x.1.isLt; have := x.2.1.isLt; have := x.2.2.isLt; omega⟩
abbrev oRect (x : OIx) : Rect S4096x4096 := Rect.part (s := S4096x4096) (a₀ := 0) odiv (oNum x)
abbrev oSet (x : OIx) : Finset S4096x4096.Idx := (oRect x).set

theorem nSub_eq : τ.nSub = 16 := rfl
theorem nSC_eq : τ.nSC = 2 := rfl

/-- The keys of device `d`, by position. -/
abbrev kn (kb : (d : Dev nD) → Buf (Elt F) (kLoc d)) (d : Dev nD) : ℕ → ℕ := keyAt (kb d)
/-- The table of counts of device `d`'s keys. -/
abbrev hb (kb : (d : Dev nD) → Buf (Elt F) (kLoc d)) (d : Dev nD) (c : Fin τ.nSC) : Buf (Elt F) (shLoc d c) := histBuf (kn kb d)

variable [FloatOps F]

/-- The zero the kernel writes. -/
abbrev fz : F .f32 := Scalar.ofBits .f32 0#32

/-- What device `d`'s call leaves in its result buffer. -/
abbrev out (kb : (d : Dev nD) → Buf (Elt F) (kLoc d)) (vb : (d : Dev nD) → Buf (Elt F) (vLoc d)) (d : Dev nD) : Buf (Elt F) (oLoc d) :=
  outBuf (kn kb d) (valAt (α := F .f32) fz (vb d)) fz

variable (kb : (d : Dev nD) → Buf (Elt F) (kLoc d)) (vb : (d : Dev nD) → Buf (Elt F) (vLoc d)) (ob : (d : Dev nD) → Buf (Elt F) (oLoc d))

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of a row of the shared table. -/
abbrev shq (j : Fin 16) : PosShare TreeShare := shareTok fullShare 16 j
/-- What a row's writer keeps of it. -/
abbrev shd : PosShare TreeShare := shareDrop fullShare 16

/-- What task `n`'s arrival in tile `j`'s round hands over: `j`'s read share of `n`'s row of the table, with the counts. -/
def bPay (g : GSem nD τ sig) (n : ℕ) : sProp (𝕄 F) :=
  match g with
  | ((d, .scVector c j), _) => if h : n < 16 then iprop(shLoc d c ↦[shSet ⟨n, h⟩]{shq (Fin.cast nSub_eq j)} hb kb d c) else iprop(emp)
  | _ => iprop(emp)

/-- The barrier cells' schedule: one round on each, one unit duty per tile of the SparseCore. -/
def bRd : Rounds.Schedule (GSem nD τ sig) ℕ (𝕄 F) where
  duties g r := if isBar g ∧ r = 0 then (Finset.univ : Finset (Fin τ.nSub)).image Fin.val else ∅
  amount _ _ _ := 1
  payload g _ n := bPay kb g n
  amount_pos _ _ _ _ := Nat.one_pos

instance bRd_payload_storable (g : GSem nD τ sig) (r n : ℕ) : BI.Storable (upEmb : UEmb _ (𝕄 F)) ((bRd kb).payload g r n) := by
  show BI.Storable upEmb (bPay kb g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp (𝕄 F)) := bigSep_emp_const s

omit [FloatOps F] in
theorem bRd_duties₀ (d : Dev nD) (c : Fin τ.nSC) (j : Fin τ.nSub) : (bRd kb).duties (bcell d c j) 0 = (Finset.univ : Finset (Fin τ.nSub)).image Fin.val := by
  simp [bRd, isBar]
omit [FloatOps F] in
theorem bRd_duties_succ (g : GSem nD τ sig) (r : ℕ) (hr : 1 ≤ r) : (bRd kb).duties g r = ∅ :=
  if_neg fun h => absurd h.2 (Nat.ne_of_gt hr)
omit [FloatOps F] in
theorem bRd_mem₀ (d : Dev nD) (c : Fin τ.nSC) (j i : Fin τ.nSub) : i.val ∈ (bRd kb).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd kb).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a task owes for the barrier: a unit on every tile's cell of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: the cell invariants of its SparseCore's tiles, its duty tokens in their rounds, that each
    has reached round 0, its own position, and the credit for its own round. -/
def bkit (d : Dev nD) (c : Fin τ.nSC) (i : Fin τ.nSub) : sProp (𝕄 F) :=
  iprop((∃ κ : GSem nD τ sig → ℕ, bigSep Finset.univ fun j : Fin (grid0.bound 1) =>
      cellInv EB (bRd kb) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- SparseCore `c`'s read share of the keys and of the values, and a task's. -/
abbrev cq (c : Fin 2) : PosShare TreeShare := shareTok fullShare 2 c
abbrev tq (c : Fin 2) (i : Fin 16) : PosShare TreeShare := shareTok (cq c) 16 i

abbrev kPts (d : Dev nD) (q : PosShare TreeShare) : sProp (𝕄 F) := kLoc d ↦{q} kb d
abbrev vPts (d : Dev nD) (q : PosShare TreeShare) : sProp (𝕄 F) := vLoc d ↦{q} vb d
abbrev oPts (d : Dev nD) (f : Buf (Elt F) (oLoc d)) : sProp (𝕄 F) := oLoc d ↦{fullShare} f
/-- A block of 16 rows of the result. -/
abbrev oBlk (d : Dev nD) (x : OIx) (f : Buf (Elt F) (oLoc d)) : sProp (𝕄 F) := oLoc d ↦[oSet x]{fullShare} f
/-- Task `(c, i)`'s eight blocks. -/
abbrev oBlks (d : Dev nD) (c : Fin 2) (i : Fin 16) (f : Buf (Elt F) (oLoc d)) : sProp (𝕄 F) := bigSep Finset.univ fun g : Fin 8 => oBlk d (c, i, g) f
abbrev shPts (d : Dev nD) (c : Fin τ.nSC) (i : Fin 16) (q : PosShare TreeShare) (f : Buf (Elt F) (shLoc d c)) : sProp (𝕄 F) := shLoc d c ↦[shSet i]{q} f
/-- The barrier semaphores of the tasks of SparseCore `c`, at zero. -/
abbrev bars (d : Dev nD) (c : Fin ((K (F := F)).nCore 0)) : sProp (𝕄 F) :=
  bigSep Finset.univ fun i : Fin ((K (F := F)).nSub 0) => semVal (bcell d (coreOf c) ((K (F := F)).sub 0 i)) 0

/-- What a task takes: its shares of the keys and values, its blocks of the result, its row of the shared table. -/
abbrev goP (d : Dev nD) (c : Fin τ.nSC) (i : Fin 16) : sProp (𝕄 F) :=
  iprop(kPts kb d (tq c i) ∗ vPts vb d (tq c i) ∗ oBlks d c i (ob d) ∗ ∃ f, shPts d c i fullShare f)
/-- What it brings back: its blocks at the result, what it kept of its row and its share of the whole table. -/
abbrev tdP (d : Dev nD) (c : Fin τ.nSC) (i : Fin 16) : sProp (𝕄 F) :=
  iprop(oBlks d c i (out kb vb d) ∗ shPts d c i shd (hb kb d c) ∗ bigSep Finset.univ fun r : Fin 16 => shPts d c r (shq i) (hb kb d c))

set_option backward.proofsInPublic true in
def P : (K (F := F)).Pay (nD := nD) (Val := Elt F) (Name := ℕ) (U := UU) where
  st := fun q d c => match q with
    | 0 => iprop(kPts kb d (cq (Fin.cast nCore_zero c)) ∗ vPts vb d (cq (Fin.cast nCore_zero c))
        ∗ bigSep Finset.univ fun i : Fin 16 => oBlks d (Fin.cast nCore_zero c) i (ob d))
  dn := fun q d c => match q with
    | 0 => iprop((bigSep Finset.univ fun i : Fin 16 => oBlks d (Fin.cast nCore_zero c) i (out kb vb d)) ∗ bars d c)
  go := fun q d c i => match q with
    | 0 => goP kb vb ob d (coreOf c) (Fin.cast nSub_zero i)
  td := fun q d c i => match q with
    | 0 => iprop(tdP kb vb d (coreOf c) (Fin.cast nSub_zero i) ∗ semVal (bcell d (coreOf c) ((K (F := F)).sub 0 i)) 0)
  x := fun _ thr => match thr with
    | (d, .scVector c i) => bkit kb d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P kb vb ob).IsStorable where
  st q d _ := match q with
    | 0 => (inferInstance : BI.Storable (upEmb : UEmb _ (𝕄 F)) iprop(kPts kb d _ ∗ vPts vb d _ ∗ bigSep Finset.univ fun i : Fin 16 => oBlks d _ i (ob d)))
  dn q d _ := match q with
    | 0 => (inferInstance : BI.Storable (upEmb : UEmb _ (𝕄 F)) iprop((bigSep Finset.univ fun i : Fin 16 => oBlks d _ i (out kb vb d)) ∗ bars d _))
  go q d c i := match q with
    | 0 => (inferInstance : BI.Storable (upEmb : UEmb _ (𝕄 F)) (goP kb vb ob d (coreOf c) (Fin.cast nSub_zero i)))
  td q d c i := match q with
    | 0 => (inferInstance : BI.Storable (upEmb : UEmb _ (𝕄 F)) iprop(tdP kb vb d (coreOf c) (Fin.cast nSub_zero i) ∗ semVal _ 0))

end Cert.Proof.Sc
-- ==== Proof.Loops.lean ====
/-
  The loops of a task that count keys: its 16384 keys fetched 4096 at a time, each counted at its bucket.
-/
module

public import proofs.«01_k».proof.Proof.Setup
public import proofs.«01_k».proof.Proof.Fold

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The buffers as a task addresses them -/

abbrev kV : Memref sig .scVector .hbm S264192 .i32 := Memref.whole main_v10_scv
abbrev vV : Memref sig .scVector .hbm S264192 .f32 := Memref.whole main_v11_scv
abbrev oV : Memref sig .scVector .hbm S4096x4096 .f32 := Memref.whole main_v12_scv
abbrev keyV : Memref sig .scVector .vmem S4096 .i32 := Memref.whole cc0_scratch0
abbrev cntV : Memref sig .scVector .vmem S256 .i32 := Memref.whole cc0_scratch1
abbrev allV : Memref sig .scVector .vmem S4096 .i32 := Memref.whole cc0_scratch2
abbrev startV : Memref sig .scVector .vmem S272 .i32 := Memref.whole cc0_scratch3
abbrev slabV : Memref sig .scVector .vmem S16x4096 .f32 := Memref.whole cc0_scratch4
abbrev ekeyV : Memref sig .scVector .vmem S2048 .i32 := Memref.whole cc0_scratch5
abbrev evalV : Memref sig .scVector .vmem S2048 .f32 := Memref.whole cc0_scratch6
abbrev shV : Memref sig .scVector .shared S4096 .i32 := Memref.whole cc0_scratch7

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev keyP (f : S4096.Idx → BitVec 32) : sProp (𝕄 F) := (keyV).view.loc (thr d L) ↦{fullShare} (f : Buf (Elt F) _)
abbrev cntP (f : S256.Idx → BitVec 32) : sProp (𝕄 F) := (cntV).view.loc (thr d L) ↦{fullShare} (f : Buf (Elt F) _)
abbrev slabP (f : S16x4096.Idx → F .f32) : sProp (𝕄 F) := (slabV).view.loc (thr d L) ↦{fullShare} (f : Buf (Elt F) _)

/-- An indexed store into the counts, the whole buffer held. -/
theorem wp_storeIdx_cnt {α : Type} {idxs : Fin S256.rank → IVec S16 32} {v : Vec F S16 .i32} {mask : IVec S16 1} {add : Bool}
    {h : ∀ a x, (idxs a x).toNat < S256.size a} {hs : (cntV.access (.whole S256)).Stores Finset.univ}
    {k : PUnit → Prog (TpuEff nD τ sig (Elt F) Λ₀ (thr d L).2) α} {Q : α → sProp (𝕄 F)} {f : S256.Idx → BitVec 32} :
    cntP d L f ⊢ iprop((cntP d L (storeIdx (F := F) (s := S256) (e := .i32) (d := ![16]) f idxs v mask add h)
        -∗ wp frame (wpE (defs₀ (F := F)) 𝒱₀ (thr d L) none) Set.univ (k ⟨⟩) Q)
      -∗ wp frame (wpE (defs₀ (F := F)) 𝒱₀ (thr d L) none) Set.univ (SparseCore.vectorStoreIdx (d := ![16]) cntV idxs v mask add h hs >>= k) Q) := by
  have h' := SparseCore.wp_vectorStoreIdx (defs := defs₀ (F := F)) 𝒱₀ (thr d L) none Set.univ (Q := Q) (base := cntV) (d := ![16]) (idxs := idxs) (v := v) (mask := mask) (add := add) (h := h) (hs := hs) (k := k) (f := f)
  rw [show (cntV.access (Rect.whole S256)).set = Finset.univ from Memref.set_access_whole cc0_scratch1,
    show View.read (Elt F) (cntV.access (Rect.whole S256)) f = f from Memref.read_access_whole (Elt F) cc0_scratch1 f,
    show View.write (Elt F) (cntV.access (Rect.whole S256)) f (storeIdx f idxs v mask add h) Finset.univ = storeIdx f idxs v mask add h from
      Memref.write_access_whole_univ (Elt F) cc0_scratch1 f _] at h'
  exact h'

/-- An indexed store into the block of rows, the whole buffer held. -/
theorem wp_storeIdx_slab {α : Type} {idxs : Fin S16x4096.rank → IVec S16 32} {v : Vec F S16 .f32} {mask : IVec S16 1} {add : Bool}
    {h : ∀ a x, (idxs a x).toNat < S16x4096.size a} {hs : (slabV.access (.whole S16x4096)).Stores Finset.univ}
    {k : PUnit → Prog (TpuEff nD τ sig (Elt F) Λ₀ (thr d L).2) α} {Q : α → sProp (𝕄 F)} {f : S16x4096.Idx → F .f32} :
    slabP d L f ⊢ iprop((slabP d L (storeIdx (F := F) (s := S16x4096) (e := .f32) (d := ![16]) f idxs v mask add h)
        -∗ wp frame (wpE (defs₀ (F := F)) 𝒱₀ (thr d L) none) Set.univ (k ⟨⟩) Q)
      -∗ wp frame (wpE (defs₀ (F := F)) 𝒱₀ (thr d L) none) Set.univ (SparseCore.vectorStoreIdx (d := ![16]) slabV idxs v mask add h hs >>= k) Q) := by
  have h' := SparseCore.wp_vectorStoreIdx (defs := defs₀ (F := F)) 𝒱₀ (thr d L) none Set.univ (Q := Q) (base := slabV) (d := ![16]) (idxs := idxs) (v := v) (mask := mask) (add := add) (h := h) (hs := hs) (k := k) (f := f)
  rw [show (slabV.access (Rect.whole S16x4096)).set = Finset.univ from Memref.set_access_whole cc0_scratch4,
    show View.read (Elt F) (slabV.access (Rect.whole S16x4096)) f = f from Memref.read_access_whole (Elt F) cc0_scratch4 f,
    show View.write (Elt F) (slabV.access (Rect.whole S16x4096)) f (storeIdx f idxs v mask add h) Finset.univ = storeIdx f idxs v mask add h from
      Memref.write_access_whole_univ (Elt F) cc0_scratch4 f _] at h'
  exact h'

/-! ## The keys counted -/

/-- Entries `base …` of a padded array of the call. -/
def win {α : Type} {n : ℕ} (z : α) (b : S264192.Idx → α) (base : ℕ) : (⟨1, ![n]⟩ : Shape).Idx → α := fun j => valAt z b (base + (j 0).val)

omit [FloatOps F] in
theorem toNat_valAt (b : S264192.Idx → BitVec 32) (p : ℕ) : (valAt 0#32 b p).toNat = keyAt b p := by
  unfold valAt keyAt; split <;> rfl

omit [FloatOps F] in
/-- A slice of a padded array, copied over a whole scratch. -/
theorem read_win {n : ℕ} {α : Type} (z : α) (b : S264192.Idx → α) (off : Fin 1 → ℕ) (inb : ∀ a, off a + (⟨1, ![n]⟩ : Shape).size a ≤ S264192.size a) :
    (fun j => b ((Rect.unit (s := S264192) off (⟨1, ![n]⟩ : Shape).size inb).emb j)) = win (n := n) z b (off 0) := by
  funext j
  have h1 : ((Rect.unit (s := S264192) off (⟨1, ![n]⟩ : Shape).size inb).emb j 0).val = off 0 + (j 0).val := by
    rw [Rect.emb_apply]
    show off 0 + 1 * (j 0).val = _
    rw [Nat.one_mul]
  have h2 : off 0 + (j 0).val < 264192 := h1 ▸ ((Rect.unit (s := S264192) off (⟨1, ![n]⟩ : Shape).size inb).emb j 0).isLt
  unfold win valAt
  rw [dif_pos h2]
  exact congrArg b (ext1 h1)

/-- The counts of the first `n` keys from `base`. -/
abbrev cntAt (k : ℕ → ℕ) (base n : ℕ) : S256.Idx → BitVec 32 := fun j => BitVec.ofNat 32 (hist k base (j 0).val n)

omit [FloatOps F] in
theorem pay18_toNat (fk : S16.Idx → BitVec 32) (x : S16.Idx) : (k0_pay18 (F := F) fk x).toNat = (fk x).toNat / 65536 := by
  show (IntOp.shrui .vector (fk x) 16#32).toNat = _
  unfold IntOp.shrui
  rw [if_pos (by decide), BitVec.ushiftRight_eq', BitVec.toNat_ushiftRight, Nat.shiftRight_eq_div_pow]
  rfl

omit [FloatOps F] in
/-- Sixteen entries of a window, read. -/
theorem readAt_win {n : ℕ} {α : Type} (z : α) (b : S264192.Idx → α) (base : ℕ) (off : Fin 1 → ℕ)
    (inb : ∀ a, off a + S16.size a ≤ (⟨1, ![n]⟩ : Shape).size a) (x : S16.Idx) :
    win (n := n) z b base ((Rect.unit (s := ⟨1, ![n]⟩) off S16.size inb).emb x) = valAt z b (base + (off 0 + (x 0).val)) := by
  unfold win
  rw [Rect.emb_apply]
  show valAt z b (base + (off 0 + 1 * (x 0).val)) = _
  rw [Nat.one_mul]

def t2_inv (kb : (d : Dev nD) → Buf (Elt F) (kLoc d)) (t : ℕ) (n : ℕ) (_ : BitVec 32) : sProp (𝕄 F) :=
  iprop(keyP d L (win 0#32 (kb d) (16384 * (L 1).val + 4096 * t)) ∗ cntP d L (cntAt (kn kb d) (16384 * (L 1).val) (4096 * t + 16 * n)))

set_option maxHeartbeats 1000000 in
theorem t2_step (kb : (d : Dev nD) → Buf (Elt F) (kLoc d)) (hk : Sorted (kn kb d)) (t : Fin 4) (k0_t2 : Fin k0_t2_loop.trips) (acc : BitVec 32) :
    t2_inv d L kb t.val k0_t2.val acc ⊢
      wp frame (wpE (defs₀ (F := F)) 𝒱₀ (thr d L) none) Set.univ (k0_t2_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8
        (BitVec.ofNat 32 (L 1).val) k0_pay15 k0_pay16 0#32 0#32 4#32 k0_t2 acc) (t2_inv d L kb t.val (k0_t2.val + 1)) := by
  unfold k0_t2_body t2_inv
  have htr : k0_t2.val < 256 := Nat.lt_of_lt_of_le k0_t2.isLt k0_t2_abs.2.1
  have hL : (L 1).val < 16 := (L 1).isLt
  have ht := t.isLt
  iintro ⟨Hk, Hc⟩
  sl_exec
  have hx : ∀ x : S16.Idx, (t2_step.sl.v714 (F := F) d L kb t k0_t2 x).toNat
      = kn kb d (16384 * (L 1).val + ((4096 * t.val + 16 * k0_t2.val) + (x 0).val)) / 65536 := fun x => by
    unfold t2_step.sl.v714
    rw [pay18_toNat]
    have e := readAt_win (n := 4096) 0#32 (kb d) (16384 * (L 1).val + 4096 * t.val) (k0_off2 k0_t2) (k0_off2_inb k0_t2) x
    rw [show k0_off2 k0_t2 0 = 16 * k0_t2.val from congrFun (k0_off2_eq k0_t2) 0] at e
    refine congrArg (· / 65536) ((congrArg BitVec.toNat e).trans ?_)
    rw [toNat_valAt]
    exact congrArg (keyAt (kb d)) (by omega)
  have h : k0_chk1 (t2_step.sl.v714 (F := F) d L kb t k0_t2) := by
    intro a x
    match a with
    | 0 =>
      show (t2_step.sl.v714 (F := F) d L kb t k0_t2 x).toNat < 256
      rw [hx x]
      have hx0 : (x 0).val < 16 := (x 0).isLt
      have := hk.lt (16384 * (L 1).val + ((4096 * t.val + 16 * k0_t2.val) + (x 0).val)) (by omega)
      omega
  iapply (wp_assume _ _ _ _ h)
  iapply (wp_storeIdx_cnt d L) $$ Hc; iintro Hc
  sl_step
  isplitl [Hk]; · iexact Hk
  rw [show 4096 * t.val + 16 * (k0_t2.val + 1) = (4096 * t.val + 16 * k0_t2.val) + 16 by ring]
  iapply (Entails.of_eq (congrArg (cntP d L) (storeIdx_hist (F := F) (kn kb d) _ _ _ h hx)))
  iexact Hc

/-! ## The chunks -/

abbrev kP (kb : (d : Dev nD) → Buf (Elt F) (kLoc d)) (q : PosShare TreeShare) : sProp (𝕄 F) := (kV).view.loc (thr d L) ↦{q} kb d
abbrev dmaP (s : DmaSems sig S_) : sProp (𝕄 F) := semVal (thr d L, .dma s.sem) 0
/-- What a task still owes, its waits so far from `W` or of the kernel's transfers. -/
abbrev owesP (O : CellTallies nD τ sig (HIx 1)) (W : Waits sig (HIx 1)) : sProp (𝕄 F) :=
  iprop(∃ W', ⌜∀ p ∈ W', p ∈ W ∨ p.2 = none⌝ ∗ owes (thr d L) O W')

def t1_inv (kb : (d : Dev nD) → Buf (Elt F) (kLoc d)) (q : PosShare TreeShare) (O : CellTallies nD τ sig (HIx 1)) (W : Waits sig (HIx 1)) (t : ℕ) (_ : BitVec 32) : sProp (𝕄 F) :=
  iprop(Transfers.MayWaits (thr d L) (default : HIx 1) O ∗ kP d L kb q ∗ (∃ f, keyP d L f) ∗ cntP d L (cntAt (kn kb d) (16384 * (L 1).val) (4096 * t))
    ∗ dmaP d L cc0_scoped0 ∗ owesP d L O W)

set_option maxHeartbeats 1000000 in
theorem t1_step (kb : (d : Dev nD) → Buf (Elt F) (kLoc d)) (hk : Sorted (kn kb d)) (q : PosShare TreeShare) (O : CellTallies nD τ sig (HIx 1)) (W : Waits sig (HIx 1))
    (k0_t1 : Fin k0_t1_loop.trips) (acc : BitVec 32) :
    t1_inv d L kb q O W k0_t1.val acc ⊢
      wp frame (wpE (defs₀ (F := F)) 𝒱₀ (thr d L) none) Set.univ (k0_t1_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8
        (BitVec.ofNat 32 (L 1).val) k0_pay15 k0_pay16 0#32 0#32 4#32 k0_t1 acc) (t1_inv d L kb q O W (k0_t1.val + 1)) := by
  unfold k0_t1_body t1_inv
  iintro ⟨Hmw, Hk, ⟨%fk, Hkey⟩, Hc, Hsem, %W', %hW', HO⟩
  sl_exec (disch := exact View.amount_pos _ _ (show 0 < S4096.numel by decide))
  have e : View.write (Elt F) (keyV).view fk (t1_step.sl.dma0 d L kb k0_t1) Finset.univ = win (n := 4096) (0#32 : BitVec 32) (kb d) (16384 * (L 1).val + 4096 * k0_t1.val) := by
    unfold t1_step.sl.dma0
    refine (View.write_whole_univ _ _ _).trans ?_
    have e := read_win (n := 4096) (0#32 : BitVec 32) (kb d) (k0_off1 L k0_t1) (k0_off1_inb L k0_t1)
    rw [show k0_off1 L k0_t1 0 = 16384 * (L 1).val + 4096 * k0_t1.val from congrFun (k0_off1_eq L k0_t1) 0] at e
    exact e
  ihave Hkey' := (Entails.of_eq (congrArg (keyP d L) e)) $$ Hkey
  sl_for (t2_inv d L kb k0_t1.val) $$ [Hkey' Hc]
  case region =>
    intro k acc'
    exact t2_step d L kb hk ⟨k0_t1.val, Nat.lt_of_lt_of_le k0_t1.isLt k0_t1_abs.2.1⟩ k acc'
  · unfold t2_inv
    isplitl [Hkey']; · iexact Hkey'
    iexact Hc
  iintro %_ HI
  unfold t2_inv
  icases HI with ⟨Hkey', Hc⟩
  sl_exec
  sl_step
  isplitl [Hmw]; · iexact Hmw
  isplitl [Hk]; · iexact Hk
  isplitl [Hkey']; · iexists _; iexact Hkey'
  isplitl [Hc]; · iexact Hc
  isplitl [Hsem]; · iexact Hsem
  iexists (insert (SemLoc.dma cc0_scoped0.sem, (default : HIx 1)) W'); isplitr
  · ipureintro; intro p hp
    rcases Finset.mem_insert.mp hp with hp | hp
    · exact .inr (hp ▸ rfl)
    · exact hW' p hp
  · iexact HO

end Cert.Proof.Sc
-- ==== Proof.Part2.lean ====
/-
  A task's counts zeroed, and the set-up of the constants it goes on with.
-/
module

public import proofs.«01_k».proof.Proof.Loops
public import Idealize.ShloMosaic.Lib.Writes

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

/-- The lane numbers. -/
abbrev lanes : IVec S16 32 := iota .scVector S16 32 [0] iota_S16_d0_w32_scVector

omit [FloatOps F] in
/-- The counts after zero stores that tile them. -/
theorem cnt_zero (f : S256.Idx → BitVec 32) (W : List (View.Piece (Elt F) S256 .i32)) :
    cntP (F := F) d L (cntV.view.writes (Elt F) f W) ⊢ iprop(⌜View.Piece.tiled W ![16] = true⌝ -∗
      ⌜W.Forall fun p => p.2 = fun _ => (0#32 : BitVec 32)⌝ -∗ cntP (F := F) d L (fun _ => 0#32)) := by
  iintro H %ht %hw
  have e : cntV.view.writes (Elt F) f W = fun _ => (0#32 : BitVec 32) :=
    funext fun y => (View.read_writes_apply_of_pieces (Val := Elt F) (cntV).view f (fun _ => (0#32 : BitVec 32)) W
      (fun p hp x => congrFun (List.forall_iff_forall_mem.mp hw p hp) x) y (View.cover_of_tiled W ![16] ht y) :)
  iapply (Entails.of_eq (congrArg (cntP d L) e)); iexact H

set_option maxHeartbeats 4000000 in
theorem part2_run (f : S256.Idx → BitVec 32) :
    cntP d L f ⊢ wp frame (wpE (defs₀ (F := F)) 𝒱₀ (thr d L) none) Set.univ
      (k0_part2 L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8)
      (fun r => iprop(⌜r = ⟨BitVec.ofNat 32 (L 0).val, BitVec.ofNat 32 (L 1).val, lanes, k0_pay15, k0_pay16, k0_pay17 (F := F), 0#32, 0#32, 4#32⟩⌝ ∗ cntP d L (fun _ => 0#32))) := by
  simp only [k0_part2_eq_skeleton]; unfold k0_part2_skel
  iintro Hc
  sl_exec
  sl_step
  isplitr
  · ipureintro; rfl
  ihave H := (cnt_zero d L f _) $$ Hc
  iapply H
  · ipureintro; rfl
  · ipureintro; exact ⟨rfl, rfl, rfl, rfl, rfl, rfl, rfl, rfl, rfl, rfl, rfl, rfl, rfl, rfl, rfl, rfl⟩

end Cert.Proof.Sc
-- ==== Proof.Arith.lean ====
/-
  The words a task's loops over a group of 16 rows compute, as the numbers they mean: the group's first and last position,
  the windows of 2048 positions that cover them, the rows and columns the keys name, and which lanes are in range.
-/
module

public import proofs.«01_k».proof.Proof.Fold
public import proofs.«01_k».proof.Proof.Table
public import proofs.«01_k».proof.Proof.Part2
public import Idealize.ShloMosaic.Lib.LoopRemainder

@[expose] public section

namespace Cert.Proof.Spec

open Cert.KernelIdeal Cert.KernelIdeal.Gen Idealize.ShloMosaic Cert.Proof.Sc

variable {F : FTy → Type} [FloatOps F]

/-! ## Words -/

theorem ofNat_iff {x : BitVec 32} {n : ℕ} (h : Affine.IsInt x n) : x = BitVec.ofNat 32 n := by
  have h1 := Affine.toNat_of h (by omega)
  have h2 : x.toNat = n := by exact_mod_cast h1
  rw [← h2, BitVec.ofNat_toNat, BitVec.setWidth_eq]

theorem isInt_ofNat (n : ℕ) (h : n < 2 ^ 31) : Affine.IsInt (BitVec.ofNat 32 n) (n : ℤ) := Affine.ofNat n ⟨rfl, h⟩

theorem toNat_word (n : ℕ) (h : n < 2 ^ 31) : (BitVec.ofNat 32 n).toNat = n := by
  rw [BitVec.toNat_ofNat, Nat.mod_eq_of_lt (by omega)]

theorem shr4 (n : ℕ) (h : n < 2 ^ 31) : Scalar.shrsi (BitVec.ofNat 32 n) 4#32 = BitVec.ofNat 32 (n / 16) :=
  ofNat_iff (Affine.shrsi (isInt_ofNat n h) (isInt_ofNat 4 (by decide)) 4 16 (by decide) ⟨by omega, by decide, by decide⟩)

theorem shl4 (n : ℕ) : Scalar.shli (BitVec.ofNat 32 n) 4#32 = BitVec.ofNat 32 (n * 16) := by
  apply BitVec.eq_of_toNat_eq
  show (IntOp.shli .scalar (BitVec.ofNat 32 n) 4#32).toNat = _
  unfold IntOp.shli
  rw [if_pos (by decide), BitVec.shiftLeft_eq', BitVec.toNat_shiftLeft, BitVec.toNat_ofNat, BitVec.toNat_ofNat, Nat.shiftLeft_eq]
  show n % 2 ^ 32 * 16 % 2 ^ 32 = n * 16 % 2 ^ 32
  omega

/-- A word rounded down to a multiple of 16. -/
theorem round16 (n : ℕ) (h : n < 2 ^ 31) : Scalar.shli (Scalar.shrsi (BitVec.ofNat 32 n) 4#32) 4#32 = BitVec.ofNat 32 (n / 16 * 16) := by
  rw [shr4 n h, shl4]

/-- The floor of a positive word over 2048, as the program spells it. -/
theorem floor2048 (x : BitVec 32) (m : ℕ) (hx : Affine.IsInt x m) (h0 : 0 < m) (h1 : m < 2 ^ 31) :
    Scalar.select (Scalar.andi (Scalar.cmpi .ne (Scalar.subi (Scalar.extui (Scalar.cmpi .sgt x 0#32)) (Scalar.extui (Scalar.cmpi .slt x 0#32)))
        (Scalar.subi (Scalar.extui (Scalar.cmpi .sgt 2048#32 0#32)) (Scalar.extui (Scalar.cmpi .slt 2048#32 0#32))))
        (Scalar.cmpi .ne (Scalar.remsi x 2048#32) 0#32)) (Scalar.subi (Scalar.divsi x 2048#32) 1#32) (Scalar.divsi x 2048#32)
      = BitVec.ofNat 32 (m / 2048) := by
  have z : Affine.IsInt 0#32 0 := isInt_ofNat 0 (by decide)
  have c : Affine.IsInt 2048#32 2048 := isInt_ofNat 2048 (by decide)
  have o : Affine.IsInt 1#32 1 := isInt_ofNat 1 (by decide)
  have hd : Affine.IsInt (Scalar.divsi x 2048#32) ((m / 2048 : ℕ) : ℤ) := Affine.divsi hx c ⟨by omega, by omega, by decide⟩
  have s1 : Affine.IsInt (Scalar.subi (Scalar.extui (Scalar.cmpi .sgt x 0#32)) (Scalar.extui (Scalar.cmpi .slt x 0#32))) 1 :=
    Affine.subi (Affine.extui_holds (Affine.sgt_holds hx z (by omega)) rfl) (Affine.extui_fails (Affine.slt_fails hx z (by omega)) rfl) ⟨by decide, by decide, by decide⟩
  have s2 : Affine.IsInt (Scalar.subi (Scalar.extui (Scalar.cmpi .sgt 2048#32 0#32)) (Scalar.extui (Scalar.cmpi .slt 2048#32 0#32))) 1 :=
    Affine.subi (Affine.extui_holds (Affine.sgt_holds c z (by decide)) rfl) (Affine.extui_fails (Affine.slt_fails c z (by decide)) rfl) ⟨by decide, by decide, by decide⟩
  refine ofNat_iff (Affine.select_fails (ea := (m / 2048 : ℕ) - 1) (Affine.andi_fails_left (Affine.ne_fails s1 s2 rfl) trivial) ?_ hd rfl)
  exact Affine.subi hd o ⟨rfl, by omega, by omega⟩

/-! ## The group's windows -/

/-- The first position of the windows: the group's first position rounded down. -/
def base (a : ℕ) : ℕ := a / 16 * 16
/-- How many windows of 2048 positions cover those from `base a` to `e`. -/
def nb (a e : ℕ) : ℕ := (e - base a + 2047) / 2048

section Win

variable (a e : ℕ) (hae : a ≤ e) (he : e ≤ 262144)

include hae he in
/-- What the program rounds down to count the windows. -/
theorem span_isInt : Affine.IsInt (Scalar.subi (Scalar.addi (Scalar.subi (BitVec.ofNat 32 e) (Scalar.shli (Scalar.shrsi (BitVec.ofNat 32 a) 4#32) 4#32)) 2048#32) 1#32)
    ((e - base a + 2047 : ℕ) : ℤ) := by
  rw [round16 a (by omega)]
  have hb : a / 16 * 16 ≤ a := by omega
  unfold base
  refine Affine.subi (ea := (e - a / 16 * 16 + 2048 : ℕ)) (Affine.addi (ea := (e - a / 16 * 16 : ℕ)) (Affine.subi (isInt_ofNat e (by omega)) (isInt_ofNat (a / 16 * 16) (by omega)) ⟨by omega, by omega, by omega⟩)
    (isInt_ofNat 2048 (by decide)) ⟨by omega, by omega, by omega⟩) (isInt_ofNat 1 (by decide)) ⟨by omega, by omega, by omega⟩

include hae he in
theorem t5_loop_eq : k0_t5_loop (BitVec.ofNat 32 a) (BitVec.ofNat 32 e) = ⟨0#32, BitVec.ofNat 32 (nb a e), 1#32⟩ := by
  have h := floor2048 _ _ (span_isInt a e hae he) (by omega) (by unfold base; omega)
  have h' : (k0_t5_loop (BitVec.ofNat 32 a) (BitVec.ofNat 32 e)).ub = BitVec.ofNat 32 (nb a e) := by
    refine Eq.trans (congrArg (fun w => Scalar.addi 0#32 (Scalar.muli (Scalar.divsi (Scalar.subi w 0#32) 1#32) 1#32)) h) ?_
    rw [Scalar.muli_divsi_one]
    show 0#32 + (BitVec.ofNat 32 _ - 0#32) = _
    rw [BitVec.sub_zero, BitVec.zero_add]; rfl
  have h0 : (k0_t5_loop (BitVec.ofNat 32 a) (BitVec.ofNat 32 e)).lb = 0#32 := rfl
  have h1 : (k0_t5_loop (BitVec.ofNat 32 a) (BitVec.ofNat 32 e)).st = 1#32 := rfl
  generalize k0_t5_loop (BitVec.ofNat 32 a) (BitVec.ofNat 32 e) = l at *
  obtain ⟨l1, l2, l3⟩ := l
  cases h'; cases h0; cases h1; rfl

theorem nb_lt : nb a e < 262144 ∨ 262144 < e := by unfold nb; omega

include hae he in
theorem t5_trips : (k0_t5_loop (BitVec.ofNat 32 a) (BitVec.ofNat 32 e)).trips = nb a e := by
  rw [t5_loop_eq a e hae he]
  have := nb_lt a e
  exact Affine.trips_eq (isInt_ofNat 0 (by decide)) (isInt_ofNat (nb a e) (by omega)) (isInt_ofNat 1 (by decide)) _ ⟨by decide, by omega⟩

include hae he in
theorem t5_OK : (k0_t5_loop (BitVec.ofNat 32 a) (BitVec.ofNat 32 e)).OK := by
  rw [t5_loop_eq a e hae he]
  have := nb_lt a e
  exact Affine.ok (isInt_ofNat 0 (by decide)) (isInt_ofNat (nb a e) (by omega)) (isInt_ofNat 1 (by decide)) ⟨by decide, by omega⟩

include hae he in
theorem win_lt (t : ℕ) (ht : t < nb a e) : base a + 2048 * t < e := by unfold nb at ht; unfold base at *; omega

theorem win_end : e ≤ base a + 2048 * nb a e := by unfold nb base; omega

include hae he in
theorem win_word (t : ℕ) (ht : t < nb a e) :
    Scalar.addi (Scalar.shli (Scalar.shrsi (BitVec.ofNat 32 a) 4#32) 4#32) (Scalar.muli (Scf.iv 0#32 1#32 t) 2048#32) = BitVec.ofNat 32 (base a + 2048 * t) := by
  rw [round16 a (by omega)]
  have := win_lt a e hae he t ht
  have := nb_lt a e
  show BitVec.ofNat 32 _ + (0#32 + BitVec.ofNat 32 t * 1#32) * 2048#32 = _
  rw [BitVec.zero_add, BitVec.mul_one, ← BitVec.ofNat_mul, ← BitVec.ofNat_add, Nat.mul_comm t]; rfl

include hae he in
theorem off7_eq (t : Fin (k0_t5_loop (BitVec.ofNat 32 a) (BitVec.ofNat 32 e)).trips) :
    k0_off7 (BitVec.ofNat 32 a) (BitVec.ofNat 32 e) t 0 = base a + 2048 * t.val := by
  have ht : t.val < nb a e := lt_of_lt_of_eq t.isLt (t5_trips a e hae he)
  refine (congrArg BitVec.toNat (win_word a e hae he t.val ht)).trans (toNat_word _ ?_)
  have := win_lt a e hae he t.val ht
  omega

include hae he in
theorem off12_eq (t : Fin (k0_t9_loop (BitVec.ofNat 32 a) (BitVec.ofNat 32 e)).trips) :
    k0_off12 (BitVec.ofNat 32 a) (BitVec.ofNat 32 e) t 0 = base a + 2048 * t.val := off7_eq a e hae he t

include hae he in
theorem chk3 : k0_chk3 (BitVec.ofNat 32 a) (BitVec.ofNat 32 e) := by
  have hm : ∀ t : Fin (k0_t5_loop (BitVec.ofNat 32 a) (BitVec.ofNat 32 e)).trips, 16 ∣ k0_off7 (BitVec.ofNat 32 a) (BitVec.ofNat 32 e) t 0 := fun t => by
    rw [off7_eq a e hae he]; exact ⟨a / 16 + 128 * t.val, by unfold base; ring⟩
  have hi : ∀ t : Fin (k0_t5_loop (BitVec.ofNat 32 a) (BitVec.ofNat 32 e)).trips, ∀ x, k0_off7 (BitVec.ofNat 32 a) (BitVec.ofNat 32 e) t x + S2048.size x ≤ S264192.size x := fun t x => by
    have ht : t.val < nb a e := lt_of_lt_of_eq t.isLt (t5_trips a e hae he)
    have := win_lt a e hae he t.val ht
    match x with
    | 0 =>
      rw [off7_eq a e hae he]
      show _ + 2048 ≤ 264192
      omega
  exact ⟨t5_OK a e hae he, hm, hi, Scf.rem_ok _ _, fun k => (Scf.rem_no_trip _ _ k).elim, fun k => (Scf.rem_no_trip _ _ k).elim,
    t5_OK a e hae he, hm, hi, Scf.rem_ok _ _, fun k => (Scf.rem_no_trip _ _ k).elim, fun k => (Scf.rem_no_trip _ _ k).elim⟩

theorem chk2 (h : a ≤ 262144) : k0_chk2 (BitVec.ofNat 32 a) := by
  show 16 ∣ (Scalar.shli (Scalar.shrsi (BitVec.ofNat 32 a) 4#32) 4#32).toNat
  rw [round16 a (by omega), toNat_word _ (by omega)]
  exact ⟨a / 16, by ring⟩

end Win

/-! ## Rows, columns and lanes in range -/

omit [FloatOps F] in
theorem pay1_toNat (v : S16.Idx → BitVec 32) (x : S16.Idx) : (k0_pay1 (F := F) v x).toNat = (v x).toNat / 4096 % 16 := by
  show (IntOp.andi (IntOp.shrui .vector (v x) 12#32) 15#32).toNat = _
  unfold IntOp.andi IntOp.shrui
  rw [if_pos (by decide), BitVec.ushiftRight_eq', BitVec.toNat_and, BitVec.toNat_ushiftRight, Nat.shiftRight_eq_div_pow]
  exact Nat.and_two_pow_sub_one_eq_mod _ 4

omit [FloatOps F] in
theorem pay2_toNat (v : S16.Idx → BitVec 32) (x : S16.Idx) : (k0_pay2 (F := F) v x).toNat = (v x).toNat % 4096 := by
  show (IntOp.andi (v x) 4095#32).toNat = _
  unfold IntOp.andi
  rw [BitVec.toNat_and]
  exact Nat.and_two_pow_sub_one_eq_mod _ 12

omit [FloatOps F] in
theorem chk4 (v : S16.Idx → BitVec 32) : k0_chk4 (k0_pay1 (F := F) v) (k0_pay2 (F := F) v) := by
  intro a x
  match a with
  | 0 => exact lt_of_eq_of_lt (pay1_toNat (F := F) v x) (Nat.mod_lt _ (by decide))
  | 1 => exact lt_of_eq_of_lt (pay2_toNat (F := F) v x) (Nat.mod_lt _ (by decide))

/-- The lanes of the vector at position `w` that lie between two positions. -/
def liveAt (a e w : BitVec 32) : IVec S16 1 :=
  andi (cmpi .sge (addi (broadcast S16 w) lanes) (broadcast S16 a)) (cmpi .slt (addi (broadcast S16 w) lanes) (broadcast S16 e))

theorem lanes_apply (x : S16.Idx) : lanes x = BitVec.ofNat 32 (x 0).val := by
  show BitVec.ofNat 32 (0 * _ + (x 0).val) = _
  rw [Nat.zero_mul, Nat.zero_add]

theorem liveAt_iff (a e n : ℕ) (ha : a < 2 ^ 30) (he : e < 2 ^ 30) (hn : n < 2 ^ 30) (x : S16.Idx) :
    liveAt (BitVec.ofNat 32 a) (BitVec.ofNat 32 e) (BitVec.ofNat 32 n) x = 1 ↔ (a ≤ n + (x 0).val ∧ n + (x 0).val < e) := by
  have hx : (x 0).val < 16 := (x 0).isLt
  show IntOp.andi (BitVec.ofBool ((BitVec.ofNat 32 a).sle (BitVec.ofNat 32 n + lanes x)))
    (BitVec.ofBool ((BitVec.ofNat 32 n + lanes x).slt (BitVec.ofNat 32 e))) = 1 ↔ _
  rw [lanes_apply, WordArith.andi_ofBool, WordArith.ofBool_eq_numeral_one_iff, Bool.and_eq_true, ← BitVec.ofNat_add, BitVec.sle_iff_toInt_le, BitVec.slt_iff_toInt_lt,
    WordArith.toInt_ofNat_small _ (by omega), WordArith.toInt_ofNat_small _ (by omega), WordArith.toInt_ofNat_small _ (by omega)]
  omega

theorem pos_word (m u : ℕ) : Scalar.addi (BitVec.ofNat 32 m) (Scalar.muli (Scf.iv 0#32 1#32 u) 16#32) = BitVec.ofNat 32 (m + 16 * u) := by
  show BitVec.ofNat 32 m + (0#32 + BitVec.ofNat 32 u * 1#32) * 16#32 = _
  rw [BitVec.zero_add, BitVec.mul_one, ← BitVec.ofNat_mul, ← BitVec.ofNat_add, Nat.mul_comm u]

theorem win_word' (b t : ℕ) : Scalar.addi (BitVec.ofNat 32 b) (Scalar.muli (Scf.iv 0#32 1#32 t) 2048#32) = BitVec.ofNat 32 (b + 2048 * t) := by
  show BitVec.ofNat 32 b + (0#32 + BitVec.ofNat 32 t * 1#32) * 2048#32 = _
  rw [BitVec.zero_add, BitVec.mul_one, ← BitVec.ofNat_mul, ← BitVec.ofNat_add, Nat.mul_comm t]

theorem pay7_eq (a e b : ℕ) (t : Fin (k0_t9_loop (BitVec.ofNat 32 a) (BitVec.ofNat 32 e)).trips) (u : Fin k0_t10_loop.trips) :
    k0_pay7 lanes (BitVec.ofNat 32 a) (BitVec.ofNat 32 e) (BitVec.ofNat 32 b) t u
      = liveAt (BitVec.ofNat 32 a) (BitVec.ofNat 32 e) (BitVec.ofNat 32 (b + 2048 * t.val + 16 * u.val)) := by
  rw [← pos_word, ← win_word']; rfl

theorem pay3_eq (a e b : ℕ) (t : Fin (k0_t5_loop (BitVec.ofNat 32 a) (BitVec.ofNat 32 e)).trips) (u : Fin k0_t6_loop.trips) (v : S16.Idx → BitVec 32) :
    k0_pay3 (F := F) lanes (BitVec.ofNat 32 a) (BitVec.ofNat 32 e) (BitVec.ofNat 32 b) t u v
      = andi (scanCount (liveAt (BitVec.ofNat 32 a) (BitVec.ofNat 32 e) (BitVec.ofNat 32 (b + 2048 * t.val + 16 * u.val))) v).1
          (liveAt (BitVec.ofNat 32 a) (BitVec.ofNat 32 e) (BitVec.ofNat 32 (b + 2048 * t.val + 16 * u.val))) := by
  rw [← pos_word, ← win_word']; rfl

theorem rowMajor_lane (x : S16.Idx) : (S16.rowMajor x).val = (x 0).val := by
  exact Shape.rowMajor_val_one (d := ![16]) x

/-- The lanes kept: live, and no later live lane has the same key. -/
theorem last_iff (k : ℕ → ℕ) (n : ℕ) (v : S16.Idx → BitVec 32) (hv : ∀ x : S16.Idx, (v x).toNat = k (n + (x 0).val)) (live : IVec S16 1) (l : Fin 16) :
    andi (scanCount live v).1 live (lane l) = 1 ↔ (live (lane l) = 1 ∧ ∀ l' : Fin 16, l.val < l'.val → live (lane l') = 1 → k (n + l'.val) ≠ k (n + l.val)) := by
  have hand : ∀ p q : BitVec 1, IntOp.andi p q = 1 ↔ (p = 1 ∧ q = 1) := by decide
  have hsc : (scanCount live v).1 (lane l) = 1 ↔ (live (lane l) = 1 ∧ ∀ j, (S16.rowMajor (lane l)).val < (S16.rowMajor j).val → ¬ (live j = 1 ∧ v j = v (lane l))) := by
    unfold scanCount
    dsimp only
    split
    · next h => exact ⟨fun _ => h, fun _ => rfl⟩
    · next h => exact ⟨fun h' => absurd h' (by decide), fun h' => absurd h' h⟩
  refine (hand _ _).trans ?_
  rw [hsc]
  constructor
  · rintro ⟨⟨h1, h2⟩, -⟩
    refine ⟨h1, fun l' hl hlv he => h2 (lane l') ?_ ⟨hlv, BitVec.eq_of_toNat_eq ?_⟩⟩
    · rw [rowMajor_lane, rowMajor_lane]; exact hl
    · rw [hv, hv]; exact he
  · rintro ⟨h1, h2⟩
    refine ⟨⟨h1, fun j hj hjj => ?_⟩, h1⟩
    rw [rowMajor_lane, rowMajor_lane] at hj
    rw [eq_lane j] at hjj
    refine h2 (j 0) hj hjj.1 ?_
    have := congrArg BitVec.toNat hjj.2
    rw [hv, hv] at this
    exact this

/-! ## The group's first and last position -/

/-- Group `t` of task `L`. -/
abbrev grp (L : grid0.Coords) (t : ℕ) : ℕ := 128 * (L 0).val + 8 * (L 1).val + t

theorem grp_lt (L : grid0.Coords) (t : ℕ) (ht : t < 8) : grp L t < 256 := by
  have h0 : (L 0).val < 2 := (L 0).isLt
  have h1 : (L 1).val < 16 := (L 1).isLt
  unfold grp
  omega

theorem grp_word (L : grid0.Coords) (t : ℕ) :
    Scalar.addi (Scalar.muli (Scalar.addi (Scalar.muli (BitVec.ofNat 32 (L 0).val) 16#32) (BitVec.ofNat 32 (L 1).val)) 8#32) (Scf.iv 0#32 1#32 t) = BitVec.ofNat 32 (grp L t) := by
  show (BitVec.ofNat 32 (L 0).val * 16#32 + BitVec.ofNat 32 (L 1).val) * 8#32 + (0#32 + BitVec.ofNat 32 t * 1#32) = _
  rw [BitVec.zero_add, BitVec.mul_one, ← BitVec.ofNat_mul, ← BitVec.ofNat_add, ← BitVec.ofNat_mul, ← BitVec.ofNat_add]
  exact congrArg (BitVec.ofNat 32) (by ring)

theorem off5_eq (L : grid0.Coords) (t : Fin k0_t4_loop.trips) : k0_off5 L t 0 = grp L t.val / 16 * 16 := by
  have ht : t.val < 8 := Nat.lt_of_lt_of_le t.isLt k0_t4_abs.2.1
  have := grp_lt L t.val ht
  refine (congrArg (fun w => (Scalar.shli (Scalar.shrsi w 4#32) 4#32).toNat) (grp_word L t.val)).trans ?_
  rw [round16 _ (by omega), toNat_word _ (by omega)]

theorem off6_eq (L : grid0.Coords) (t : Fin k0_t4_loop.trips) : k0_off6 L t 0 = (grp L t.val + 1) / 16 * 16 := by
  have ht : t.val < 8 := Nat.lt_of_lt_of_le t.isLt k0_t4_abs.2.1
  have := grp_lt L t.val ht
  refine (congrArg (fun w => (Scalar.shli (Scalar.shrsi (Scalar.addi w 1#32) 4#32) 4#32).toNat) (grp_word L t.val)).trans ?_
  rw [show Scalar.addi (BitVec.ofNat 32 (grp L t.val)) 1#32 = BitVec.ofNat 32 (grp L t.val + 1) from (BitVec.ofNat_add _ _).symm, round16 _ (by omega), toNat_word _ (by omega)]

/-- Picking entry `g` of the table of first positions out of the sixteen around it. -/
theorem pick (k : ℕ → ℕ) (g : ℕ) (hg : g ≤ 256) (off : Fin 1 → ℕ) (ho : off 0 = g / 16 * 16) (inb : ∀ a, off a + S16.size a ≤ S272.size a) (h : ∀ a, (![15] : Fin 1 → ℕ) a < S16.size a) :
    extractAt ![15] (scan .sum (select (cmpi .eq lanes (broadcast S16 (Scalar.andi (BitVec.ofNat 32 g) 15#32)))
      (fun x => startBuf k ((Rect.unit (s := S272) off S16.size inb).emb x)) (broadcast S16 0#32))) h = BitVec.ofNat 32 (start k g) := by
  have hand : Scalar.andi (BitVec.ofNat 32 g) 15#32 = BitVec.ofNat 32 (g % 16) := by
    apply BitVec.eq_of_toNat_eq
    show (BitVec.ofNat 32 g &&& 15#32).toNat = _
    rw [BitVec.toNat_and, toNat_word g (by omega), toNat_word (g % 16) (by omega)]
    exact Nat.and_two_pow_sub_one_eq_mod _ 4
  rw [hand]
  show scan .sum _ (fun a => ⟨(![15] : Fin 1 → ℕ) a, h a⟩) = _
  rw [scan_sum _ (fun i => if i = g % 16 then start k g else 0)]
  · refine congrArg (BitVec.ofNat 32) ?_
    show ∑ i ∈ Finset.range 16, _ = _
    rw [Finset.sum_ite_eq', if_pos (Finset.mem_range.mpr (by omega))]
  · intro x
    have hx : (x 0).val < 16 := (x 0).isLt
    show (if BitVec.ofBool (lanes x == BitVec.ofNat 32 (g % 16)) = 1 then startBuf k ((Rect.unit (s := S272) off S16.size inb).emb x) else 0#32) = _
    have hiff : BitVec.ofBool (lanes x == BitVec.ofNat 32 (g % 16)) = 1 ↔ (x 0).val = g % 16 := by
      rw [lanes_apply, WordArith.ofBool_eq_numeral_one_iff, beq_iff_eq]
      constructor
      · intro e
        have := congrArg BitVec.toNat e
        rwa [toNat_word _ (by omega), toNat_word _ (by omega)] at this
      · intro e; rw [e]
    by_cases hc : (x 0).val = g % 16
    · rw [if_pos (hiff.mpr hc), if_pos hc]
      have hv : ((Rect.unit (s := S272) off S16.size inb).emb x 0).val = g := by
        rw [Rect.emb_apply]
        show off 0 + 1 * (x 0).val = g
        omega
      unfold startBuf
      rw [hv, min_eq_left hg]
    · rw [if_neg (fun e => hc (hiff.mp e)), if_neg hc]

/-! ## Sorted keys -/

/-- A count of a property that holds up to a point and not after. -/
theorem count_down (p : ℕ → Prop) [DecidablePred p] (N : ℕ) (h : ∀ i j, i ≤ j → j < N → p j → p i) (i : ℕ) (hi : i < N) : p i ↔ i < Nat.count p N := by
  induction N with
  | zero => omega
  | succ n ih =>
    have ih' := ih fun i j hij hj => h i j hij (by omega)
    rw [Nat.count_succ]
    by_cases hn : p n
    · have hall : Nat.count p n = n := Nat.count_iff_forall.mpr fun m hm => h m n (by omega) (by omega) hn
      rw [if_pos hn, hall]
      exact ⟨fun _ => hi, fun _ => h i n (by omega) (by omega) hn⟩
    · rw [if_neg hn, Nat.add_zero]
      rcases Nat.lt_or_eq_of_le (Nat.le_of_lt_succ hi) with h' | rfl
      · exact ih' h'
      · exact ⟨fun h' => absurd h' hn, fun h' => by have := Nat.count_le p (n := i); omega⟩

variable (k : ℕ → ℕ)

theorem start_le_all (b : ℕ) : start k b ≤ 262144 := Nat.count_le _
theorem start_mono (b : ℕ) : start k b ≤ start k (b + 1) := by rw [start_succ]; omega

theorem lt_start (hk : Sorted k) (b p : ℕ) (hp : p < 262144) : k p / 65536 < b ↔ p < start k b :=
  count_down (fun p => k p / 65536 < b) 262144 (fun i j hij hj h => by
    have := hk.mono i j hij hj
    omega) p hp

/-- The positions of bucket `g`. -/
theorem bucket (hk : Sorted k) (g m : ℕ) (hm : m < 262144) : k m / 65536 = g ↔ (start k g ≤ m ∧ m < start k (g + 1)) := by
  have h1 := lt_start k hk g m hm
  have h2 := lt_start k hk (g + 1) m hm
  omega

/-- The group's block once all its positions are written. -/
theorem put_all {α : Type} (hk : Sorted k) (g : ℕ) (w : ℕ → α) (z : α) (j : S16x4096.Idx) (n : ℕ) (hn : n ≤ 262144) :
    put k (start k g) (start k (g + 1)) w (fun _ => z) n j = lastVal k w z ((g * 16 + (j 0).val) * 4096 + (j 1).val) n := by
  induction n with
  | zero => rfl
  | succ n ih =>
    have h0 : (j 0).val < 16 := (j 0).isLt
    have h1 : (j 1).val < 4096 := (j 1).isLt
    have hb := bucket k hk g n (by omega)
    have hh : hit k (start k g) (start k (g + 1)) n j ↔ k n = (g * 16 + (j 0).val) * 4096 + (j 1).val := by
      unfold hit
      constructor
      · rintro ⟨a, b, c, d⟩
        have := hb.mpr ⟨a, b⟩
        omega
      · intro e
        have := hb.mp (by omega)
        exact ⟨this.1, this.2, by omega, by omega⟩
    have ih' := ih (by omega)
    unfold lastVal
    by_cases hc : k n = (g * 16 + (j 0).val) * 4096 + (j 1).val
    · rw [if_pos hc, put_succ_of _ _ _ _ _ _ _ (hh.mpr hc)]
    · rw [if_neg hc, put_succ_not _ _ _ _ _ _ _ (fun e => hc (hh.mp e)), ih']

theorem put_end {α : Type} (hk : Sorted k) (g : ℕ) (w : ℕ → α) (z : α) (j : S16x4096.Idx) (n : ℕ) (hn : start k (g + 1) ≤ n) :
    put k (start k g) (start k (g + 1)) w (fun _ => z) n j = lastVal k w z ((g * 16 + (j 0).val) * 4096 + (j 1).val) 262144 := by
  refine (congrFun (put_above k _ _ w _ n hn) j).trans ((congrFun (put_above k _ _ w _ 262144 (start_le_all k _)) j).symm.trans ?_)
  generalize hN : 262144 = N
  exact put_all k hk g w z j N hN.ge

end Cert.Proof.Spec
-- ==== Proof.Part3.lean ====
/-
  The barrier at which the tasks of a SparseCore exchange their rows of counts, and what leads up to it.
-/
module

public import proofs.«01_k».proof.Proof.Part2
public import proofs.«01_k».proof.Proof.Table

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

open Idealize.ShloMosaic.Rounds
open Idealize.ShloMosaic.Transfers (shareTok shareDrop)

variable (kb : (d : Dev nD) → Buf (Elt F) (kLoc d))

theorem bound_one : grid0.bound 1 = 16 := rfl
abbrev jL (L : grid0.Coords) : Fin 16 := Fin.cast bound_one (L 1)

abbrev allP (f : S4096.Idx → BitVec 32) : sProp (𝕄 F) := (allV).view.loc (thr d L) ↦{fullShare} (f : Buf (Elt F) _)
abbrev startP (f : S272.Idx → BitVec 32) : sProp (𝕄 F) := (startV).view.loc (thr d L) ↦{fullShare} (f : Buf (Elt F) _)

/-- The task's row of the shared table, as the task addresses it. -/
abbrev shRowK (L : grid0.Coords) : Memref sig .scVector .shared S256 .i32 :=
  (shV).slice (Rect.unit (s := S4096) (k0_off3 L) S256.size (k0_off3_inb L)) (fun _ => rfl)

omit [FloatOps F] in
theorem rowK_eq : Rect.unit (s := S4096) (k0_off3 L) S256.size (k0_off3_inb L) = shRow (jL L) := by
  unfold shRow Rect.part Rect.block
  congr 1 <;> funext a
  · rw [k0_off3_eq]
    match a with
    | 0 => simp [Shape.partIx, Shape.partSize, Nat.mul_comm]
  · match a with
    | 0 => simp [Shape.partSize]

omit [FloatOps F] in
theorem set_shRowK : (shRowK L).view.set = shSet (jL L) := by
  show ((shV).view.slice (Rect.unit (s := S4096) (k0_off3 L) S256.size (k0_off3_inb L))).set = _
  rw [rowK_eq, View.set_slice]; exact Finset.map_refl

omit [FloatOps F] in
theorem shSet_disjoint : ∀ i ∈ (Finset.univ : Finset (Fin 16)), ∀ j ∈ (Finset.univ : Finset (Fin 16)), i ≠ j → Disjoint (shSet i) (shSet j) :=
  fun _ _ _ _ h => Rect.part_disjoint shdiv h
omit [FloatOps F] in
theorem shSet_cover : (Finset.univ : Finset (Fin 16)).biUnion shSet = Finset.univ := Rect.biUnion_part shdiv

omit [FloatOps F] in
theorem shWhole (c : Fin τ.nSC) (q : PosShare TreeShare) (f : Buf (Elt F) (shLoc d c)) :
    (shLoc d c ↦{q} f : sProp (𝕄 F)) = bigSep Finset.univ fun i : Fin 16 => shPts d c i q f := by
  rw [← pointsTo_biUnion Finset.univ (ℓ := shLoc d c) shSet shSet_disjoint, shSet_cover]

/-- Before the barrier: the task's row, dealt to all tasks of its SparseCore. -/
theorem pays_intro : shPts d (cV L) (jL L) fullShare (hb kb d (cV L))
    ⊢ iprop(shPts d (cV L) (jL L) shd (hb kb d (cV L))
      ∗ bigSep Finset.univ fun j : Fin (grid0.bound 1) => (bRd kb).payload (bcell d (cV L) (j.castLE hsub0)) 0 (jV L).val : sProp (𝕄 F)) := by
  refine (Transfers.pointsTo_toks_split fullShare 16).trans ?_
  refine Entails.of_eq (congrArg₂ BIBase.sep rfl (bigSep_congr (fun (j : Fin 16) _ => ?_)))
  show _ = bPay kb (bcell d (cV L) (Fin.castLE hsub0 j)) (jV L).val
  unfold bPay; dsimp only
  rw [dif_pos (show (jV L).val < 16 from (L 1).isLt)]
  rfl

/-- After it: a share of every row, so of the whole table. -/
theorem pays_elim : (bigSep ((bRd kb).duties (bcell d (cV L) (jV L)) 0 \ ∅) fun n => (bRd kb).payload (bcell d (cV L) (jV L)) 0 n)
    ⊢ (shLoc d (cV L) ↦{shq (jL L)} hb kb d (cV L) : sProp (𝕄 F)) := by
  rw [Finset.sdiff_empty, bRd_duties₀, SparseCore.bigSep_image_of_injOn (Fin.val_injective.injOn), shWhole]
  refine Entails.of_eq (bigSep_congr (fun (r : Fin 16) _ => ?_))
  show bPay kb (bcell d (cV L) (jV L)) r.val = _
  unfold bPay; dsimp only
  rw [dif_pos r.isLt]
  rfl

omit [FloatOps F] in
/-- Sixteen entries of the table, read. -/
theorem read_tv (k : ℕ → ℕ) (o : ℕ) (inb : ∀ a, (![o] : Fin 1 → ℕ) a + (![16] : Fin 1 → ℕ) a ≤ S4096.size a) (h : o % 16 = 0) :
    View.readAt (Elt F) (View.whole cc0_scratch2) (Rect.unit (s := S4096) ![o] ![16] inb).toLoadRect (histBuf k)
      = tv k (o / 256) (o % 256 / 16) :=
  read_row k o inb _ _ (by omega) (by omega)

/-- What a task holds for the exchange of the counts. -/
abbrev xchg (κ : GSem nD τ sig → ℕ) : sProp (𝕄 F) :=
  iprop((bigSep Finset.univ fun j : Fin (grid0.bound 1) => dutyTok EB (bcell d (cV L) (j.castLE hsub0)) 0 (jV L).val)
    ∗ atPos EB (bcell d (cV L) (jV L)) 0 ∅ 0 ∗ cred (tallyAt (bcell d (cV L) (jV L)) (some 0) (grid0.bound 1)))

/-- What a task owes after the exchange, its waits from `W`, of the kernel's transfers or at the barrier. -/
abbrev owesB (O : CellTallies nD τ sig (HIx 1)) (W : Waits sig (HIx 1)) : sProp (𝕄 F) :=
  iprop(∃ W', ⌜∀ p ∈ W', p ∈ W ∨ p.2 = none ∨ p.2 = some (0 : Fin 1)⌝ ∗ owes (thr d L) O W')

omit [FloatOps F] in
/-- A task's row of the table, its counts copied into it. -/
theorem row_done (fsh : Buf (Elt F) (shLoc d (cV L))) (w : S256.Idx → BitVec 32)
    (hw : ∀ x, w x = cntAt (kn kb d) (16384 * (L 1).val) 16384 x) :
    ((shRowK L).view.loc (thr d L) ↦[(shRowK L).view.set]{fullShare} (shRowK L).view.writes (Elt F) fsh [⟨Rect.whole S256, w⟩] : sProp (𝕄 F))
      ⊢ shPts d (cV L) (jL L) fullShare (hb kb d (cV L)) := by
  rw [set_shRowK]
  refine Entails.of_eq (pointsTo_congr fun i hi => ?_)
  rw [← set_shRowK] at hi
  obtain ⟨x, -, rfl⟩ := Finset.mem_map.mp hi
  have h1 : (shRowK L).view.writes (Elt F) fsh [⟨Rect.whole S256, w⟩] ((shRowK L).view.emb x) = w x :=
    View.read_writes_cons_hit_of_coords (shRowK L).view fsh (Rect.whole S256) w [] x x (fun a => by
      show (x a).val = 0 + 1 * (x a).val; omega)
  have h2 : ((shRowK L).view.emb x 0).val = 256 * (L 1).val + (x 0).val := by
    show k0_off3 L 0 + 1 * (x 0).val = _
    rw [k0_off3_eq]; show 256 * (L 1).val + 1 * (x 0).val = _; omega
  have hx : (x 0).val < 256 := (x 0).isLt
  refine h1.trans ((hw x).trans ?_)
  show cntAt (kn kb d) (16384 * (L 1).val) 16384 x = histBuf (kn kb d) ((shRowK L).view.emb x)
  unfold histBuf
  rw [h2, show (256 * (L 1).val + (x 0).val) / 256 = (L 1).val by omega, show (256 * (L 1).val + (x 0).val) % 256 = (x 0).val by omega, Nat.mul_comm 16384]

set_option maxHeartbeats 4000000 in
theorem part3_run (hk : Sorted (kn kb d)) (q : PosShare TreeShare) (κ : GSem nD τ sig → ℕ) (O : CellTallies nD τ sig (HIx 1)) (W : Waits sig (HIx 1))
    (hO : ∀ g, O g none = 0) (hOlev : ∀ g ι, 0 < O g ι → 8 * (0 : Fin 1).val + 6 ≤ (K (F := F)).lev g ι) :
    iprop(□ levAts (K (F := F)).L (K (F := F)).lev
        ∗ □ (bigSep Finset.univ fun j : Fin (grid0.bound 1) => cellInv EB (bRd kb) (κ (bcell d (cV L) (j.castLE hsub0))) (bcell d (cV L) (j.castLE hsub0)))
        ∗ □ (bigSep Finset.univ fun j : Fin (grid0.bound 1) => reached EB (bcell d (cV L) (j.castLE hsub0)) 0)
        ∗ xchg d L κ ∗ kP d L kb q ∗ (∃ f, keyP d L f) ∗ cntP d L (fun _ => 0#32) ∗ (∃ f, allP d L f) ∗ (∃ f, shPts d (cV L) (jL L) fullShare f)
        ∗ dmaP d L cc0_scoped0 ∗ dmaP d L cc0_scoped1 ∗ dmaP d L cc0_scoped2 ∗ owesP d L (O + oxV d (cV L)) W)
      ⊢ wp frame (wpE (defs₀ (F := F)) 𝒱₀ (thr d L) none) Set.univ
      (k0_part3 L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8
        (BitVec.ofNat 32 (L 1).val) k0_pay15 k0_pay16 0#32 0#32 4#32)
      (fun r => iprop(⌜r = ⟨cum (kn kb d) 0 14, tv (kn kb d) 14 0⟩⌝
        ∗ kP d L kb q ∗ (∃ f, keyP d L f) ∗ (∃ f, cntP d L f) ∗ allP d L (histBuf (kn kb d)) ∗ shPts d (cV L) (jL L) shd (hb kb d (cV L))
        ∗ (shLoc d (cV L) ↦{shq (jL L)} hb kb d (cV L)) ∗ semVal (bcell d (cV L) (jV L)) 0
        ∗ dmaP d L cc0_scoped0 ∗ dmaP d L cc0_scoped1 ∗ dmaP d L cc0_scoped2 ∗ owesB d L O W)) := by
  simp only [k0_part3_eq_skeleton]; unfold k0_part3_skel
  iintro ⟨#Hlv, #Hinv, #Hrch, ⟨Htoks, Hat, Hcred⟩, Hk, Hkey, Hcnt, ⟨%fa, Hall⟩, ⟨%fsh, Hsh⟩, Hs0, Hs1, Hs2, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  sl_for (t1_inv d L kb q (O + oxV d (cV L)) W) $$ [Hmw1 Hk Hkey Hcnt Hs0 HO]
  case region =>
    intro k acc'
    exact t1_step d L kb hk q _ W k acc'
  · unfold t1_inv
    isplitl [Hmw1]; · iexact Hmw1
    isplitl [Hk]; · iexact Hk
    isplitl [Hkey]; · iexact Hkey
    isplitl [Hcnt]; · iexact Hcnt
    isplitl [Hs0]; · iexact Hs0
    iexact HO
  iintro %_ HI
  unfold t1_inv
  icases HI with ⟨Hmw1, Hk, Hkey, Hcnt, Hs0, %W1, %hW1, HO⟩
  ihave Hsh' := (Entails.of_eq (show (shPts d (cV L) (jL L) fullShare fsh : sProp (𝕄 F)) = ((shRowK L).view.loc (thr d L) ↦[(shRowK L).view.set]{fullShare} fsh) by rw [set_shRowK]; rfl)) $$ Hsh
  sl_exec
  -- the row holds the task's counts
  ihave Hsh := (row_done d L kb fsh (part3_run.sl.dma0 d L kb) (fun x => rfl)) $$ Hsh'
  ihave Hp := (pays_intro d L kb) $$ Hsh
  icases Hp with ⟨Hkeep, Hpays⟩
  -- the barrier: the row handed to every task, a share of every row received
  iapply (SparseCore.wp_subcoreBarrier 𝒱₀ none EB (bRd kb) d (sc := cV L) (i := jV L) sc_bar0 (grid0.bound 1) hsub0 (L 1) rfl κ (fun _ => 0) (jV L).val
      (fun j => bRd_mem₀ kb d _ _ _) (fun _ => rfl) (bRd_expect kb d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd kb) (g := bcell d (cV L) (jV L)) (Set.mem_univ (κ _)) (fun h => h) (bRd_duties_succ kb _)) $$ [Hat] with Hbar
  · isplitr
    · iapply (SparseCore.ent (bigSep_elim (Φ := fun j : Fin (grid0.bound 1) =>
        (cellInv EB (bRd kb) (κ (bcell d (cV L) (j.castLE hsub0))) (bcell d (cV L) (j.castLE hsub0)) : sProp (𝕄 F))) (Finset.mem_univ (L 1)))); iexact Hinv
    · iexact Hat
  ihave Htab := (pays_elim d L kb) $$ Hgot
  ihave Htab' := (Entails.of_eq (show (shLoc d (cV L) ↦{shq (jL L)} hb kb d (cV L) : sProp (𝕄 F)) = ((shV).view.loc (thr d L) ↦{shq (jL L)} hb kb d (cV L)) from rfl)) $$ Htab
  sl_exec
  sl_step
  have e : View.write (Elt F) (allV).view fa (part3_run.sl.dma0_1 d kb) Finset.univ = histBuf (kn kb d) := View.write_whole_univ _ _ _
  isplitr
  · ipureintro
    rw [e]
    simp only [read_tv, Nat.reduceMod, Nat.reduceDiv, cum_succ, cum_zero]
    rfl
  isplitl [Hk]; · iexact Hk
  isplitl [Hkey]; · iexact Hkey
  isplitl [Hcnt]; · iexists _; iexact Hcnt
  isplitl [Hall]; · iapply (Entails.of_eq (congrArg (allP d L) e)); iexact Hall
  isplitl [Hkeep]; · iexact Hkeep
  isplitl [Htab']; · iexact Htab'
  isplitl [Hbar]; · iexact Hbar
  isplitl [Hs0]; · iexact Hs0
  isplitl [Hs1]; · iexact Hs1
  isplitl [Hs2]; · iexact Hs2
  iexists _; isplitr
  swap; · iexact HO
  ipureintro; intro p hp
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases hW1 p hp with hp | hp; · exact .inl hp
  exact .inr (.inl hp)

end Cert.Proof.Sc
-- ==== Proof.Slab.lean ====
/-
  The loops of a task over one group of 16 rows: the block zeroed, the group's keys fetched window by window and their
  values stored, and, after the block has been copied out, zero stored at the same places.
-/
module

public import proofs.«01_k».proof.Proof.Arith
public import proofs.«01_k».proof.Proof.Part3

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

/-! ## The block zeroed -/

omit [FloatOps F] in
theorem off4_eq (t : Fin k0_t3_loop.trips) : k0_off4 t 0 = t.val / 256 ∧ k0_off4 t 1 = t.val % 256 * 16 := by
  have ht : t.val < 4096 := Nat.lt_of_lt_of_le t.isLt k0_t3_abs.2.1
  have hiv : Scf.iv 0#32 1#32 t.val = BitVec.ofNat 32 t.val := by
    show 0#32 + BitVec.ofNat 32 t.val * 1#32 = _
    rw [BitVec.zero_add, BitVec.mul_one]
  constructor
  · show (Scalar.shrsi (Scf.iv 0#32 1#32 t.val) 8#32).toNat = _
    rw [hiv]
    have h : Affine.IsInt (Scalar.shrsi (BitVec.ofNat 32 t.val) 8#32) ((t.val / 256 : ℕ) : ℤ) :=
      Affine.shrsi (isInt_ofNat t.val (by omega)) (isInt_ofNat 8 (by decide)) 8 256 (by decide) ⟨by omega, by decide, by decide⟩
    rw [ofNat_iff h, toNat_word _ (by omega)]
  · show (Scalar.muli (Scalar.andi (Scf.iv 0#32 1#32 t.val) 255#32) 16#32).toNat = _
    rw [hiv]
    have hand : Scalar.andi (BitVec.ofNat 32 t.val) 255#32 = BitVec.ofNat 32 (t.val % 256) := by
      apply BitVec.eq_of_toNat_eq
      show (BitVec.ofNat 32 t.val &&& 255#32).toNat = _
      rw [BitVec.toNat_and, toNat_word t.val (by omega), toNat_word (t.val % 256) (by omega)]
      exact Nat.and_two_pow_sub_one_eq_mod _ 8
    rw [hand]
    show (BitVec.ofNat 32 _ * BitVec.ofNat 32 16).toNat = _
    rw [← BitVec.ofNat_mul, toNat_word _ (by omega)]

/-- The first `16 * n` entries of the block hold zero. -/
def zeroTo (n : ℕ) (f : S16x4096.Idx → F .f32) : Prop := ∀ j : S16x4096.Idx, (j 0).val * 4096 + (j 1).val < 16 * n → f j = fz

theorem zero_write (n : ℕ) (hn : n < 4096) (f : S16x4096.Idx → F .f32) (hf : zeroTo n f) (off : Fin 2 → ℕ) (h0 : off 0 = n / 256) (h1 : off 1 = n % 256 * 16)
    (inb : ∀ a, off a + S1x16.size a ≤ S16x4096.size a) (w : S1x16.Idx → F .f32) (hw : ∀ x, w x = fz) :
    zeroTo (n + 1) ((slabV).view.writes (Elt F) f [⟨Rect.unit (s := S16x4096) off S1x16.size inb, w⟩]) := by
  intro j hj
  have j0 : (j 0).val < 16 := (j 0).isLt
  have j1 : (j 1).val < 4096 := (j 1).isLt
  by_cases hc : (j 0).val * 4096 + (j 1).val < 16 * n
  · by_cases hr : (j 0).val = n / 256
    · refine (View.read_writes_cons_miss_of_axis (Val := Elt F) (slabV).view f ⟨Rect.unit (s := S16x4096) off S1x16.size inb, w⟩ [] j 1 (off 1) 16 rfl rfl rfl
        (.inl (by omega)) :).trans (hf j hc)
    · refine (View.read_writes_cons_miss_of_axis (Val := Elt F) (slabV).view f ⟨Rect.unit (s := S16x4096) off S1x16.size inb, w⟩ [] j 0 (off 0) 1 rfl rfl rfl
        (by omega) :).trans (hf j hc)
  · refine (View.read_writes_cons_hit_of_coords (Val := Elt F) (slabV).view f (Rect.unit (s := S16x4096) off S1x16.size inb) w []
      (fun a => match a with | 0 => (0 : Fin 1) | 1 => (⟨(j 1).val - off 1, by omega⟩ : Fin 16)) j (fun a => ?_) :).trans (hw _)
    match a with
    | 0 => show (j 0).val = off 0 + 1 * 0; omega
    | 1 => show (j 1).val = off 1 + 1 * ((j 1).val - off 1); omega

theorem zero_done (n : ℕ) (hn : n < 4096) (f : S16x4096.Idx → F .f32) (off : Fin 2 → ℕ) (inb : ∀ a, off a + S1x16.size a ≤ S16x4096.size a) (w : S1x16.Idx → F .f32) :
    slabP d L ((slabV).view.writes (Elt F) f [⟨Rect.unit (s := S16x4096) off S1x16.size inb, w⟩])
      ⊢ iprop(⌜zeroTo n f⌝ -∗ ⌜off 0 = n / 256 ∧ off 1 = n % 256 * 16⌝ -∗ ⌜∀ x, w x = fz⌝ -∗ ∃ f', ⌜zeroTo (n + 1) f'⌝ ∗ slabP d L f') := by
  iintro H %hf %ho %hw
  iexists _
  isplitr
  · ipureintro; exact zero_write n hn f hf off ho.1 ho.2 inb w hw
  · iexact H

def t3_inv (n : ℕ) (_ : BitVec 32) : sProp (𝕄 F) := iprop(∃ f, ⌜zeroTo n f⌝ ∗ slabP d L f)

theorem t3_step (k0_t3 : Fin k0_t3_loop.trips) (acc : BitVec 32) :
    t3_inv (F := F) d L k0_t3.val acc ⊢ wp frame (wpE (defs₀ (F := F)) 𝒱₀ (thr d L) none) Set.univ
      (k0_t3_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8 (k0_pay17 (F := F)) k0_t3 acc) (t3_inv d L (k0_t3.val + 1)) := by
  unfold k0_t3_body t3_inv
  have ht : k0_t3.val < 4096 := Nat.lt_of_lt_of_le k0_t3.isLt k0_t3_abs.2.1
  iintro ⟨%f, %hf, H⟩
  sl_exec
  sl_step
  ihave H' := (zero_done d L k0_t3.val ht f (k0_off4 k0_t3) (k0_off4_inb k0_t3) _) $$ H
  iapply H'
  · ipureintro; exact hf
  · ipureintro; exact off4_eq k0_t3
  · ipureintro; intro x; rfl

/-! ## A window's keys, their values stored and cleared -/

abbrev ekeyP (f : S2048.Idx → BitVec 32) : sProp (𝕄 F) := (ekeyV).view.loc (thr d L) ↦{fullShare} (f : Buf (Elt F) _)
abbrev evalP (f : S2048.Idx → F .f32) : sProp (𝕄 F) := (evalV).view.loc (thr d L) ↦{fullShare} (f : Buf (Elt F) _)
abbrev vP (vb : (d : Dev nD) → Buf (Elt F) (vLoc d)) (q : PosShare TreeShare) : sProp (𝕄 F) := (vV).view.loc (thr d L) ↦{q} vb d

variable (kb : (d : Dev nD) → Buf (Elt F) (kLoc d)) (vb : (d : Dev nD) → Buf (Elt F) (vLoc d))

/-- The first position of group `g` and the one after its last. -/
abbrev lo (g : ℕ) : ℕ := start (kn kb d) g
abbrev hi (g : ℕ) : ℕ := start (kn kb d) (g + 1)
/-- The values by position. -/
abbrev vn : ℕ → F .f32 := valAt (α := F .f32) fz (vb d)
/-- The block after the group's values at positions below `n`. -/
abbrev blk (g n : ℕ) : S16x4096.Idx → F .f32 := put (kn kb d) (lo d kb g) (hi d kb g) (vn d vb) (fun _ => fz) n
/-- The block after zero is stored at the group's positions below `n` of its result. -/
abbrev clr (g n : ℕ) : S16x4096.Idx → F .f32 := put (kn kb d) (lo d kb g) (hi d kb g) (fun _ => fz) (blk d kb vb g (base (lo d kb g) + 2048 * nb (lo d kb g) (hi d kb g))) n

theorem lo_le (g : ℕ) : lo d kb g ≤ hi d kb g := start_mono _ g
theorem hi_le (g : ℕ) : hi d kb g ≤ 262144 := start_le_all _ _
theorem lo_all (g : ℕ) : lo d kb g ≤ 262144 := start_le_all _ _

abbrev loW (g : ℕ) : BitVec 32 := BitVec.ofNat 32 (lo d kb g)
abbrev hiW (g : ℕ) : BitVec 32 := BitVec.ofNat 32 (hi d kb g)
abbrev baW (g : ℕ) : BitVec 32 := BitVec.ofNat 32 (base (lo d kb g))

def t6_inv (g t n : ℕ) (_ : BitVec 32) : sProp (𝕄 F) :=
  iprop(ekeyP d L (win 0#32 (kb d) (base (lo d kb g) + 2048 * t)) ∗ evalP d L (win (fz : F .f32) (vb d) (base (lo d kb g) + 2048 * t))
    ∗ slabP d L (blk d kb vb g (base (lo d kb g) + 2048 * t + 16 * n)))

set_option maxHeartbeats 1000000 in
theorem t6_step (hk : Sorted (kn kb d)) (g : ℕ) (k0_t5 : Fin (k0_t5_loop (loW d kb g) (hiW d kb g)).trips) (k0_t6 : Fin k0_t6_loop.trips) (acc : BitVec 32) :
    t6_inv d L kb vb g k0_t5.val k0_t6.val acc ⊢ wp frame (wpE (defs₀ (F := F)) 𝒱₀ (thr d L) none) Set.univ
      (k0_t6_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8 lanes (loW d kb g) (hiW d kb g) (baW d kb g) k0_t5 k0_t6 acc) (t6_inv d L kb vb g k0_t5.val (k0_t6.val + 1)) := by
  unfold k0_t6_body t6_inv
  have htr : k0_t6.val < 128 := Nat.lt_of_lt_of_le k0_t6.isLt k0_t6_abs.2.1
  have hlo := lo_le d kb g
  have hhi := hi_le d kb g
  have ht5 : k0_t5.val < nb (lo d kb g) (hi d kb g) := lt_of_lt_of_eq k0_t5.isLt (t5_trips _ _ hlo hhi)
  have hw := win_lt _ _ hlo hhi _ ht5
  iintro ⟨Hk, Hv, Hs⟩
  sl_exec
  have hkv : ∀ x : S16.Idx, (View.readAt (Elt F) ekeyV.view (Rect.unit (s := S2048) (k0_off8 k0_t6) S16.size (k0_off8_inb k0_t6)).toLoadRect
      (win (n := 2048) (0#32 : BitVec 32) (kb d) (base (lo d kb g) + 2048 * k0_t5.val)) x).toNat = kn kb d ((base (lo d kb g) + 2048 * k0_t5.val + 16 * k0_t6.val) + (x 0).val) := fun x => by
    have e := readAt_win (n := 2048) (0#32 : BitVec 32) (kb d) (base (lo d kb g) + 2048 * k0_t5.val) (k0_off8 k0_t6) (k0_off8_inb k0_t6) x
    rw [show k0_off8 k0_t6 0 = 16 * k0_t6.val from congrFun (k0_off8_eq k0_t6) 0] at e
    refine (congrArg BitVec.toNat e).trans ?_
    rw [toNat_valAt]
    exact congrArg (keyAt (kb d)) (by omega)
  unfold t6_step.sl.v796 t6_step.sl.v798
  iapply (wp_assume _ _ _ _ (chk4 (F := F) _))
  sl_exec
  iapply (wp_storeIdx_slab d L) $$ Hs; iintro Hs
  sl_step
  isplitl [Hk]; · iexact Hk
  isplitl [Hv]; · iexact Hv
  rw [show base (lo d kb g) + 2048 * k0_t5.val + 16 * (k0_t6.val + 1) = (base (lo d kb g) + 2048 * k0_t5.val + 16 * k0_t6.val) + 16 by ring]
  have hfin := storeIdx_put_last (F := F) (e := .f32) (kn kb d) (lo d kb g) (hi d kb g) (vn d vb) (fun _ => fz) (base (lo d kb g) + 2048 * k0_t5.val + 16 * k0_t6.val) _ _
    (View.readAt (Elt F) evalV.view (Rect.unit (s := S2048) (k0_off8 k0_t6) S16.size (k0_off8_inb k0_t6)).toLoadRect
      (win (n := 2048) (fz : F .f32) (vb d) (base (lo d kb g) + 2048 * k0_t5.val)))
    (liveAt (loW d kb g) (hiW d kb g) (BitVec.ofNat 32 (base (lo d kb g) + 2048 * k0_t5.val + 16 * k0_t6.val)))
    (k0_pay3 lanes (loW d kb g) (hiW d kb g) (baW d kb g) k0_t5 k0_t6 (View.readAt (Elt F) ekeyV.view (Rect.unit (s := S2048) (k0_off8 k0_t6) S16.size (k0_off8_inb k0_t6)).toLoadRect
      (win (n := 2048) (0#32 : BitVec 32) (kb d) (base (lo d kb g) + 2048 * k0_t5.val))))
    (chk4 (F := F) _)
    (fun x => by rw [pay1_toNat, hkv x]) (fun x => by rw [pay2_toNat, hkv x])
    (liveAt_iff _ _ _ (by omega) (by omega) (by omega))
    (fun x _ _ => by
      have e := readAt_win (n := 2048) (fz : F .f32) (vb d) (base (lo d kb g) + 2048 * k0_t5.val) (k0_off8 k0_t6) (k0_off8_inb k0_t6) x
      rw [show k0_off8 k0_t6 0 = 16 * k0_t6.val from congrFun (k0_off8_eq k0_t6) 0] at e
      exact e.trans (congrArg (valAt (fz : F .f32) (vb d)) (by omega)))
    g (fun m h1 h2 => (bucket _ hk g m (by omega)).mpr ⟨h1, h2⟩)
    (fun l => by rw [pay3_eq]; exact last_iff (kn kb d) _ _ hkv _ l)
  iapply (Entails.of_eq (congrArg (slabP d L) hfin))
  iexact Hs

end Cert.Proof.Sc
-- ==== Proof.Windows.lean ====
/-
  The windows of a group: fetched and stored, fetched again and cleared.
-/
module

public import proofs.«01_k».proof.Proof.Slab

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

variable (kb : (d : Dev nD) → Buf (Elt F) (kLoc d)) (vb : (d : Dev nD) → Buf (Elt F) (vLoc d))

def t5_inv (q : PosShare TreeShare) (O : CellTallies nD τ sig (HIx 1)) (W : Waits sig (HIx 1)) (g t : ℕ) (_ : BitVec 32) : sProp (𝕄 F) :=
  iprop(Transfers.MayWaits (thr d L) (default : HIx 1) O ∗ kP d L kb q ∗ vP d L vb q ∗ (∃ f, ekeyP d L f) ∗ (∃ f, evalP d L f)
    ∗ slabP d L (blk d kb vb g (base (lo d kb g) + 2048 * t)) ∗ dmaP d L cc0_scoped3 ∗ dmaP d L cc0_scoped4 ∗ owesP d L O W)

set_option maxHeartbeats 2000000 in
theorem t5_step (hk : Sorted (kn kb d)) (q : PosShare TreeShare) (O : CellTallies nD τ sig (HIx 1)) (W : Waits sig (HIx 1)) (g : ℕ)
    (hw3 : k0_chk3 (loW d kb g) (hiW d kb g)) (k0_t5 : Fin (k0_t5_loop (loW d kb g) (hiW d kb g)).trips) (acc : BitVec 32) :
    t5_inv d L kb vb q O W g k0_t5.val acc ⊢ wp frame (wpE (defs₀ (F := F)) 𝒱₀ (thr d L) none) Set.univ
      (k0_t5_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8 lanes (loW d kb g) (hiW d kb g) hw3 (baW d kb g) k0_t5 acc) (t5_inv d L kb vb q O W g (k0_t5.val + 1)) := by
  unfold k0_t5_body t5_inv
  have hlo := lo_le d kb g
  have hhi := hi_le d kb g
  iintro ⟨Hmw, Hk, Hv, ⟨%fk, Hek⟩, ⟨%fv, Hev⟩, Hs, Hsem3, Hsem4, %W', %hW', HO⟩
  sl_exec (disch := exact View.amount_pos _ _ (show 0 < S2048.numel by decide))
  have ek : View.write (Elt F) (ekeyV).view fk (t5_step.sl.dma0 d kb g hw3 k0_t5) Finset.univ = win (n := 2048) (0#32 : BitVec 32) (kb d) (base (lo d kb g) + 2048 * k0_t5.val) := by
    unfold t5_step.sl.dma0
    refine (View.write_whole_univ _ _ _).trans ?_
    have e := read_win (n := 2048) (0#32 : BitVec 32) (kb d) (k0_off7 (loW d kb g) (hiW d kb g) k0_t5) (k0_off7_inb _ _ hw3 k0_t5)
    rw [off7_eq _ _ hlo hhi] at e
    exact e
  have ev : View.write (Elt F) (evalV).view fv (t5_step.sl.dma0_1 d kb vb g hw3 k0_t5) Finset.univ = win (n := 2048) (fz : F .f32) (vb d) (base (lo d kb g) + 2048 * k0_t5.val) := by
    unfold t5_step.sl.dma0_1
    refine (View.write_whole_univ _ _ _).trans ?_
    have e := read_win (n := 2048) (fz : F .f32) (vb d) (k0_off7 (loW d kb g) (hiW d kb g) k0_t5) (k0_off7_inb _ _ hw3 k0_t5)
    rw [off7_eq _ _ hlo hhi] at e
    exact e
  ihave Hek' := (Entails.of_eq (congrArg (ekeyP d L) ek)) $$ Hek
  ihave Hev' := (Entails.of_eq (congrArg (evalP d L) ev)) $$ Hev
  sl_for (t6_inv d L kb vb g k0_t5.val) $$ [Hek' Hev' Hs]
  case region =>
    intro k acc'
    exact t6_step d L kb vb hk g k0_t5 k acc'
  · unfold t6_inv
    isplitl [Hek']; · iexact Hek'
    isplitl [Hev']; · iexact Hev'
    rw [Nat.mul_zero, Nat.add_zero]
    iexact Hs
  iintro %_ HI
  unfold t6_inv
  icases HI with ⟨Hek', Hev', Hs⟩
  sl_exec
  sl_step
  isplitl [Hmw]; · iexact Hmw
  isplitl [Hk]; · iexact Hk
  isplitl [Hv]; · iexact Hv
  isplitl [Hek']; · iexists _; iexact Hek'
  isplitl [Hev']; · iexists _; iexact Hev'
  isplitl [Hs]
  · rw [show base (lo d kb g) + 2048 * (k0_t5.val + 1) = base (lo d kb g) + 2048 * k0_t5.val + 16 * 128 by ring]
    iexact Hs
  isplitl [Hsem3]; · iexact Hsem3
  isplitl [Hsem4]; · iexact Hsem4
  iexists _; isplitr
  swap
  · iexact HO
  · ipureintro; intro p hp
    rcases Finset.mem_insert.mp hp with hp | hp
    · exact .inr (hp ▸ rfl)
    rcases Finset.mem_insert.mp hp with hp | hp
    · exact .inr (hp ▸ rfl)
    · exact hW' p hp

/-! ## Clearing -/

def t10_inv (g t n : ℕ) (_ : BitVec 32) : sProp (𝕄 F) :=
  iprop(ekeyP d L (win 0#32 (kb d) (base (lo d kb g) + 2048 * t)) ∗ slabP d L (clr d kb vb g (base (lo d kb g) + 2048 * t + 16 * n)))

set_option maxHeartbeats 1000000 in
theorem t10_step (g : ℕ) (k0_t9 : Fin (k0_t9_loop (loW d kb g) (hiW d kb g)).trips) (k0_t10 : Fin k0_t10_loop.trips) (acc : BitVec 32) :
    t10_inv d L kb vb g k0_t9.val k0_t10.val acc ⊢ wp frame (wpE (defs₀ (F := F)) 𝒱₀ (thr d L) none) Set.univ
      (k0_t10_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8 lanes (k0_pay17 (F := F)) (loW d kb g) (hiW d kb g) (baW d kb g) k0_t9 k0_t10 acc) (t10_inv d L kb vb g k0_t9.val (k0_t10.val + 1)) := by
  unfold k0_t10_body t10_inv
  have htr : k0_t10.val < 128 := Nat.lt_of_lt_of_le k0_t10.isLt k0_t10_abs.2.1
  have hlo := lo_le d kb g
  have hhi := hi_le d kb g
  have ht9 : k0_t9.val < nb (lo d kb g) (hi d kb g) := lt_of_lt_of_eq k0_t9.isLt (t5_trips _ _ hlo hhi)
  have hw := win_lt _ _ hlo hhi _ ht9
  iintro ⟨Hk, Hs⟩
  sl_exec
  have hkv : ∀ x : S16.Idx, (View.readAt (Elt F) ekeyV.view (Rect.unit (s := S2048) (k0_off13 k0_t10) S16.size (k0_off13_inb k0_t10)).toLoadRect
      (win (n := 2048) (0#32 : BitVec 32) (kb d) (base (lo d kb g) + 2048 * k0_t9.val)) x).toNat = kn kb d ((base (lo d kb g) + 2048 * k0_t9.val + 16 * k0_t10.val) + (x 0).val) := fun x => by
    have e := readAt_win (n := 2048) (0#32 : BitVec 32) (kb d) (base (lo d kb g) + 2048 * k0_t9.val) (k0_off13 k0_t10) (k0_off13_inb k0_t10) x
    rw [show k0_off13 k0_t10 0 = 16 * k0_t10.val from congrFun (k0_off13_eq k0_t10) 0] at e
    refine (congrArg BitVec.toNat e).trans ?_
    rw [toNat_valAt]
    exact congrArg (keyAt (kb d)) (by omega)
  unfold t10_step.sl.v796 t10_step.sl.v798
  iapply (wp_assume _ _ _ _ (show k0_chk6 _ _ from chk4 (F := F) _))
  iapply (wp_storeIdx_slab d L) $$ Hs; iintro Hs
  sl_step
  isplitl [Hk]; · iexact Hk
  rw [show base (lo d kb g) + 2048 * k0_t9.val + 16 * (k0_t10.val + 1) = (base (lo d kb g) + 2048 * k0_t9.val + 16 * k0_t10.val) + 16 by ring]
  have hfin := storeIdx_put (F := F) (e := .f32) (kn kb d) (lo d kb g) (hi d kb g) (fun _ => fz) (blk d kb vb g (base (lo d kb g) + 2048 * nb (lo d kb g) (hi d kb g)))
    (base (lo d kb g) + 2048 * k0_t9.val + 16 * k0_t10.val) _ _ (k0_pay17 (F := F))
    (k0_pay7 lanes (loW d kb g) (hiW d kb g) (baW d kb g) k0_t9 k0_t10)
    (show ∀ a x, _ from chk4 (F := F) _)
    (fun x => by rw [pay1_toNat, hkv x]) (fun x => by rw [pay2_toNat, hkv x])
    (by rw [pay7_eq]; exact liveAt_iff _ _ _ (by omega) (by omega) (by omega))
    (fun x _ _ => rfl)
  iapply (Entails.of_eq (congrArg (slabP d L) hfin))
  iexact Hs

def t9_inv (q : PosShare TreeShare) (O : CellTallies nD τ sig (HIx 1)) (W : Waits sig (HIx 1)) (g t : ℕ) (_ : BitVec 32) : sProp (𝕄 F) :=
  iprop(Transfers.MayWaits (thr d L) (default : HIx 1) O ∗ kP d L kb q ∗ (∃ f, ekeyP d L f)
    ∗ slabP d L (clr d kb vb g (base (lo d kb g) + 2048 * t)) ∗ dmaP d L cc0_scoped7 ∗ owesP d L O W)

set_option maxHeartbeats 2000000 in
theorem t9_step (q : PosShare TreeShare) (O : CellTallies nD τ sig (HIx 1)) (W : Waits sig (HIx 1)) (g : ℕ)
    (hw3 : k0_chk3 (loW d kb g) (hiW d kb g)) (k0_t9 : Fin (k0_t9_loop (loW d kb g) (hiW d kb g)).trips) (acc : BitVec 32) :
    t9_inv d L kb vb q O W g k0_t9.val acc ⊢ wp frame (wpE (defs₀ (F := F)) 𝒱₀ (thr d L) none) Set.univ
      (k0_t9_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8 lanes (k0_pay17 (F := F)) (loW d kb g) (hiW d kb g) hw3 (baW d kb g) k0_t9 acc) (t9_inv d L kb vb q O W g (k0_t9.val + 1)) := by
  unfold k0_t9_body t9_inv
  have hlo := lo_le d kb g
  have hhi := hi_le d kb g
  iintro ⟨Hmw, Hk, ⟨%fk, Hek⟩, Hs, Hsem, %W', %hW', HO⟩
  sl_exec (disch := exact View.amount_pos _ _ (show 0 < S2048.numel by decide))
  have ek : View.write (Elt F) (ekeyV).view fk (t9_step.sl.dma0 d kb g hw3 k0_t9) Finset.univ = win (n := 2048) (0#32 : BitVec 32) (kb d) (base (lo d kb g) + 2048 * k0_t9.val) := by
    unfold t9_step.sl.dma0
    refine (View.write_whole_univ _ _ _).trans ?_
    have e := read_win (n := 2048) (0#32 : BitVec 32) (kb d) (k0_off12 (loW d kb g) (hiW d kb g) k0_t9) (k0_off12_inb _ _ hw3 k0_t9)
    rw [off12_eq _ _ hlo hhi] at e
    exact e
  ihave Hek' := (Entails.of_eq (congrArg (ekeyP d L) ek)) $$ Hek
  sl_for (t10_inv d L kb vb g k0_t9.val) $$ [Hek' Hs]
  case region =>
    intro k acc'
    exact t10_step d L kb vb g k0_t9 k acc'
  · unfold t10_inv
    isplitl [Hek']; · iexact Hek'
    rw [Nat.mul_zero, Nat.add_zero]
    iexact Hs
  iintro %_ HI
  unfold t10_inv
  icases HI with ⟨Hek', Hs⟩
  sl_exec
  sl_step
  isplitl [Hmw]; · iexact Hmw
  isplitl [Hk]; · iexact Hk
  isplitl [Hek']; · iexists _; iexact Hek'
  isplitl [Hs]
  · rw [show base (lo d kb g) + 2048 * (k0_t9.val + 1) = base (lo d kb g) + 2048 * k0_t9.val + 16 * 128 by ring]
    iexact Hs
  isplitl [Hsem]; · iexact Hsem
  iexists _; isplitr
  swap
  · iexact HO
  · ipureintro; intro p hp
    rcases Finset.mem_insert.mp hp with hp | hp
    · exact .inr (hp ▸ rfl)
    · exact hW' p hp

end Cert.Proof.Sc
-- ==== Proof.Groups.lean ====
/-
  A task's groups: the bounds of one picked out of the table, its block written and copied out.
-/
module

public import proofs.«01_k».proof.Proof.Windows
public import Idealize.ShloMosaic.Lib.LoopRemainder

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

variable (kb : (d : Dev nD) → Buf (Elt F) (kLoc d)) (vb : (d : Dev nD) → Buf (Elt F) (vLoc d))

/-- The task's number, as the kernel computes it. -/
abbrev taskW : BitVec 32 := Scalar.addi (Scalar.muli (BitVec.ofNat 32 (L 0).val) 16#32) (BitVec.ofNat 32 (L 1).val)

theorem pick_lo (t : Fin k0_t4_loop.trips) :
    extractAt ![15] (k0_pay13 lanes k0_pay15 (taskW L) 0#32 1#32 t
      (View.readAt (Elt F) startV.view (Rect.unit (s := S272) (k0_off5 L t) S16.size (k0_off5_inb L t)).toLoadRect (startBuf (kn kb d)))) inpos_S16_p15
      = loW d kb (grp L t.val) := by
  have ht : t.val < 8 := Nat.lt_of_lt_of_le t.isLt k0_t4_abs.2.1
  have hg := grp_lt L t.val ht
  have e := pick (kn kb d) (grp L t.val) (by omega) (k0_off5 L t) (off5_eq L t) (k0_off5_inb L t) inpos_S16_p15
  rw [← grp_word] at e
  exact e

theorem pick_hi (t : Fin k0_t4_loop.trips) :
    extractAt ![15] (k0_pay14 lanes k0_pay15 (taskW L) 0#32 1#32 t
      (View.readAt (Elt F) startV.view (Rect.unit (s := S272) (k0_off6 L t) S16.size (k0_off6_inb L t)).toLoadRect (startBuf (kn kb d)))) inpos_S16_p15
      = hiW d kb (grp L t.val) := by
  have ht : t.val < 8 := Nat.lt_of_lt_of_le t.isLt k0_t4_abs.2.1
  have hg := grp_lt L t.val ht
  have e := pick (kn kb d) (grp L t.val + 1) (by omega) (k0_off6 L t) (off6_eq L t) (k0_off6_inb L t) inpos_S16_p15
  rw [BitVec.ofNat_add, ← grp_word] at e
  exact e

/-- What the first part hands on, from a group's bounds `a` and `e`. -/
abbrev groupRet (i a e : BitVec 32) (h : k0_chk3 a e) :
    Σ' (arg14 : BitVec 32) (v718 : BitVec 32) (v731 : BitVec 32) (k0_hw3 : k0_chk3 v718 v731) (v734 : BitVec 32) (v737 : BitVec 32) (c2048_i32_92 : BitVec 32) (v738 : BitVec 32) (v743 : BitVec 32), BitVec 32 :=
  ⟨i, a, e, h, Scalar.shli (Scalar.shrsi a 4#32) 4#32,
    Scalar.subi (Scalar.addi (Scalar.subi e (Scalar.shli (Scalar.shrsi a 4#32) 4#32)) 2048#32) 1#32, 2048#32,
    Scalar.divsi (Scalar.subi (Scalar.addi (Scalar.subi e (Scalar.shli (Scalar.shrsi a 4#32) 4#32)) 2048#32) 1#32) 2048#32,
    Scalar.subi (Scalar.extui (Scalar.cmpi .sgt (Scalar.subi (Scalar.addi (Scalar.subi e (Scalar.shli (Scalar.shrsi a 4#32) 4#32)) 2048#32) 1#32) 0#32))
      (Scalar.extui (Scalar.cmpi .slt (Scalar.subi (Scalar.addi (Scalar.subi e (Scalar.shli (Scalar.shrsi a 4#32) 4#32)) 2048#32) 1#32) 0#32)), 0#32⟩

theorem groupRet_congr {i a e a' e' : BitVec 32} (h : k0_chk3 a e) (ha : a = a') (he : e = e') (h' : k0_chk3 a' e') : groupRet i a e h = groupRet i a' e' h' := by
  subst ha he; rfl

theorem part1_run (t : Fin k0_t4_loop.trips) :
    startP d L (startBuf (kn kb d)) ⊢ wp frame (wpE (defs₀ (F := F)) 𝒱₀ (thr d L) none) Set.univ
      (k0_part1 L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8 lanes k0_pay15 (taskW L) 0#32 1#32 t)
      (fun r => iprop(⌜r = groupRet (Scf.iv 0#32 1#32 t) (loW d kb (grp L t.val)) (hiW d kb (grp L t.val)) (chk3 _ _ (lo_le d kb _) (hi_le d kb _))⌝
        ∗ startP d L (startBuf (kn kb d)))) := by
  simp only [k0_part1_eq_skeleton]; unfold k0_part1_skel
  have e1 := pick_lo d L kb t
  have e2 := pick_hi d L kb t
  iintro Hst
  sl_exec
  iapply (wp_assume _ _ _ _ (by unfold part1_run.sl.v718; exact (congrArg k0_chk2 e1).mpr (chk2 _ (lo_all d kb _))))
  sl_exec
  iapply (wp_assume _ _ _ _ (by unfold part1_run.sl.v718 part1_run.sl.v731; exact (congrArg₂ k0_chk3 e1 e2).mpr (chk3 _ _ (lo_le d kb _) (hi_le d kb _))))
  sl_exec
  sl_step
  isplitr
  · ipureintro
    exact groupRet_congr _ e1 e2 _
  iexact Hst

end Cert.Proof.Sc
-- ==== Proof.Trip.lean ====
/-
  One group whole: its block found, copied out, and the memory cleared for the next.
-/
module

public import proofs.«01_k».proof.Proof.Groups

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

variable (kb : (d : Dev nD) → Buf (Elt F) (kLoc d)) (vb : (d : Dev nD) → Buf (Elt F) (vLoc d)) (ob : (d : Dev nD) → Buf (Elt F) (oLoc d))

/-! ## The block of the result a group fills -/

abbrev oIx (t : Fin 8) : OIx := (cV L, jL L, t)

/-- The block, as the task addresses it. -/
abbrev oBlkK (t : Fin k0_t4_loop.trips) : Memref sig .scVector .hbm S16x4096 .f32 :=
  (oV).slice (Rect.unit (s := S4096x4096) (k0_off11 L t) S16x4096.size (k0_off11_inb L t)) (fun _ => rfl)

abbrev t8 (t : Fin k0_t4_loop.trips) : Fin 8 := ⟨t.val, Nat.lt_of_lt_of_le t.isLt k0_t4_abs.2.1⟩

omit [FloatOps F] in
theorem off11_zero (t : Fin k0_t4_loop.trips) : k0_off11 L t 0 = grp L t.val * 16 := by
  have hg := grp_lt L t.val (t8 t).isLt
  show (Scalar.addi (Scalar.muli (taskW L) 128#32) (Scalar.muli (Scf.iv 0#32 1#32 t) 16#32)).toNat = _
  have e : taskW L = BitVec.ofNat 32 ((L 0).val * 16 + (L 1).val) := by
    rw [BitVec.ofNat_add, BitVec.ofNat_mul]; rfl
  rw [e]
  show ((BitVec.ofNat 32 ((L 0).val * 16 + (L 1).val)) * 128#32 + (0#32 + BitVec.ofNat 32 t.val * 1#32) * 16#32).toNat = _
  rw [BitVec.zero_add, BitVec.mul_one, ← BitVec.ofNat_mul, ← BitVec.ofNat_mul, ← BitVec.ofNat_add, toNat_word _ (by unfold grp at hg; omega)]
  unfold grp; ring

omit [FloatOps F] in
theorem blkK_eq (t : Fin k0_t4_loop.trips) : Rect.unit (s := S4096x4096) (k0_off11 L t) S16x4096.size (k0_off11_inb L t) = oRect (oIx L (t8 t)) := by
  unfold oRect Rect.part Rect.block
  congr 1 <;> funext a
  · match a with
    | 0 =>
      rw [off11_zero]
      simp [Shape.partIx, Shape.partSize, oNum, grp]
      ring
    | 1 => simp [Shape.partIx, Shape.partSize]; rfl
  · match a with
    | 0 => simp [Shape.partSize]
    | 1 => simp [Shape.partSize]

omit [FloatOps F] in
theorem set_oBlkK (t : Fin k0_t4_loop.trips) : (oBlkK L t).view.set = oSet (oIx L (t8 t)) := by
  show ((oV).view.slice (Rect.unit (s := S4096x4096) (k0_off11 L t) S16x4096.size (k0_off11_inb L t))).set = _
  rw [blkK_eq, View.set_slice]; exact Finset.map_refl

omit [FloatOps F] in
/-- What one store of the whole of a view leaves at an element of it. -/
theorem writes_whole {κ : Kind} {sp : Space} {s : Shape} {e : EltTy} (v : View sig κ sp s e) (f : v.ty.Contents (Elt F)) (w : s.Idx → Elt F e) (x : s.Idx) :
    v.read (Elt F) (v.writes (Elt F) f [⟨Rect.whole s, w⟩]) x = w x :=
  View.read_writes_cons_hit_of_coords v f (Rect.whole s) w [] x x fun a => ((Nat.zero_add _).trans (Nat.one_mul _)).symm

attribute [local irreducible] lastVal put in
/-- The block, a group's values copied into it. -/
theorem blk_done (hk : Sorted (kn kb d)) (t : Fin k0_t4_loop.trips) (f : Buf (Elt F) (oLoc d)) (w : S16x4096.Idx → F .f32)
    (hw : w = blk d kb vb (grp L t.val) (base (lo d kb (grp L t.val)) + 2048 * nb (lo d kb (grp L t.val)) (hi d kb (grp L t.val)))) :
    ((oBlkK L t).view.loc (thr d L) ↦[(oBlkK L t).view.set]{fullShare} (oBlkK L t).view.writes (Elt F) f [⟨Rect.whole S16x4096, w⟩] : sProp (𝕄 F))
      ⊢ oBlk d (oIx L (t8 t)) (out kb vb d) := by
  rw [set_oBlkK]
  refine Entails.of_eq (pointsTo_congr fun i hi => ?_)
  rw [← set_oBlkK] at hi
  obtain ⟨x, -, rfl⟩ := Finset.mem_map.mp hi
  have h1 : (oBlkK L t).view.writes (Elt F) f [⟨Rect.whole S16x4096, w⟩] ((oBlkK L t).view.emb x) = w x :=
    (cast_eq rfl _).symm.trans (writes_whole (oBlkK L t).view f w x)
  have h2 : ((oBlkK L t).view.emb x 0).val = grp L t.val * 16 + (x 0).val := by
    show k0_off11 L t 0 + 1 * (x 0).val = _
    rw [off11_zero]; omega
  have h3 : ((oBlkK L t).view.emb x 1).val = (x 1).val := by
    show 0 + 1 * (x 1).val = _; omega
  have h4 : outBuf (kn kb d) (vn d vb) fz ((oBlkK L t).view.emb x) = lastVal (kn kb d) (vn d vb) fz ((grp L t.val * 16 + (x 0).val) * 4096 + (x 1).val) 262144 := by
    unfold outBuf; rw [h2, h3]
  have h5 : w x = lastVal (kn kb d) (vn d vb) fz ((grp L t.val * 16 + (x 0).val) * 4096 + (x 1).val) 262144 :=
    (congrFun hw x).trans (put_end (kn kb d) hk (grp L t.val) (vn d vb) fz x _ (win_end _ _))
  exact h1.trans (h5.trans h4.symm)

/-- The task's blocks, those below `n` done. -/
abbrev oDone (n : ℕ) : sProp (𝕄 F) := bigSep Finset.univ fun t : Fin 8 => oBlk d (oIx L t) (if t.val < n then out kb vb d else ob d)

/-- The block of trip `t` taken out of the task's, and put back done. -/
theorem oDone_split (t : Fin 8) :
    oDone d L kb vb ob t.val ⊢ iprop(oBlk d (oIx L t) (ob d) ∗ (oBlk d (oIx L t) (out kb vb d) -∗ oDone d L kb vb ob (t.val + 1))) := by
  unfold oDone
  rw [SparseCore.bigSep_erase' (Finset.mem_univ t), SparseCore.bigSep_erase' (Φ := fun t' : Fin 8 => oBlk d (oIx L t') (if t'.val < t.val + 1 then out kb vb d else ob d)) (Finset.mem_univ t)]
  rw [if_neg (Nat.lt_irrefl _), if_pos (Nat.lt_succ_self _)]
  rw [bigSep_congr (s := Finset.univ.erase t) (Ψ := fun t' : Fin 8 => oBlk d (oIx L t') (if t'.val < t.val + 1 then out kb vb d else ob d)) (fun (t' : Fin 8) ht => by
    have hne : t'.val ≠ t.val := fun h => Finset.ne_of_mem_erase ht (Fin.ext h)
    by_cases h : t'.val < t.val
    · rw [if_pos h, if_pos (by omega)]
    · rw [if_neg h, if_neg (by omega)])]
  iintro ⟨Ho, Hr⟩
  isplitl [Ho]; · iexact Ho
  iintro Ho
  isplitl [Ho]; · iexact Ho
  iexact Hr

/-! ## One trip -/

def t4_inv (q : PosShare TreeShare) (O : CellTallies nD τ sig (HIx 1)) (W : Waits sig (HIx 1)) (n : ℕ) (_ : BitVec 32) : sProp (𝕄 F) :=
  iprop(Transfers.MayWaits (thr d L) (default : HIx 1) O ∗ kP d L kb q ∗ vP d L vb q ∗ startP d L (startBuf (kn kb d))
    ∗ (∃ f, ekeyP d L f) ∗ (∃ f, evalP d L f) ∗ slabP d L (fun _ => fz) ∗ oDone d L kb vb ob n
    ∗ dmaP d L cc0_scoped3 ∗ dmaP d L cc0_scoped4 ∗ dmaP d L cc0_scoped7 ∗ dmaP d L cc0_scratch8 ∗ owesP d L O W)

set_option maxHeartbeats 4000000 in
theorem t4_step (hk : Sorted (kn kb d)) (q : PosShare TreeShare) (O : CellTallies nD τ sig (HIx 1)) (W : Waits sig (HIx 1))
    (k0_t4 : Fin k0_t4_loop.trips) (acc : BitVec 32) :
    t4_inv d L kb vb ob q O W k0_t4.val acc ⊢ wp frame (wpE (defs₀ (F := F)) 𝒱₀ (thr d L) none) Set.univ
      (k0_t4_body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8 lanes k0_pay15 (k0_pay17 (F := F)) (taskW L) k0_t4 acc) (t4_inv d L kb vb ob q O W (k0_t4.val + 1)) := by
  unfold k0_t4_body t4_inv
  generalize hgv : grp L k0_t4.val = g
  have hlo := lo_le d kb g
  have hhi := hi_le d kb g
  iintro ⟨Hmw, Hk, Hv, Hst, Hek, Hev, Hs, Ho, Hs3, Hs4, Hs7, Hs8, HO⟩
  rw [wp_bind]
  iapply (wp_wand_r Idealize.ShloMosaic.frame (wpE (defs₀ (F := F)) 𝒱₀ (thr d L) none) Set.univ)
  isplitl [Hst]
  · iapply (part1_run d L kb k0_t4) $$ Hst
  iintro %r ⟨%hr, Hst⟩
  subst hr
  rw [hgv]
  dsimp only [groupRet]
  have e16 : Scalar.shli (Scalar.shrsi (loW d kb g) 4#32) 4#32 = baW d kb g := round16 _ (by have := lo_all d kb g; omega)
  rw [e16]
  -- the group's values, window by window
  sl_for (t5_inv d L kb vb q O W g) $$ [Hmw Hk Hv Hek Hev Hs Hs3 Hs4 HO]
  case region =>
    intro k acc'
    exact t5_step d L kb vb hk q O W g _ k acc'
  · unfold t5_inv
    isplitl [Hmw]; · iexact Hmw
    isplitl [Hk]; · iexact Hk
    isplitl [Hv]; · iexact Hv
    isplitl [Hek]; · iexact Hek
    isplitl [Hev]; · iexact Hev
    isplitl [Hs]
    · rw [Nat.mul_zero, Nat.add_zero, show blk d kb vb g (base (lo d kb g)) = fun _ => fz from put_below _ _ _ _ _ _ (by unfold base; omega)]
      iexact Hs
    isplitl [Hs3]; · iexact Hs3
    isplitl [Hs4]; · iexact Hs4
    iexact HO
  iintro %a5 HI
  unfold t5_inv
  rw [show Scf.trips (k0_t5_loop (loW d kb g) (hiW d kb g)).lb (k0_t5_loop (loW d kb g) (hiW d kb g)).ub (k0_t5_loop (loW d kb g) (hiW d kb g)).st = nb (lo d kb g) (hi d kb g) from t5_trips _ _ hlo hhi]
  icases HI with ⟨Hmw, Hk, Hv, Hek, Hev, Hs, Hs3, Hs4, %W1, %hW1, HO⟩
  ihave Ho' := (oDone_split d L kb vb ob (t8 k0_t4)) $$ Ho
  icases Ho' with ⟨Ho, Hback⟩
  ihave Ho' := (Entails.of_eq (show (oBlk d (oIx L (t8 k0_t4)) (ob d) : sProp (𝕄 F)) = ((oBlkK L k0_t4).view.loc (thr d L) ↦[(oBlkK L k0_t4).view.set]{fullShare} ob d) by rw [set_oBlkK])) $$ Ho
  sl_exec
  ihave Ho := (blk_done d L kb vb hk k0_t4 _ (t4_step.sl.dma0 d kb vb g) (by rw [hgv]; rfl)) $$ Ho'
  ispecialize Hback $$ [Ho]
  · iexact Ho
  -- the block's memory cleared, window by window
  sl_for (t9_inv d L kb vb q O W g) $$ [Hmw Hk Hek Hs Hs7 HO]
  case region =>
    intro k acc'
    exact t9_step d L kb vb q O W g _ k acc'
  · unfold t9_inv
    isplitl [Hmw]; · iexact Hmw
    isplitl [Hk]; · iexact Hk
    isplitl [Hek]; · iexact Hek
    isplitl [Hs]
    · rw [Nat.mul_zero, Nat.add_zero, show clr d kb vb g (base (lo d kb g)) = _ from put_below _ _ _ _ _ _ (by unfold base; omega)]
      iexact Hs
    isplitl [Hs7]; · iexact Hs7
    iexists _; isplitr
    swap; · iexact HO
    ipureintro; intro p hp
    rcases Finset.mem_insert.mp hp with hp | hp; · exact .inr (hp ▸ rfl)
    exact hW1 p hp
  iintro %a9 HI
  unfold t9_inv
  rw [show Scf.trips (k0_t9_loop (loW d kb g) (hiW d kb g)).lb (k0_t9_loop (loW d kb g) (hiW d kb g)).ub (k0_t9_loop (loW d kb g) (hiW d kb g)).st = nb (lo d kb g) (hi d kb g) from t5_trips _ _ hlo hhi]
  icases HI with ⟨Hmw, Hk, Hek, Hs, Hs7, HO⟩
  sl_exec
  sl_step
  isplitl [Hmw]; · iexact Hmw
  isplitl [Hk]; · iexact Hk
  isplitl [Hv]; · iexact Hv
  isplitl [Hst]; · iexact Hst
  isplitl [Hek]; · iexact Hek
  isplitl [Hev]; · iexact Hev
  isplitl [Hs]
  · iapply (Entails.of_eq (congrArg (slabP d L) (put_put (kn kb d) (lo d kb g) (hi d kb g) (vn d vb) (fz (F := F)) (base (lo d kb g) + 2048 * nb (lo d kb g) (hi d kb g)))))
    iexact Hs
  isplitl [Hback]; · iexact Hback
  isplitl [Hs3]; · iexact Hs3
  isplitl [Hs4]; · iexact Hs4
  isplitl [Hs7]; · iexact Hs7
  isplitl [Hs8]; · iexact Hs8
  iexact HO

end Cert.Proof.Sc
-- ==== Proof.Parts.lean ====
/-
  The table of first positions filled: each part adds up one group's rows of counts, stores the group's first positions
  and carries on their running total, and begins the next group's sums.
-/
module

public import proofs.«01_k».proof.Proof.Part3

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

variable (k : ℕ → ℕ) (f : S272.Idx → BitVec 32)

omit [FloatOps F] in
/-- One group's first positions stored. -/
theorem st_write (g o : ℕ) (inb : ∀ a, (![o] : Fin 1 → ℕ) a + S16.size a ≤ S272.size a) (w : S16.Idx → BitVec 32) (ho : o = 16 * g) (hw : w = strt k g) :
    (startV).view.writes (Elt F) (stG k g f) [⟨Rect.unit (s := S272) ![o] S16.size inb, w⟩] = stG k (g + 1) f := by
  refine stG_succ k g f _ (fun j h1 h2 => ?_) (fun j hj => ?_)
  · refine (View.read_writes_cons_hit_of_coords (Val := Elt F) (startV).view (stG k g f) (Rect.unit (s := S272) ![o] S16.size inb) w []
      (ix1 ((j 0).val - 16 * g) (by omega)) j (fun a => ?_) :).trans (congrFun hw _)
    match a with
    | 0 => show (j 0).val = o + 1 * ((j 0).val - 16 * g); omega
  · exact (View.read_writes_cons_miss_of_axis (Val := Elt F) (startV).view (stG k g f) ⟨Rect.unit (s := S272) ![o] S16.size inb, w⟩ [] j 0 o 16 rfl rfl rfl
      (by omega) :)

omit [FloatOps F] in
theorem st_done (g o : ℕ) (inb : ∀ a, (![o] : Fin 1 → ℕ) a + S16.size a ≤ S272.size a) (w : S16.Idx → BitVec 32) :
    startP (F := F) d L ((startV).view.writes (Elt F) (stG k g f) [⟨Rect.unit (s := S272) ![o] S16.size inb, w⟩])
      ⊢ iprop(⌜o = 16 * g⌝ -∗ ⌜w = strt k g⌝ -∗ startP (F := F) d L (stG k (g + 1) f)) := by
  iintro H %ho %hw
  iapply (Entails.of_eq (congrArg (startP d L) (st_write k f g o inb w ho hw))); iexact H

omit [FloatOps F] in
/-- The last group's, and the total after it. -/
theorem st_done_last (g o o' : ℕ) (inb : ∀ a, (![o] : Fin 1 → ℕ) a + S16.size a ≤ S272.size a) (inb' : ∀ a, (![o'] : Fin 1 → ℕ) a + S16.size a ≤ S272.size a)
    (w w' : S16.Idx → BitVec 32) :
    startP (F := F) d L ((startV).view.writes (Elt F) (stG k g f) [⟨Rect.unit (s := S272) ![o'] S16.size inb', w'⟩, ⟨Rect.unit (s := S272) ![o] S16.size inb, w⟩])
      ⊢ iprop(⌜o = 16 * g ∧ o' = 16 * (g + 1)⌝ -∗ ⌜w = strt k g⌝ -∗ ⌜w' = strt k (g + 1)⌝ -∗ startP (F := F) d L (stG k (g + 1 + 1) f)) := by
  iintro H %ho %hw %hw'
  have e : (startV).view.writes (Elt F) (stG k g f) [⟨Rect.unit (s := S272) ![o'] S16.size inb', w'⟩, ⟨Rect.unit (s := S272) ![o] S16.size inb, w⟩]
      = stG k (g + 1 + 1) f := by
    rw [← st_write (F := F) k f (g + 1) o' inb' w' ho.2 hw', ← st_write (F := F) k f g o inb w ho.1 hw]
    rfl
  iapply (Entails.of_eq (congrArg (startP d L) e)); iexact H

/-- What a part leaves: its results, the counts, and the table filled up to group `g`. -/
abbrev tabPost {α : Type} (g : ℕ) (r₀ : α) : α → sProp (𝕄 F) := fun r =>
  iprop(⌜r = r₀⌝ ∗ allP d L (histBuf k) ∗ startP d L (stG k g f))

theorem part4_run : iprop(allP d L (histBuf k) ∗ startP d L (stG k 0 f)) ⊢ wp frame (wpE (defs₀ (F := F)) 𝒱₀ (thr d L) none) Set.univ
    (k0_part4 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (cum k 0 14) (tv k 14 0)) (tabPost d L k f 1 ⟨rn k 1, cum k 1 13⟩) := by
  simp only [k0_part4_eq_skeleton]; unfold k0_part4_skel
  iintro ⟨Ha, Hs⟩
  sl_exec
  sl_step
  isplitr
  · ipureintro
    rw [← run_next k 0 inpos_S16_p15]
    unfold part4_run.sl.v64 part4_run.sl.v63
    simp only [read_tv, Nat.reduceMod, Nat.reduceDiv, cum_succ, cum_zero, rn_zero]
    rfl
  isplitl [Ha]; · iexact Ha
  ihave H := (st_done d L k f 0 0 inb_S272_S16_0 _) $$ Hs
  iapply H
  · ipureintro; rfl
  · ipureintro
    rw [← store_group k 0 (by decide)]
    simp only [read_tv, Nat.reduceMod, Nat.reduceDiv, cum_succ, cum_zero, rn_zero]
    rfl

theorem part5_run : iprop(allP d L (histBuf k) ∗ startP d L (stG k 1 f)) ⊢ wp frame (wpE (defs₀ (F := F)) 𝒱₀ (thr d L) none) Set.univ
    (k0_part5 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 1) (cum k 1 13)) (tabPost d L k f 2 ⟨rn k 2, cum k 2 12, tv k 12 2⟩) := by
  simp only [k0_part5_eq_skeleton]; unfold k0_part5_skel
  iintro ⟨Ha, Hs⟩
  sl_exec
  sl_step
  isplitr
  · ipureintro
    rw [← run_next k 1 inpos_S16_p15]
    unfold part5_run.sl.v106 part5_run.sl.v105
    simp only [read_tv, Nat.reduceMod, Nat.reduceDiv, cum_succ, cum_zero, rn_zero]
    rfl
  isplitl [Ha]; · iexact Ha
  ihave H := (st_done d L k f 1 16 inb_S272_S16_16 _) $$ Hs
  iapply H
  · ipureintro; rfl
  · ipureintro
    rw [← store_group k 1 (by decide)]
    simp only [read_tv, Nat.reduceMod, Nat.reduceDiv, cum_succ, cum_zero, rn_zero]
    rfl

theorem part6_run : iprop(allP d L (histBuf k) ∗ startP d L (stG k 2 f)) ⊢ wp frame (wpE (defs₀ (F := F)) 𝒱₀ (thr d L) none) Set.univ
    (k0_part6 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 2) (cum k 2 12) (tv k 12 2)) (tabPost d L k f 3 ⟨rn k 3, cum k 3 12⟩) := by
  simp only [k0_part6_eq_skeleton]; unfold k0_part6_skel
  iintro ⟨Ha, Hs⟩
  sl_exec
  sl_step
  isplitr
  · ipureintro
    rw [← run_next k 2 inpos_S16_p15]
    unfold part6_run.sl.v148 part6_run.sl.v147
    simp only [read_tv, Nat.reduceMod, Nat.reduceDiv, cum_succ, cum_zero, rn_zero]
    rfl
  isplitl [Ha]; · iexact Ha
  ihave H := (st_done d L k f 2 32 inb_S272_S16_32 _) $$ Hs
  iapply H
  · ipureintro; rfl
  · ipureintro
    rw [← store_group k 2 (by decide)]
    simp only [read_tv, Nat.reduceMod, Nat.reduceDiv, cum_succ, cum_zero, rn_zero]
    rfl

theorem part7_run : iprop(allP d L (histBuf k) ∗ startP d L (stG k 3 f)) ⊢ wp frame (wpE (defs₀ (F := F)) 𝒱₀ (thr d L) none) Set.univ
    (k0_part7 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 3) (cum k 3 12)) (tabPost d L k f 4 ⟨rn k 4, cum k 4 11⟩) := by
  simp only [k0_part7_eq_skeleton]; unfold k0_part7_skel
  iintro ⟨Ha, Hs⟩
  sl_exec
  sl_step
  isplitr
  · ipureintro
    rw [← run_next k 3 inpos_S16_p15]
    unfold part7_run.sl.v190 part7_run.sl.v189
    simp only [read_tv, Nat.reduceMod, Nat.reduceDiv, cum_succ, cum_zero, rn_zero]
    rfl
  isplitl [Ha]; · iexact Ha
  ihave H := (st_done d L k f 3 48 inb_S272_S16_48 _) $$ Hs
  iapply H
  · ipureintro; rfl
  · ipureintro
    rw [← store_group k 3 (by decide)]
    simp only [read_tv, Nat.reduceMod, Nat.reduceDiv, cum_succ, cum_zero, rn_zero]
    rfl

theorem part8_run : iprop(allP d L (histBuf k) ∗ startP d L (stG k 4 f)) ⊢ wp frame (wpE (defs₀ (F := F)) 𝒱₀ (thr d L) none) Set.univ
    (k0_part8 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 4) (cum k 4 11)) (tabPost d L k f 5 ⟨rn k 5, cum k 5 10, tv k 10 5⟩) := by
  simp only [k0_part8_eq_skeleton]; unfold k0_part8_skel
  iintro ⟨Ha, Hs⟩
  sl_exec
  sl_step
  isplitr
  · ipureintro
    rw [← run_next k 4 inpos_S16_p15]
    unfold part8_run.sl.v232 part8_run.sl.v231
    simp only [read_tv, Nat.reduceMod, Nat.reduceDiv, cum_succ, cum_zero, rn_zero]
    rfl
  isplitl [Ha]; · iexact Ha
  ihave H := (st_done d L k f 4 64 inb_S272_S16_64 _) $$ Hs
  iapply H
  · ipureintro; rfl
  · ipureintro
    rw [← store_group k 4 (by decide)]
    simp only [read_tv, Nat.reduceMod, Nat.reduceDiv, cum_succ, cum_zero, rn_zero]
    rfl

theorem part9_run : iprop(allP d L (histBuf k) ∗ startP d L (stG k 5 f)) ⊢ wp frame (wpE (defs₀ (F := F)) 𝒱₀ (thr d L) none) Set.univ
    (k0_part9 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 5) (cum k 5 10) (tv k 10 5)) (tabPost d L k f 6 ⟨rn k 6, cum k 6 10⟩) := by
  simp only [k0_part9_eq_skeleton]; unfold k0_part9_skel
  iintro ⟨Ha, Hs⟩
  sl_exec
  sl_step
  isplitr
  · ipureintro
    rw [← run_next k 5 inpos_S16_p15]
    unfold part9_run.sl.v274 part9_run.sl.v273
    simp only [read_tv, Nat.reduceMod, Nat.reduceDiv, cum_succ, cum_zero, rn_zero]
    rfl
  isplitl [Ha]; · iexact Ha
  ihave H := (st_done d L k f 5 80 inb_S272_S16_80 _) $$ Hs
  iapply H
  · ipureintro; rfl
  · ipureintro
    rw [← store_group k 5 (by decide)]
    simp only [read_tv, Nat.reduceMod, Nat.reduceDiv, cum_succ, cum_zero, rn_zero]
    rfl

theorem part10_run : iprop(allP d L (histBuf k) ∗ startP d L (stG k 6 f)) ⊢ wp frame (wpE (defs₀ (F := F)) 𝒱₀ (thr d L) none) Set.univ
    (k0_part10 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 6) (cum k 6 10)) (tabPost d L k f 7 ⟨rn k 7, cum k 7 9⟩) := by
  simp only [k0_part10_eq_skeleton]; unfold k0_part10_skel
  iintro ⟨Ha, Hs⟩
  sl_exec
  sl_step
  isplitr
  · ipureintro
    rw [← run_next k 6 inpos_S16_p15]
    unfold part10_run.sl.v316 part10_run.sl.v315
    simp only [read_tv, Nat.reduceMod, Nat.reduceDiv, cum_succ, cum_zero, rn_zero]
    rfl
  isplitl [Ha]; · iexact Ha
  ihave H := (st_done d L k f 6 96 inb_S272_S16_96 _) $$ Hs
  iapply H
  · ipureintro; rfl
  · ipureintro
    rw [← store_group k 6 (by decide)]
    simp only [read_tv, Nat.reduceMod, Nat.reduceDiv, cum_succ, cum_zero, rn_zero]
    rfl

theorem part11_run : iprop(allP d L (histBuf k) ∗ startP d L (stG k 7 f)) ⊢ wp frame (wpE (defs₀ (F := F)) 𝒱₀ (thr d L) none) Set.univ
    (k0_part11 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 7) (cum k 7 9)) (tabPost d L k f 8 ⟨rn k 8, cum k 8 8, tv k 8 8⟩) := by
  simp only [k0_part11_eq_skeleton]; unfold k0_part11_skel
  iintro ⟨Ha, Hs⟩
  sl_exec
  sl_step
  isplitr
  · ipureintro
    rw [← run_next k 7 inpos_S16_p15]
    unfold part11_run.sl.v358 part11_run.sl.v357
    simp only [read_tv, Nat.reduceMod, Nat.reduceDiv, cum_succ, cum_zero, rn_zero]
    rfl
  isplitl [Ha]; · iexact Ha
  ihave H := (st_done d L k f 7 112 inb_S272_S16_112 _) $$ Hs
  iapply H
  · ipureintro; rfl
  · ipureintro
    rw [← store_group k 7 (by decide)]
    simp only [read_tv, Nat.reduceMod, Nat.reduceDiv, cum_succ, cum_zero, rn_zero]
    rfl

theorem part12_run : iprop(allP d L (histBuf k) ∗ startP d L (stG k 8 f)) ⊢ wp frame (wpE (defs₀ (F := F)) 𝒱₀ (thr d L) none) Set.univ
    (k0_part12 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 8) (cum k 8 8) (tv k 8 8)) (tabPost d L k f 9 ⟨rn k 9, cum k 9 8⟩) := by
  simp only [k0_part12_eq_skeleton]; unfold k0_part12_skel
  iintro ⟨Ha, Hs⟩
  sl_exec
  sl_step
  isplitr
  · ipureintro
    rw [← run_next k 8 inpos_S16_p15]
    unfold part12_run.sl.v400 part12_run.sl.v399
    simp only [read_tv, Nat.reduceMod, Nat.reduceDiv, cum_succ, cum_zero, rn_zero]
    rfl
  isplitl [Ha]; · iexact Ha
  ihave H := (st_done d L k f 8 128 inb_S272_S16_128 _) $$ Hs
  iapply H
  · ipureintro; rfl
  · ipureintro
    rw [← store_group k 8 (by decide)]
    simp only [read_tv, Nat.reduceMod, Nat.reduceDiv, cum_succ, cum_zero, rn_zero]
    rfl

theorem part13_run : iprop(allP d L (histBuf k) ∗ startP d L (stG k 9 f)) ⊢ wp frame (wpE (defs₀ (F := F)) 𝒱₀ (thr d L) none) Set.univ
    (k0_part13 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 9) (cum k 9 8)) (tabPost d L k f 10 ⟨rn k 10, cum k 10 7⟩) := by
  simp only [k0_part13_eq_skeleton]; unfold k0_part13_skel
  iintro ⟨Ha, Hs⟩
  sl_exec
  sl_step
  isplitr
  · ipureintro
    rw [← run_next k 9 inpos_S16_p15]
    unfold part13_run.sl.v442 part13_run.sl.v441
    simp only [read_tv, Nat.reduceMod, Nat.reduceDiv, cum_succ, cum_zero, rn_zero]
    rfl
  isplitl [Ha]; · iexact Ha
  ihave H := (st_done d L k f 9 144 inb_S272_S16_144 _) $$ Hs
  iapply H
  · ipureintro; rfl
  · ipureintro
    rw [← store_group k 9 (by decide)]
    simp only [read_tv, Nat.reduceMod, Nat.reduceDiv, cum_succ, cum_zero, rn_zero]
    rfl

theorem part14_run : iprop(allP d L (histBuf k) ∗ startP d L (stG k 10 f)) ⊢ wp frame (wpE (defs₀ (F := F)) 𝒱₀ (thr d L) none) Set.univ
    (k0_part14 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 10) (cum k 10 7)) (tabPost d L k f 11 ⟨rn k 11, cum k 11 6, tv k 6 11⟩) := by
  simp only [k0_part14_eq_skeleton]; unfold k0_part14_skel
  iintro ⟨Ha, Hs⟩
  sl_exec
  sl_step
  isplitr
  · ipureintro
    rw [← run_next k 10 inpos_S16_p15]
    unfold part14_run.sl.v484 part14_run.sl.v483
    simp only [read_tv, Nat.reduceMod, Nat.reduceDiv, cum_succ, cum_zero, rn_zero]
    rfl
  isplitl [Ha]; · iexact Ha
  ihave H := (st_done d L k f 10 160 inb_S272_S16_160 _) $$ Hs
  iapply H
  · ipureintro; rfl
  · ipureintro
    rw [← store_group k 10 (by decide)]
    simp only [read_tv, Nat.reduceMod, Nat.reduceDiv, cum_succ, cum_zero, rn_zero]
    rfl

theorem part15_run : iprop(allP d L (histBuf k) ∗ startP d L (stG k 11 f)) ⊢ wp frame (wpE (defs₀ (F := F)) 𝒱₀ (thr d L) none) Set.univ
    (k0_part15 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 11) (cum k 11 6) (tv k 6 11)) (tabPost d L k f 12 ⟨rn k 12, cum k 12 6⟩) := by
  simp only [k0_part15_eq_skeleton]; unfold k0_part15_skel
  iintro ⟨Ha, Hs⟩
  sl_exec
  sl_step
  isplitr
  · ipureintro
    rw [← run_next k 11 inpos_S16_p15]
    unfold part15_run.sl.v526 part15_run.sl.v525
    simp only [read_tv, Nat.reduceMod, Nat.reduceDiv, cum_succ, cum_zero, rn_zero]
    rfl
  isplitl [Ha]; · iexact Ha
  ihave H := (st_done d L k f 11 176 inb_S272_S16_176 _) $$ Hs
  iapply H
  · ipureintro; rfl
  · ipureintro
    rw [← store_group k 11 (by decide)]
    simp only [read_tv, Nat.reduceMod, Nat.reduceDiv, cum_succ, cum_zero, rn_zero]
    rfl

theorem part16_run : iprop(allP d L (histBuf k) ∗ startP d L (stG k 12 f)) ⊢ wp frame (wpE (defs₀ (F := F)) 𝒱₀ (thr d L) none) Set.univ
    (k0_part16 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 12) (cum k 12 6)) (tabPost d L k f 13 ⟨rn k 13, cum k 13 5⟩) := by
  simp only [k0_part16_eq_skeleton]; unfold k0_part16_skel
  iintro ⟨Ha, Hs⟩
  sl_exec
  sl_step
  isplitr
  · ipureintro
    rw [← run_next k 12 inpos_S16_p15]
    unfold part16_run.sl.v568 part16_run.sl.v567
    simp only [read_tv, Nat.reduceMod, Nat.reduceDiv, cum_succ, cum_zero, rn_zero]
    rfl
  isplitl [Ha]; · iexact Ha
  ihave H := (st_done d L k f 12 192 inb_S272_S16_192 _) $$ Hs
  iapply H
  · ipureintro; rfl
  · ipureintro
    rw [← store_group k 12 (by decide)]
    simp only [read_tv, Nat.reduceMod, Nat.reduceDiv, cum_succ, cum_zero, rn_zero]
    rfl

theorem part17_run : iprop(allP d L (histBuf k) ∗ startP d L (stG k 13 f)) ⊢ wp frame (wpE (defs₀ (F := F)) 𝒱₀ (thr d L) none) Set.univ
    (k0_part17 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 13) (cum k 13 5)) (tabPost d L k f 14 ⟨rn k 14, cum k 14 4, tv k 4 14⟩) := by
  simp only [k0_part17_eq_skeleton]; unfold k0_part17_skel
  iintro ⟨Ha, Hs⟩
  sl_exec
  sl_step
  isplitr
  · ipureintro
    rw [← run_next k 13 inpos_S16_p15]
    unfold part17_run.sl.v610 part17_run.sl.v609
    simp only [read_tv, Nat.reduceMod, Nat.reduceDiv, cum_succ, cum_zero, rn_zero]
    rfl
  isplitl [Ha]; · iexact Ha
  ihave H := (st_done d L k f 13 208 inb_S272_S16_208 _) $$ Hs
  iapply H
  · ipureintro; rfl
  · ipureintro
    rw [← store_group k 13 (by decide)]
    simp only [read_tv, Nat.reduceMod, Nat.reduceDiv, cum_succ, cum_zero, rn_zero]
    rfl

theorem part18_run : iprop(allP d L (histBuf k) ∗ startP d L (stG k 14 f)) ⊢ wp frame (wpE (defs₀ (F := F)) 𝒱₀ (thr d L) none) Set.univ
    (k0_part18 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      k0_pay15 (rn k 14) (cum k 14 4) (tv k 4 14)) (tabPost d L k f 15 ⟨rn k 15, cum k 15 4⟩) := by
  simp only [k0_part18_eq_skeleton]; unfold k0_part18_skel
  iintro ⟨Ha, Hs⟩
  sl_exec
  sl_step
  isplitr
  · ipureintro
    rw [← run_next k 14 inpos_S16_p15]
    unfold part18_run.sl.v652 part18_run.sl.v651
    simp only [read_tv, Nat.reduceMod, Nat.reduceDiv, cum_succ, cum_zero, rn_zero]
    rfl
  isplitl [Ha]; · iexact Ha
  ihave H := (st_done d L k f 14 224 inb_S272_S16_224 _) $$ Hs
  iapply H
  · ipureintro; rfl
  · ipureintro
    rw [← store_group k 14 (by decide)]
    simp only [read_tv, Nat.reduceMod, Nat.reduceDiv, cum_succ, cum_zero, rn_zero]
    rfl

theorem part19_run : iprop(allP d L (histBuf k) ∗ startP d L (stG k 15 f)) ⊢ wp frame (wpE (defs₀ (F := F)) 𝒱₀ (thr d L) none) Set.univ
    (k0_part19 L kV (Memref.isWhole_whole _) vV (Memref.isWhole_whole _) oV (Memref.isWhole_whole _)
      keyV (Memref.isWhole_whole _) cntV (Memref.isWhole_whole _) allV (Memref.isWhole_whole _) startV (Memref.isWhole_whole _) slabV (Memref.isWhole_whole _)
      ekeyV (Memref.isWhole_whole _) evalV (Memref.isWhole_whole _) shV (Memref.isWhole_whole _)
      cc0_scratch8 cc0_scoped0 cc0_scoped1 cc0_scoped2 cc0_scoped3 cc0_scoped4 cc0_scoped5 cc0_scoped6 cc0_scoped7 cc0_scoped8
      (rn k 15) (cum k 15 4)) (tabPost d L k f 17 ⟨0#32, 0#32, 4096#32⟩) := by
  simp only [k0_part19_eq_skeleton]; unfold k0_part19_skel
  iintro ⟨Ha, Hs⟩
  sl_exec
  sl_step
  isplitr
  · ipureintro; rfl
  isplitl [Ha]; · iexact Ha
  ihave H := (st_done_last d L k f 15 240 256 inb_S272_S16_240 inb_S272_S16_256 _ _) $$ Hs
  iapply H
  · ipureintro; exact ⟨rfl, rfl⟩
  · ipureintro
    rw [← store_group k 15 (by decide)]
    simp only [read_tv, Nat.reduceMod, Nat.reduceDiv, cum_succ, cum_zero]
    rfl
  · ipureintro
    rw [← store_last k, ← run_next k 15 inpos_S16_p15]
    simp only [read_tv, Nat.reduceMod, Nat.reduceDiv, cum_succ, cum_zero]
    rfl

end Cert.Proof.Sc
-- ==== Proof.Tile.lean ====
/-
  A task whole, from its own memory and semaphores and what the call hands it.
-/
module

public import proofs.«01_k».proof.Proof.Trip
public import proofs.«01_k».proof.Proof.Parts

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

variable (kb : (d : Dev nD) → Buf (Elt F) (kLoc d)) (vb : (d : Dev nD) → Buf (Elt F) (vLoc d)) (ob : (d : Dev nD) → Buf (Elt F) (oLoc d))

/-! ## A task's own memory and semaphores, one by one -/

omit [FloatOps F] in
/-- Listed elements of a set taken out of a conjunction over it. -/
theorem take_list {I : Type} [DecidableEq I] (S : Finset I) (l : List I) (hl : l.Nodup) (hS : ∀ i ∈ l, i ∈ S) (Φ : I → sProp (𝕄 F)) :
    bigSep S Φ = iprop(bigSepL l Φ ∗ bigSep (S \ l.toFinset) Φ) := by
  rw [SparseCore.bigSep_sdiff_split' (t := l.toFinset) (fun i hi => hS i (List.mem_toFinset.mp hi)), bigSep_eq_bigSepL l hl]

abbrev scr (b : Ref sig .scVector) : DevRef τ sig := (Proc.scVector (cV L) (jV L)).devRef b
abbrev scrs : List (Ref sig .scVector) := [cc0_scratch0, cc0_scratch1, cc0_scratch2, cc0_scratch3, cc0_scratch4, cc0_scratch5, cc0_scratch6]
abbrev sems : List (SemLoc sig) := [.dma cc0_scoped0.sem, .dma cc0_scoped1.sem, .dma cc0_scoped2.sem, .dma cc0_scoped3.sem, .dma cc0_scoped4.sem, .dma cc0_scoped7.sem, .dma cc0_scratch8.sem]

omit [FloatOps F] in
theorem ownBufs_V :
    (ownBufs (thr d L) : sProp (𝕄 F))
      = iprop(((∃ f, keyP d L f) ∗ (∃ f, cntP d L f) ∗ (∃ f, allP d L f) ∗ (∃ f, startP d L f) ∗ (∃ f, slabP d L f) ∗ (∃ f, ekeyP d L f) ∗ ∃ f, evalP d L f)
          ∗ bigSep (ownRefs (τ := τ) (.scVector (cV L) (jV L)) \ (scrs.map (scr L)).toFinset) fun b => iprop(∃ f, ((d, b) : Loc nD τ sig) ↦{fullShare} f)) := by
  unfold SparseCore.Cfg.ownBufs
  refine (take_list _ (scrs.map (scr L)) ?_ ?_ _).trans rfl
  · exact List.Nodup.map (Proc.devRef_injective (Proc.scVector (cV L) (jV L))) (by decide)
  · intro b hb
    obtain ⟨x, hx, rfl⟩ := List.mem_map.mp hb
    refine SparseCore.Cfg.mem_ownRefs_of_owner (p := Proc.scVector (cV L) (jV L)) (b := scr L x) ?_
    simp only [scrs, List.mem_cons, List.not_mem_nil, _root_.or_false] at hx
    rcases hx with rfl | rfl | rfl | rfl | rfl | rfl | rfl <;> rfl

omit [FloatOps F] in
theorem ownSems0_V :
    (ownSems0 (thr d L) : sProp (𝕄 F))
      = iprop((dmaP d L cc0_scoped0 ∗ dmaP d L cc0_scoped1 ∗ dmaP d L cc0_scoped2 ∗ dmaP d L cc0_scoped3 ∗ dmaP d L cc0_scoped4 ∗ dmaP d L cc0_scoped7 ∗ dmaP d L cc0_scratch8)
          ∗ bigSep (ownCells (thr d L) \ (sems.map fun s => ((thr d L, s) : GSem nD τ sig)).toFinset) fun g => semVal g 0) := by
  unfold SparseCore.Cfg.ownSems0
  refine (take_list _ (sems.map fun s => ((thr d L, s) : GSem nD τ sig)) ?_ ?_ _).trans rfl
  · exact List.Nodup.map (fun a b h => (Prod.mk.inj h).2) (by decide)
  · intro g hg
    obtain ⟨s, hs, rfl⟩ := List.mem_map.mp hg
    exact mem_ownCells.mpr ⟨rfl, (show ∀ s ∈ sems, s.isScoped .scVector = true by decide) s hs⟩

/-- A step whose result is known, then the rest. -/
theorem bind_run {α β : Type} {p : Prog (TpuEff nD τ sig (Elt F) Λ₀ (Proc.scVector (cV L) (jV L))) α} {k : α → Prog (TpuEff nD τ sig (Elt F) Λ₀ (Proc.scVector (cV L) (jV L))) β} {A B : sProp (𝕄 F)} {r₀ : α} {Q : β → sProp (𝕄 F)}
    (h : A ⊢ wp frame (wpE (defs₀ (F := F)) 𝒱₀ (thr d L) none) Set.univ p (fun r => iprop(⌜r = r₀⌝ ∗ B))) :
    iprop(A ∗ (B -∗ wp frame (wpE (defs₀ (F := F)) 𝒱₀ (thr d L) none) Set.univ (k r₀) Q)) ⊢ wp frame (wpE (defs₀ (F := F)) 𝒱₀ (thr d L) none) Set.univ (p >>= k) Q := by
  rw [wp_bind]
  iintro ⟨HA, HR⟩
  iapply (wp_wand_r Idealize.ShloMosaic.frame (wpE (defs₀ (F := F)) 𝒱₀ (thr d L) none) Set.univ)
  isplitl [HA]
  · iapply h $$ HA
  iintro %r ⟨%hr, HB⟩
  subst hr
  iapply HR $$ HB

omit [FloatOps F] in
theorem stG_zero (k : ℕ → ℕ) (f : S272.Idx → BitVec 32) : stG k 0 f = f :=
  funext fun j => if_neg (by omega)

theorem zero_all (f : S16x4096.Idx → F .f32) (h : zeroTo 4096 f) : f = fun _ => fz :=
  funext fun j => h j (by
    have j0 : (j 0).val < 16 := (j 0).isLt
    have j1 : (j 1).val < 4096 := (j 1).isLt
    omega)

theorem oDone_zero : oDone d L kb vb ob 0 = (oBlks d (cV L) (jL L) (ob d) : sProp (𝕄 F)) :=
  bigSep_congr fun (t : Fin 8) _ => by rw [if_neg (Nat.not_lt_zero _)]
theorem oDone_eight : oDone d L kb vb ob 8 = (oBlks d (cV L) (jL L) (out kb vb d) : sProp (𝕄 F)) :=
  bigSep_congr fun (t : Fin 8) _ => by rw [if_pos t.isLt]

set_option maxHeartbeats 8000000 in
theorem tile_body (hF : (K (F := F)).Facts) (hk : Sorted (kn kb d)) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit kb d (cV L) (jV L)
        ∗ goP kb vb ob d (cV L) (jL L)
        ∗ scopedBufs (thr d L) ∗ scopedSems0 (thr d L) ∗ owes (thr d L) (O + oxV d (cV L)) W)
      ⊢ wp frame (wpE (defs₀ (F := F)) 𝒱₀ (thr d L) none) Set.univ
          (cc0__body L kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8)
          fun _ => iprop((tdP kb vb d (cV L) (jL L) ∗ semVal (bcell d (cV L) (jV L)) 0)
            ∗ scopedBufs (thr d L) ∗ scopedSems0 (thr d L)
            ∗ ∃ W', ⌜∀ p ∈ W', p ∈ W ∨ p.2 = none ∨ p.2 = some (0 : Fin 1)⌝ ∗ owes (thr d L) O W') := by
  rw [cc0__body_eq_skeleton]; unfold cc0__body_skel
  rw [(K (F := F)).scopedBufs_V hF d (cV L) (jV L), SparseCore.Cfg.scopedSems0_V (Val := Elt F) d (cV L) (jV L), ownSems0_V, ownBufs_V]
  unfold bkit goP tdP
  iintro ⟨#Hlv, ⟨⟨%κ, #Hinv⟩, Htoks, #Hrch, Hat, Hcred⟩, ⟨Hk, Hv, Ho, Hsh⟩, ⟨⟨Hkey, ⟨%fc, Hcnt⟩, Hall, ⟨%fst, Hst⟩, ⟨%fs, Hs⟩, Hek, Hev⟩, Hbufs⟩, ⟨⟨Hs0, Hs1, Hs2, Hs3, Hs4, Hs7, Hs8⟩, Hsems⟩, HO⟩
  -- the counts cleared, filled, exchanged
  iapply (bind_run d L (part2_run d L fc))
  isplitl [Hcnt]; · iexact Hcnt
  iintro Hcnt; dsimp only
  iapply (bind_run d L (part3_run d L kb hk (tq (cV L) (jL L)) κ O W hO hOlev))
  isplitl [Htoks Hat Hcred Hk Hkey Hcnt Hall Hsh Hs0 Hs1 Hs2 HO]
  · isplitr; · iexact Hlv
    isplitr; · iexact Hinv
    isplitr; · iexact Hrch
    isplitl [Htoks Hat Hcred]
    · isplitl [Htoks]; · iexact Htoks
      isplitl [Hat]; · iexact Hat
      iexact Hcred
    isplitl [Hk]; · iexact Hk
    isplitl [Hkey]; · iexact Hkey
    isplitl [Hcnt]; · iexact Hcnt
    isplitl [Hall]; · iexact Hall
    isplitl [Hsh]; · iexact Hsh
    isplitl [Hs0]; · iexact Hs0
    isplitl [Hs1]; · iexact Hs1
    isplitl [Hs2]; · iexact Hs2
    iexists _; isplitr; swap; · iexact HO
    ipureintro; exact fun p hp => .inl hp
  iintro ⟨Hk, Hkey, Hcnt, Hall, Hrow, Htab, Hbar, Hs0, Hs1, Hs2, %W1, %hW1, HO⟩; dsimp only
  -- the table of first positions
  ihave Ht := (Entails.of_eq (show iprop(allP d L (histBuf (kn kb d)) ∗ startP d L fst) = (iprop(allP d L (histBuf (kn kb d)) ∗ startP d L (stG (kn kb d) 0 fst)) : sProp (𝕄 F)) by
    rw [stG_zero])) $$ [Hall Hst]
  · isplitl [Hall] <;> iassumption
  iapply (bind_run d L (part4_run d L (kn kb d) fst)); isplitl [Ht]; · iexact Ht
  iintro Ht; dsimp only
  iapply (bind_run d L (part5_run d L (kn kb d) fst)); isplitl [Ht]; · iexact Ht
  iintro Ht; dsimp only
  iapply (bind_run d L (part6_run d L (kn kb d) fst)); isplitl [Ht]; · iexact Ht
  iintro Ht; dsimp only
  iapply (bind_run d L (part7_run d L (kn kb d) fst)); isplitl [Ht]; · iexact Ht
  iintro Ht; dsimp only
  iapply (bind_run d L (part8_run d L (kn kb d) fst)); isplitl [Ht]; · iexact Ht
  iintro Ht; dsimp only
  iapply (bind_run d L (part9_run d L (kn kb d) fst)); isplitl [Ht]; · iexact Ht
  iintro Ht; dsimp only
  iapply (bind_run d L (part10_run d L (kn kb d) fst)); isplitl [Ht]; · iexact Ht
  iintro Ht; dsimp only
  iapply (bind_run d L (part11_run d L (kn kb d) fst)); isplitl [Ht]; · iexact Ht
  iintro Ht; dsimp only
  iapply (bind_run d L (part12_run d L (kn kb d) fst)); isplitl [Ht]; · iexact Ht
  iintro Ht; dsimp only
  iapply (bind_run d L (part13_run d L (kn kb d) fst)); isplitl [Ht]; · iexact Ht
  iintro Ht; dsimp only
  iapply (bind_run d L (part14_run d L (kn kb d) fst)); isplitl [Ht]; · iexact Ht
  iintro Ht; dsimp only
  iapply (bind_run d L (part15_run d L (kn kb d) fst)); isplitl [Ht]; · iexact Ht
  iintro Ht; dsimp only
  iapply (bind_run d L (part16_run d L (kn kb d) fst)); isplitl [Ht]; · iexact Ht
  iintro Ht; dsimp only
  iapply (bind_run d L (part17_run d L (kn kb d) fst)); isplitl [Ht]; · iexact Ht
  iintro Ht; dsimp only
  iapply (bind_run d L (part18_run d L (kn kb d) fst)); isplitl [Ht]; · iexact Ht
  iintro Ht; dsimp only
  iapply (bind_run d L (part19_run d L (kn kb d) fst)); isplitl [Ht]; · iexact Ht
  iintro Ht; dsimp only
  icases Ht with ⟨Hall, Hst⟩
  rw [stG_all]
  -- the block's memory zeroed
  sl_for (t3_inv (F := F) d L) $$ [Hs]
  case region =>
    intro k acc'
    exact t3_step d L k acc'
  · unfold t3_inv
    iexists _; isplitr; swap; · iexact Hs
    ipureintro; exact fun j hj => absurd hj (by omega)
  iintro %_ HI
  unfold t3_inv
  icases HI with ⟨%fz', %hz, Hs⟩
  ihave Hs := (Entails.of_eq (show (slabP d L fz' : sProp (𝕄 F)) = slabP d L (fun _ => fz) by rw [zero_all fz' hz])) $$ Hs
  -- the eight blocks
  ihave Hmw := (show levAts (K (F := F)).L (K (F := F)).lev ⊢ Transfers.MayWaits (thr d L) (default : HIx 1) O from
    (K (F := F)).mayWaits_none (thr := thr d L) hO) $$ Hlv
  sl_for (t4_inv d L kb vb ob (tq (cV L) (jL L)) O W1) $$ [Hmw Hk Hv Hst Hek Hev Hs Ho Hs3 Hs4 Hs7 Hs8 HO]
  case region =>
    intro k acc'
    exact t4_step d L kb vb ob hk _ O W1 k acc'
  · unfold t4_inv
    isplitl [Hmw]; · iexact Hmw
    isplitl [Hk]; · iexact Hk
    isplitl [Hv]; · iexact Hv
    isplitl [Hst]; · iexact Hst
    isplitl [Hek]; · iexact Hek
    isplitl [Hev]; · iexact Hev
    isplitl [Hs]; · iexact Hs
    isplitl [Ho]; · rw [oDone_zero]; iexact Ho
    isplitl [Hs3]; · iexact Hs3
    isplitl [Hs4]; · iexact Hs4
    isplitl [Hs7]; · iexact Hs7
    isplitl [Hs8]; · iexact Hs8
    iexists _; isplitr; swap; · iexact HO
    ipureintro; exact fun p hp => .inl hp
  iintro %_ HI
  unfold t4_inv
  icases HI with ⟨-, -, -, Hst, Hek, Hev, Hs, Ho, Hs3, Hs4, Hs7, Hs8, %W2, %hW2, HO⟩
  ihave Ho := (Entails.of_eq (show (oDone d L kb vb ob (Scf.trips k0_t4_loop.lb k0_t4_loop.ub k0_t4_loop.st) : sProp (𝕄 F)) = _ from oDone_eight d L kb vb ob)) $$ Ho
  ihave Htab := (Entails.of_eq (shWhole d (cV L) (shq (jL L)) (hb kb d (cV L)))) $$ Htab
  sl_step
  isplitl [Ho Hrow Htab Hbar]
  · isplitr [Hbar]; swap; · iexact Hbar
    isplitl [Ho]; · iexact Ho
    isplitl [Hrow]; · iexact Hrow
    iexact Htab
  isplitl [Hkey Hcnt Hall Hst Hs Hek Hev Hbufs]
  · isplitr [Hbufs]; swap; · iexact Hbufs
    isplitl [Hkey]; · iexact Hkey
    isplitl [Hcnt]; · iexact Hcnt
    isplitl [Hall]; · iexists _; iexact Hall
    isplitl [Hst]; · iexists _; iexact Hst
    isplitl [Hs]; · iexists _; iexact Hs
    isplitl [Hek]; · iexact Hek
    iexact Hev
  isplitl [Hs0 Hs1 Hs2 Hs3 Hs4 Hs7 Hs8 Hsems]
  · isplitr [Hsems]; swap; · iexact Hsems
    isplitl [Hs0]; · iexact Hs0
    isplitl [Hs1]; · iexact Hs1
    isplitl [Hs2]; · iexact Hs2
    isplitl [Hs3]; · iexact Hs3
    isplitl [Hs4]; · iexact Hs4
    isplitl [Hs7]; · iexact Hs7
    iexact Hs8
  iexists _; isplitr; swap; · iexact HO
  ipureintro; intro p hp
  rcases hW2 p hp with h | h
  · exact hW1 p h
  · exact .inr (.inl h)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
        kV (Memref.isWhole_whole _) vV (Memref.isWhole_whole _) oV (Memref.isWhole_whole _)
        keyV (Memref.isWhole_whole _) cntV (Memref.isWhole_whole _) allV (Memref.isWhole_whole _) startV (Memref.isWhole_whole _) slabV (Memref.isWhole_whole _)
        ekeyV (Memref.isWhole_whole _) evalV (Memref.isWhole_whole _) shV (Memref.isWhole_whole _)
        cc0_scratch8 cc0_scoped0 cc0_scoped1 cc0_scoped2 cc0_scoped3 cc0_scoped4 cc0_scoped5 cc0_scoped6 cc0_scoped7 cc0_scoped8) ⟨⟩ c s := rfl

set_option maxRecDepth 16384 in
theorem tileObl (kb : (d : Dev nD) → Buf (Elt F) (kLoc d)) (vb : (d : Dev nD) → Buf (Elt F) (vLoc d)) (ob : (d : Dev nD) → Buf (Elt F) (oLoc d))
    (hF : (K (F := F)).Facts) (hk : ∀ d, Sorted (kn kb d)) : (K (F := F)).TileObl (D (F := F)) 𝒱 (P kb vb ob) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) kb vb ob hF (hk d) O W hO hOlev

end Cert.Proof.Sc
-- ==== Proof.Deal.lean ====
/-
  The call's operands dealt to its tasks and their results put back together: a SparseCore's shares of the keys and
  values, its blocks of the result and its shared table, to its sixteen tasks and back.
-/
module

public import proofs.«01_k».proof.Proof.Tile

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (kb : (d : Dev nD) → Buf (Elt F) (kLoc d)) (vb : (d : Dev nD) → Buf (Elt F) (vLoc d)) (ob : (d : Dev nD) → Buf (Elt F) (oLoc d))

/-! ## Read shares -/

theorem kDeal (d : Dev nD) (c : Fin 2) : kPts kb d (cq c) ⊢ (bigSep Finset.univ fun i : Fin 16 => kPts kb d (tq c i) : sProp (𝕄 F)) :=
  (Transfers.pointsTo_toks_split (cq c) 16).trans sep_elim_right
theorem vDeal (d : Dev nD) (c : Fin 2) : vPts vb d (cq c) ⊢ (bigSep Finset.univ fun i : Fin 16 => vPts vb d (tq c i) : sProp (𝕄 F)) :=
  (Transfers.pointsTo_toks_split (cq c) 16).trans sep_elim_right
theorem kDeal₂ (d : Dev nD) : (kLoc d ↦{fullShare} kb d) ⊢ (bigSep Finset.univ fun c : Fin 2 => kPts kb d (cq c) : sProp (𝕄 F)) :=
  (Transfers.pointsTo_toks_split fullShare 2).trans sep_elim_right
theorem vDeal₂ (d : Dev nD) : (vLoc d ↦{fullShare} vb d) ⊢ (bigSep Finset.univ fun c : Fin 2 => vPts vb d (cq c) : sProp (𝕄 F)) :=
  (Transfers.pointsTo_toks_split fullShare 2).trans sep_elim_right

/-! ## The blocks of the result -/

theorem oNum_injective : Function.Injective oNum := fun x y h => by
  have h' := congrArg Fin.val h
  simp only [oNum] at h'
  have := x.2.1.isLt; have := x.2.2.isLt; have := y.2.1.isLt; have := y.2.2.isLt
  exact Prod.ext (Fin.ext (by omega)) (Prod.ext (Fin.ext (by omega)) (Fin.ext (by omega)))

theorem oSet_disjoint : ∀ x ∈ (Finset.univ : Finset OIx), ∀ y ∈ (Finset.univ : Finset OIx), x ≠ y → Disjoint (oSet x) (oSet y) :=
  fun _ _ _ _ h => Rect.part_disjoint odiv fun e => h (oNum_injective e)

theorem oSet_cover : (Finset.univ : Finset OIx).biUnion oSet = Finset.univ := by
  refine Finset.eq_univ_of_forall fun j => ?_
  have hj : j ∈ (Finset.univ : Finset (Fin 256)).biUnion fun i => (Rect.part (s := S4096x4096) (a₀ := 0) odiv i).set := by
    rw [Rect.biUnion_part odiv]; exact Finset.mem_univ j
  obtain ⟨n, -, hn⟩ := Finset.mem_biUnion.mp hj
  have hn' := n.isLt
  refine Finset.mem_biUnion.mpr ⟨(⟨n.val / 128, by omega⟩, ⟨n.val / 8 % 16, by omega⟩, ⟨n.val % 8, by omega⟩), Finset.mem_univ _, ?_⟩
  have e : oNum (⟨n.val / 128, by omega⟩, ⟨n.val / 8 % 16, by omega⟩, ⟨n.val % 8, by omega⟩) = n := Fin.ext (by simp only [oNum]; omega)
  show j ∈ (Rect.part (s := S4096x4096) (a₀ := 0) odiv (oNum _)).set
  rw [e]; exact hn

/-- The result whole is every task's blocks. -/
theorem oWhole (d : Dev nD) (f : Buf (Elt F) (oLoc d)) :
    (oPts d f : sProp (𝕄 F)) = bigSep Finset.univ fun c : Fin 2 => bigSep Finset.univ fun i : Fin 16 => oBlks d c i f := by
  show (oLoc d ↦[Finset.univ]{fullShare} f : sProp (𝕄 F)) = _
  rw [show (Finset.univ : Finset (Shape.Idx S4096x4096)) = _ from oSet_cover.symm, pointsTo_biUnion Finset.univ (ℓ := oLoc d) oSet oSet_disjoint, bigSep_univ_prod]
  refine bigSep_congr fun c _ => ?_
  rw [bigSep_univ_prod]

/-! ## A SparseCore's operands to its tasks and back -/

theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

/-- The shared table is among the sequencer's own buffers: it is it, at some contents, and the rest. -/
theorem ownBufs_S (d : Dev nD) (c : Fin τ.nSC) :
    (ownBufs (S d c) : sProp (𝕄 F))
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- What each task kept of its row and its share of the whole table are the table whole. -/
theorem shJoin (d : Dev nD) (c : Fin τ.nSC) (f : Buf (Elt F) (shLoc d c)) :
    iprop((bigSep Finset.univ fun i : Fin 16 => shPts d c i shd f)
        ∗ bigSep Finset.univ fun i : Fin 16 => bigSep Finset.univ fun r : Fin 16 => shPts d c r (shq i) f)
      ⊢ (shLoc d c ↦{fullShare} f : sProp (𝕄 F)) := by
  rw [← shWhole d c shd f, bigSep_congr (s := Finset.univ) (fun (i : Fin 16) _ => (shWhole d c (shq i) f).symm)]
  exact Transfers.pointsTo_toks_join fullShare 16

theorem vecSplit : (K (F := F)).VecSplit (P kb vb ob) 0 := by
  intro d c
  show iprop(iprop(kPts kb d (cq (Fin.cast nCore_zero c)) ∗ vPts vb d (cq (Fin.cast nCore_zero c))
        ∗ bigSep Finset.univ fun i : Fin 16 => oBlks d (Fin.cast nCore_zero c) i (ob d)) ∗ ownBufs (S d (coreOf c))) ⊢ |={Set.univ}=> iprop(
      (bigSep Finset.univ fun i : Fin ((K (F := F)).nSub 0) => goP kb vb ob d (coreOf c) (Fin.cast nSub_zero i))
      ∗ ((bigSep Finset.univ fun i : Fin ((K (F := F)).nSub 0) =>
            iprop(tdP kb vb d (coreOf c) (Fin.cast nSub_zero i) ∗ semVal (bcell d (coreOf c) ((K (F := F)).sub 0 i)) 0))
          -∗ iprop(iprop((bigSep Finset.univ fun i : Fin 16 => oBlks d (Fin.cast nCore_zero c) i (out kb vb d)) ∗ bars d c) ∗ ownBufs (S d (coreOf c)))))
  rw [bigSep_sep' _ (fun i : Fin ((K (F := F)).nSub 0) => tdP kb vb d (coreOf c) (Fin.cast nSub_zero i)),
    bigSep_tasks (F := F) (fun i => goP kb vb ob d (coreOf c) i),
    bigSep_tasks (F := F) (fun i => tdP kb vb d (coreOf c) i)]
  unfold goP tdP
  rw [bigSep_sep', bigSep_sep', bigSep_sep', bigSep_sep', bigSep_sep', ownBufs_S]
  iintro ⟨⟨Hk, Hv, Ho⟩, ⟨%fsh, Hsh⟩, Hrest⟩; imodintro
  isplitl [Hk Hv Ho Hsh]
  · isplitl [Hk]; · iapply (kDeal kb d (Fin.cast nCore_zero c)); iexact Hk
    isplitl [Hv]; · iapply (vDeal vb d (Fin.cast nCore_zero c)); iexact Hv
    isplitl [Ho]; · iexact Ho
    ihave Hsh' := ((Entails.of_eq (shWhole d (coreOf c) fullShare fsh)).trans (SparseCore.ent (bigSep_mono (Φ := fun i => shPts (F := F) d (coreOf c) i fullShare fsh)
      (Ψ := fun i => iprop(∃ f, shPts (F := F) d (coreOf c) i fullShare f))
      fun i _ => BI.BIClass.exists_intro (Φ := fun f => shPts (F := F) d (coreOf c) i fullShare f) fsh))) $$ Hsh
    iexact Hsh'
  iintro ⟨⟨Ho, Hrow, Htab⟩, Hbars⟩
  isplitl [Ho Hbars]
  · isplitl [Ho]; · iexact Ho
    iexact Hbars
  isplitl [Hrow Htab]
  · iexists _
    iapply (shJoin d (coreOf c) (hb kb d (coreOf c)))
    isplitl [Hrow]; · iexact Hrow
    iexact Htab
  iexact Hrest

end Cert.Proof.Sc
-- ==== Proof.Launch.lean ====
/-
  The launch: the certificate's ghost state dealt to the tasks, and @main on the TensorCore — a line of host operations,
  then the call, which every SparseCore and every one of its tasks takes part in.
-/
module

public import proofs.«01_k».proof.Proof.Deal
public import Idealize.ShloMosaic.Lib.Pipeline.Frame

@[expose] public section

noncomputable section

namespace Cert.Proof.Sc

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after launchContents tcRefs)
open Idealize.ShloMosaic.Pipeline (ucRefs)
open Idealize.ShloMosaic.Tactic

variable {F : FTy → Type} [FloatOps F]

/-! ## The launch element of the ghost state, and what the launch hands over -/

abbrev DCI : Type := Dev nD × Fin τ.nSC × Fin τ.nSub
abbrev bcell₃ (x : DCI) : GSem nD τ sig := bcell x.1 x.2.1 x.2.2

/-- The tasks' barrier cells: of the free semaphores, the ones taken at the launch. -/
def bCells : Finset (GSem nD τ sig) := Finset.univ.image bcell₃
/-- Task `i`'s token in task `j`'s cell, for every pair of tasks of a SparseCore. -/
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp (𝕄 F)) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every task's barrier semaphore at zero, out of the free semaphores the launch hands over. -/
theorem sems_b : ((K (F := F)).freeOn (· ∈ bCells) : sProp (𝕄 F)) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp (𝕄 F))) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ dci)⟩)

section
variable (kb : (d : Dev nD) → Buf (Elt F) (kLoc d)) (vb : (d : Dev nD) → Buf (Elt F) (vLoc d)) (ob : (d : Dev nD) → Buf (Elt F) (oLoc d))

/-- The barrier cells' invariants, allocated at once. -/
theorem invs_b : iprop((bigSep bCells fun g => (semVal g 0 : sProp (𝕄 F))) ∗ bigSep bCells fun g => roundState EB (bRd kb) g 0)
    ⊢ |={Set.univ}=> iprop(∃ κ : GSem nD τ sig → ℕ, bigSep bCells fun g => cellInv EB (bRd kb) (κ g) g) := by
  refine (Rounds.bodies_intro EB (bRd kb) bCells).trans ((inv_alloc_family bCells (Rounds.body EB (bRd kb)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

/-- The credit for the tasks' own debts, regrouped: each task the sixteen units of its own cell. -/
theorem creds_b : ((P kb vb ob).oxCred : sProp (𝕄 F)) ⊢ bigSep (Finset.univ : Finset DCI) fun dci : DCI => cred (tallyAt (bcell₃ dci) (some 0) (grid0.bound 1)) := by
  unfold SparseCore.Cfg.Pay.oxCred
  rw [SparseCore.Cfg.bigSep_threads (fun thr : Thread nD τ => (cred ((P kb vb ob).oxFrom 0 thr) : sProp (𝕄 F)))]
  refine sep_elim_right.trans (sep_elim_right.trans ?_)
  rw [bigSep_univ_prod, bigSep_univ_prod (fun dci : DCI => (cred (tallyAt (bcell₃ dci) (some 0) (grid0.bound 1)) : sProp (𝕄 F)))]
  refine bigSep_mono fun d _ => ?_
  rw [bigSep_univ_prod, bigSep_univ_prod (fun ci : Fin τ.nSC × Fin τ.nSub => (cred (tallyAt (bcell₃ (d, ci)) (some 0) (grid0.bound 1)) : sProp (𝕄 F)))]
  refine bigSep_mono fun c _ => ?_
  dsimp only
  have hox : ∀ i, (P kb vb ob).oxFrom 0 (V d c i) = oxV d c := fun i => by
    rw [show (0 : ℕ) = (0 : Fin 1).val from rfl, (P kb vb ob).oxFrom_step, (P kb vb ob).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp (𝕄 F)} [BI.Persistent R] {s : Finset I} {Φ Ψ : I → sProp (𝕄 F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp (𝕄 F)))
    = bigSep (Finset.univ : Finset DCI) fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P kb vb ob).x q (SparseCore.T d)) = iprop(emp) :=
  bigSep_univ_of_subsingleton (0 : Fin 1)
theorem Px_S (d : Dev nD) (c : Fin τ.nSC) : (bigSep Finset.univ fun q : Fin 1 => (P kb vb ob).x q (S d c)) = iprop(emp) :=
  bigSep_univ_of_subsingleton (0 : Fin 1)
theorem Px_V (d : Dev nD) (c : Fin τ.nSC) (i : Fin τ.nSub) :
    (bigSep Finset.univ fun q : Fin 1 => (P kb vb ob).x q (V d c i)) = bkit kb d c i :=
  bigSep_univ_of_subsingleton (0 : Fin 1)

omit [FloatOps F] in
theorem bCells_eq (Φ : GSem nD τ sig → sProp (𝕄 F)) : bigSep bCells Φ = bigSep (Finset.univ : Finset DCI) fun x : DCI => Φ (bcell₃ x) := by
  unfold bCells; exact SparseCore.bigSep_image_of_injOn (fun a _ b _ e => bcell₃_injective e) Φ

/-- What every task is handed alike: every barrier cell's invariant, and that each has reached round 0. -/
abbrev shared : sProp (𝕄 F) :=
  iprop((∃ κ : GSem nD τ sig → ℕ, bigSep (Finset.univ : Finset DCI) fun x : DCI => cellInv EB (bRd kb) (κ (bcell₃ x)) (bcell₃ x))
    ∗ bigSep (Finset.univ : Finset DCI) fun x : DCI => reached EB (bcell₃ x) 0)
/-- What each task is handed of its own: its position, its tokens, its credit. -/
abbrev mine (dci : DCI) : sProp (𝕄 F) :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One task's kit out of those. -/
theorem kit_intro (dci : DCI) : iprop(shared kb ∗ mine dci) ⊢ (bkit kb dci.1 dci.2.1 dci.2.2 : sProp (𝕄 F)) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep (Finset.univ : Finset DCI) fun x : DCI => cellInv EB (bRd kb) (κ (bcell₃ x)) (bcell₃ x)) fun j _ =>
        sep_elim_left.trans (bigSep_elim (Φ := fun x : DCI => (cellInv EB (bRd kb) (κ (bcell₃ x)) (bcell₃ x) : sProp (𝕄 F)))
          (Finset.mem_univ ((d, c, Fin.castLE hsub0 j) : DCI)))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep (Finset.univ : Finset DCI) fun x : DCI => reached EB (bcell₃ x) 0) fun j _ =>
        sep_elim_left.trans (bigSep_elim (Φ := fun x : DCI => (reached EB (bcell₃ x) 0 : sProp (𝕄 F))) (Finset.mem_univ ((d, c, Fin.castLE hsub0 j) : DCI)))))
    isplitl; · iexact Hr
    rw [bigSep_emp']; iempintro
  isplitl [Hat]; · iexact Hat
  iexact Hcred

/-- Each task its kit. -/
theorem kits_deal :
    iprop(shared kb ∗ (bigSep (Finset.univ : Finset DCI) fun x : DCI => atPos EB (bcell₃ x) 0 ∅ 0)
        ∗ (bigSep (Finset.univ : Finset DCI) fun dci : DCI => bigSep Finset.univ fun j : Fin (grid0.bound 1) => dutyTok EB (bcell dci.1 dci.2.1 (j.castLE hsub0)) 0 dci.2.2.val)
        ∗ (bigSep (Finset.univ : Finset DCI) fun dci : DCI => cred (tallyAt (bcell₃ dci) (some 0) (grid0.bound 1))))
      ⊢ (bigSep Finset.univ fun thr : Thread nD τ => bigSep Finset.univ fun q : Fin 1 => (P kb vb ob).x q thr : sProp (𝕄 F)) := by
  rw [SparseCore.Cfg.bigSep_threads (fun thr : Thread nD τ => bigSep Finset.univ fun q : Fin 1 => (P kb vb ob).x q thr)]
  simp only [Px_T, Px_S, Px_V, bigSep_emp']
  iintro ⟨#Hsh, Hat, Htok, Hcred⟩
  isplitr; · iempintro
  isplitr; · iempintro
  iapply (bigSep_mono_frame (R := shared kb) (Φ := mine (F := F)) fun dci _ => kit_intro kb dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P kb vb ob).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P kb vb ob).x q thr) : sProp (𝕄 F)) := by
  unfold u₀
  iintro ⟨Hu, Hcred, Hfree⟩
  ihave H := (ownU_split _ _) $$ Hu
  icases H with ⟨HH, HB⟩
  imod (Rounds.fund EB (bRd kb) bCells bToks) $$ HB with ⟨Hst, #Hr, Hat, Htok⟩
  ihave Hsems := (sems_b (F := F)) $$ Hfree
  imod (invs_b kb) $$ [Hsems Hst] with ⟨%κ, #Hinv⟩
  · isplitl [Hsems] <;> iassumption
  ihave Hcred' := (creds_b kb vb ob) $$ Hcred
  ihave Hinv' := (Entails.of_eq (bCells_eq (F := F) fun g => cellInv EB (bRd kb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal kb vb ob)
  isplitr
  · isplitl; · iexists κ; iexact Hinv'
    iexact Hr'
  isplitl [Hat']; · iexact Hat'
  isplitl [Htok']; · iexact Htok'
  iexact Hcred'

/-! ## What the call takes and hands back, over both SparseCores -/

theorem cores_eq (Φ : Fin 2 → sProp (𝕄 F)) :
    (bigSep Finset.univ fun c : Fin ((K (F := F)).nCore 0) => Φ (Fin.cast nCore_zero c)) = bigSep Finset.univ Φ :=
  bigSep_congr fun _ _ => congrArg Φ (Fin.ext rfl)

theorem st_intro (d : Dev nD) :
    iprop((kLoc d ↦{fullShare} kb d) ∗ (vLoc d ↦{fullShare} vb d) ∗ oPts d (ob d))
      ⊢ (bigSep Finset.univ fun c : Fin ((K (F := F)).nCore 0) => (P kb vb ob).st 0 d c : sProp (𝕄 F)) := by
  refine Idealize.SL.BI.BIBase.Entails.trans ?_ (Entails.of_eq (cores_eq (F := F) fun c : Fin 2 =>
    iprop(kPts kb d (cq c) ∗ vPts vb d (cq c) ∗ bigSep Finset.univ fun i : Fin 16 => oBlks d c i (ob d))).symm)
  rw [bigSep_sep', bigSep_sep', oWhole]
  iintro ⟨Hk, Hv, Ho⟩
  isplitl [Hk]; · iapply (kDeal₂ kb d); iexact Hk
  isplitl [Hv]; · iapply (vDeal₂ vb d); iexact Hv
  iexact Ho

theorem dn_elim (d : Dev nD) :
    (bigSep Finset.univ fun c : Fin ((K (F := F)).nCore 0) => (P kb vb ob).dn 0 d c : sProp (𝕄 F))
      ⊢ iprop(oPts d (out kb vb d) ∗ bigSep Finset.univ fun c : Fin ((K (F := F)).nCore 0) => bars d c) := by
  show (bigSep Finset.univ fun c : Fin ((K (F := F)).nCore 0) =>
    iprop((bigSep Finset.univ fun i : Fin 16 => oBlks d (Fin.cast nCore_zero c) i (out kb vb d)) ∗ bars d c) : sProp (𝕄 F)) ⊢ _
  rw [bigSep_sep' _ (fun c : Fin ((K (F := F)).nCore 0) => bigSep Finset.univ fun i : Fin 16 => oBlks d (Fin.cast nCore_zero c) i (out kb vb d)), cores_eq (F := F) (fun c : Fin 2 => bigSep Finset.univ fun i : Fin 16 => oBlks d c i (out kb vb d)), oWhole]
end

/-! ## @main on the TensorCore -/

section
variable (m : (ℓ : Loc nD τ sig) → Buf (Elt F) ℓ) (ρ : Dev nD → PrngReg) (ops : List (HloOp τ sig (Elt F)))

abbrev k' : DevRef τ sig := Proc.devRef .tc (main_v10 : Ref sig .tc)
abbrev v' : DevRef τ sig := Proc.devRef .tc (main_v11 : Ref sig .tc)
abbrev o' : DevRef τ sig := Proc.devRef .tc (main_v12 : Ref sig .tc)
/-- The arrays the call uses. -/
abbrev S3 : Finset (DevRef τ sig) := {k', v', o'}

/-- A device's buffers after the host operations, and the call's three arrays then. -/
abbrev V1 (d : Dev nD) : Valuation τ sig (Elt F) := after ops (launchContents m d)
abbrev kb₁ (d : Dev nD) : Buf (Elt F) (kLoc d) := V1 m ops d k'
abbrev vb₁ (d : Dev nD) : Buf (Elt F) (vLoc d) := V1 m ops d v'
abbrev ob₁ (d : Dev nD) : Buf (Elt F) (oLoc d) := V1 m ops d o'

omit [FloatOps F] in
theorem held_S3 (d : Dev nD) (W : Valuation τ sig (Elt F)) :
    (held (T d) S3 W : sProp (𝕄 F)) = iprop((kLoc d ↦{fullShare} W k') ∗ (vLoc d ↦{fullShare} W v') ∗ (oLoc d ↦{fullShare} W o')) := by
  unfold held S3
  rw [SparseCore.bigSep_insert' (by decide), SparseCore.bigSep_insert' (by decide), bigSep_singleton]

omit [FloatOps F] in
theorem S3_sub : S3 ⊆ ucRefs τ sig := by
  have hk : k' ∈ ucRefs τ sig := Finset.mem_filter.mpr ⟨Finset.mem_map.mpr ⟨main_v10, Finset.mem_univ _, rfl⟩, by decide⟩
  have hv : v' ∈ ucRefs τ sig := Finset.mem_filter.mpr ⟨Finset.mem_map.mpr ⟨main_v11, Finset.mem_univ _, rfl⟩, by decide⟩
  have ho : o' ∈ ucRefs τ sig := Finset.mem_filter.mpr ⟨Finset.mem_map.mpr ⟨main_v12, Finset.mem_univ _, rfl⟩, by decide⟩
  intro b hb
  simp only [S3, Finset.mem_insert, Finset.mem_singleton] at hb
  rcases hb with rfl | rfl | rfl <;> assumption

/-- What @main leaves: every array but the call's as the host operations left it, the result, the barrier semaphores. -/
abbrev FIN (d : Dev nD) : sProp (𝕄 F) :=
  iprop(held (T d) (ucRefs τ sig \ S3) (V1 m ops d) ∗ oPts d (out (kb₁ m ops) (vb₁ m ops) d)
    ∗ bigSep Finset.univ fun c : Fin ((K (F := F)).nCore 0) => bars d c)

abbrev main' (d : Dev nD) : Prog (TpuEff nD τ sig (Elt F) (SparseCore.Sig (ΛP (F := F)) 1) .tc) PUnit :=
  seq ops >>= fun _ => sc.run d 0

theorem hmain (hS : ∀ op ∈ ops, op.bufs ⊆ tcRefs τ sig) (hfresh : ∀ op ∈ ops, op.fresh = ∅) (κ : GSem nD τ sig → ℕ) (d : Dev nD) :
    iprop((K (F := F)).ctx EH (P (kb₁ m ops) (vb₁ m ops) (ob₁ m ops)) κ ∗ (K (F := F)).tcSt EH d 0 ∗ (K (F := F)).tcRes m ρ d ∗ emp)
      ⊢ wp frame (wpE ((K (F := F)).defs (D (F := F))) 𝒱 (SparseCore.T d) none) Set.univ (main' ops d)
          fun _ => iprop((K (F := F)).tcSt EH d 1 ∗ FIN m ops d ∗ (K (F := F)).tcEnd d) := by
  unfold SparseCore.Cfg.tcRes SparseCore.Cfg.tcEnd
  rw [Pipeline.unscopedBufs_held d (launchContents m d)]
  iintro ⟨#Hctx, Hst, ⟨Hb, Hheld, Hts, -⟩, -⟩
  iapply (StableHlo.wp_seq (defs := (K (F := F)).defs (D (F := F))) 𝒱 none Set.univ d (ucRefs τ sig) (fun _ => sc.run d 0) ops
    (fun op h => Pipeline.sub_ucRefs op (hS op h)) hfresh (launchContents m d)) $$ [Hb Hheld]
  · isplitl [Hb]; · iexact Hb
    iexact Hheld
  iintro ⟨Hb, Hheld⟩
  ihave Hh := (Entails.of_eq (StableHlo.held_sub_split (T d) S3_sub (V1 m ops d))) $$ Hheld
  icases Hh with ⟨H3, Hrest⟩
  ihave H3' := (Entails.of_eq (held_S3 (F := F) d (V1 m ops d))) $$ H3
  icases H3' with ⟨Hk, Hv, Ho⟩
  iapply ((K (F := F)).wp_run (D (F := F)) 𝒱 (EH := EH) (P := P (kb₁ m ops) (vb₁ m ops) (ob₁ m ops)) κ d 0) $$ [Hst Hk Hv Ho Hb Hts Hrest]
  isplitr; · iexact Hctx
  isplitl [Hst]; · iexact Hst
  isplitl [Hk Hv Ho]
  · iapply (st_intro (kb₁ m ops) (vb₁ m ops) (ob₁ m ops) d)
    isplitl [Hk]; · iexact Hk
    isplitl [Hv]; · iexact Hv
    iexact Ho
  iintro ⟨Hst, Hdn⟩
  ihave Hdn' := (dn_elim (kb₁ m ops) (vb₁ m ops) (ob₁ m ops) d) $$ Hdn
  icases Hdn' with ⟨Ho, Hbars⟩
  isplitl [Hst]; · iexact Hst
  isplitr [Hb Hts]
  · isplitl [Hrest]; · iexact Hrest
    isplitl [Ho]; · iexact Ho
    iexact Hbars
  isplitl [Hb] <;> iassumption

def fq (d : Dev nD) (s' : Phys nD τ sig (Elt F)) : Prop :=
  (∀ b ∈ ucRefs τ sig \ S3, s'.mem.mem (d, b) = V1 m ops d b)
    ∧ s'.mem.mem (oLoc d) = out (kb₁ m ops) (vb₁ m ops) d
    ∧ ∀ (c : Fin ((K (F := F)).nCore 0)) (i : Fin ((K (F := F)).nSub 0)), s'.mem.sem (bcell d (coreOf c) ((K (F := F)).sub 0 i)) = 0

theorem hfin_rest (d : Dev nD) (s' : Phys nD τ sig (Elt F)) :
    iprop(held (T d) (ucRefs τ sig \ S3) (V1 m ops d) ∗ SI s') ⊢ (⌜∀ b ∈ ucRefs τ sig \ S3, s'.mem.mem (d, b) = V1 m ops d b⌝ : sProp (𝕄 F)) := by
  unfold held
  iintro ⟨H, HSI⟩
  ihave %h := (SI_pointsTo_bufs_agree (qs := fun _ => fullShare) (ucRefs τ sig \ S3)) $$ [HSI H]
  · isplitl [HSI]; · iexact HSI
    iexact H
  ipureintro; exact h

theorem hfin_o (d : Dev nD) (f : Buf (Elt F) (oLoc d)) (s' : Phys nD τ sig (Elt F)) : iprop(oPts d f ∗ SI s') ⊢ (⌜s'.mem.mem (oLoc d) = f⌝ : sProp (𝕄 F)) := by
  iintro ⟨Hx, HSI⟩
  ihave H := (SI_pointsTo_agree (st := s') (ℓ := oLoc d) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m ops d ∗ SI s') ⊢ (⌜fq m ops d s'⌝ : sProp (𝕄 F)) :=
  fun x hx => ⟨((sep_mono_left sep_elim_left).trans (hfin_rest m ops d s')) x hx,
    ((sep_mono_left (sep_elim_right.trans sep_elim_left)).trans (hfin_o d _ s')) x hx, fun c i =>
    ((sep_mono_left (sep_elim_right.trans (sep_elim_right.trans ((SparseCore.ent (bigSep_elim (Finset.mem_univ c))).trans
      (SparseCore.ent (bigSep_elim (Finset.mem_univ i))))))).trans (SparseCore.Cfg.semVal_zero_read _ s')) x hx⟩

/-- The cells taken at the launch end at zero. -/
theorem hA (s' : Phys nD τ sig (Elt F)) (h : ∀ d, fq m ops d s') (g : GSem nD τ sig) (hg : g ∈ bCells) : s'.mem.sem g = 0 := by
  obtain ⟨⟨d, c, i⟩, -, rfl⟩ := Finset.mem_image.mp hg
  exact (h d).2.2 ⟨c.val, c.isLt⟩ ⟨i.val, i.isLt⟩

/-- How the program ends: the result holds for each element the last value whose key names it, every other array what the
    host operations left there, every semaphore zero. -/
def QC : PUnit × MemSt nD τ sig (Elt F) → Prop := fun r =>
  (∀ d : Dev nD, r.2.mem (oLoc d) = out (kb₁ m ops) (vb₁ m ops) d ∧ ∀ b ∈ ucRefs τ sig \ S3, r.2.mem (d, b) = V1 m ops d b)
    ∧ r.2.sem = fun _ => 0

/-- The run of any line of host operations followed by the call, when the keys it leaves are in order and below 2²⁴. -/
theorem run_ops [∀ e, Nonempty (Elt F e)] (main₀ : Dev nD → Prog (TpuEff nD τ sig (Elt F) (SparseCore.Sig (ΛP (F := F)) 1) .tc) PUnit)
    (hm : main₀ = main' ops) (hS : ∀ op ∈ ops, op.bufs ⊆ tcRefs τ sig) (hfresh : ∀ op ∈ ops, op.fresh = ∅)
    (hk : ∀ d, Sorted (kn (kb₁ m ops) d)) :
    θ_run ((K (F := F)).defs (D (F := F))) ((K (F := F)).threads main₀) ⟨m, fun _ => 0, ρ⟩ (QC m ops) := by
  subst hm
  exact SparseCore.Cfg.θ_run_sc_quiescent (K := K (F := F)) (D := D (F := F)) (𝒱 := 𝒱) (EH := EH) (P := P (kb₁ m ops) (vb₁ m ops) (ob₁ m ops)) (hA := hA m ops) facts v₀
    (fun q hq => match q with | 0 => nomatch hq)
    (fun q _ => match q with | 0 => tileObl (kb₁ m ops) (vb₁ m ops) (ob₁ m ops) facts hk)
    (fun q _ => match q with | 0 => vecSplit (kb₁ m ops) (vb₁ m ops) (ob₁ m ops))
    m ρ (main' ops) (fun _ => iprop(emp)) (FIN m ops) (u₀ (F := F)) (hu₀ _ _ _) (hmain m ρ ops hS hfresh) (fq m ops) (hfin m ops) (QC m ops)
    (fun _ h hz => ⟨fun d => ⟨(h d).2.1, (h d).1⟩, hz⟩)
end

end Cert.Proof.Sc
-- ==== Proof.Order.lean ====
/-
  What the host's sort of the keys and their values gives, whether or not it is stable: a rearrangement of the entries
  in which the keys ascend. A stable sort also keeps entries of equal keys in their order.
-/
module

public import proofs.«01_k».proof.Proof.Spec
public import Idealize.ShloMosaic.Lib.SortFacts
public import Idealize.ShloMosaic.Lib.WordCmp

@[expose] public section

namespace Cert.Proof.Spec

open Cert.KernelIdeal Idealize.ShloMosaic

/-- The comparison of two words as signed numbers, as a proposition. -/
theorem slt_iff (a b : BitVec 32) : (IntOp.cmpi .slt a b = 1#1) ↔ a.toInt < b.toInt := by
  show BitVec.ofBool (a.slt b) = 1#1 ↔ _
  rw [BitVec.slt]
  by_cases h : a.toInt < b.toInt <;> simp [h]

variable {α : Type} {n : ℕ}

/-- A vector of `n` entries. -/
abbrev V (n : ℕ) : Shape := ⟨1, ![n]⟩

/-- `x'`, `y'` are the entries of `x`, `y` taken in the order `π`, each once, and the keys ascend. -/
structure Arranged (x : (V n).Idx → BitVec 32) (y : (V n).Idx → α) (x' : (V n).Idx → BitVec 32) (y' : (V n).Idx → α)
    (π : Fin n → Fin n) : Prop where
  surj : Function.Surjective π
  key : ∀ p, x' (Shape.Idx.ofFin p) = x (Shape.Idx.ofFin (π p))
  val : ∀ p, y' (Shape.Idx.ofFin p) = y (Shape.Idx.ofFin (π p))
  asc : ∀ p q, p < q → (x (Shape.Idx.ofFin (π p))).toInt ≤ (x (Shape.Idx.ofFin (π q))).toInt

/-- Entries of equal keys keep their order. -/
def Stably (x : (V n).Idx → BitVec 32) (π : Fin n → Fin n) : Prop :=
  ∀ p q, p < q → x (Shape.Idx.ofFin (π p)) = x (Shape.Idx.ofFin (π q)) → π p < π q

theorem along_zero (j : (V n).Idx) (h : 0 < (V n).rank) (k : Fin n) : j.along ⟨0, h⟩ k = Shape.Idx.ofFin k :=
  Shape.Idx.along_rank1 j k

/-- The sort that orders ties as it likes. -/
theorem unstable_arranged (x : (V n).Idx → BitVec 32) (y : (V n).Idx → α) (cmp : BitVec 32 × α → BitVec 32 × α → BitVec 1)
    (hc : ∀ l r, cmp l r = IntOp.cmpi .slt l.1 r.1) :
    ∃ π, Arranged x y (Host.unstableSort2 (V n) 0 cmp x y).1 (Host.unstableSort2 (V n) 0 cmp x y).2 π := by
  let fiber : Fin n → BitVec 32 × α := fun k => (x (Shape.Idx.ofFin k), y (Shape.Idx.ofFin k))
  have h1 : ∀ a b, (cmp a b = 1#1) ↔ a.1.toInt < b.1.toInt := fun a b => by rw [hc]; exact slt_iff _ _
  have e : ∀ p : Fin n, (fun k : Fin n => (x ((Shape.Idx.ofFin p).along ⟨0, Nat.one_pos⟩ k), y ((Shape.Idx.ofFin p).along ⟨0, Nat.one_pos⟩ k)))
      = fun k => (x (Shape.Idx.ofFin k), y (Shape.Idx.ofFin k)) := fun p => funext fun k => congrArg (fun j => (x j, y j)) (along_zero _ _ k)
  refine ⟨sortedFrom (unstableBefore (V n) 0 cmp fiber), sortedFrom_surjective _, fun p => ?_, fun p => ?_, fun p q hpq => ?_⟩
  · rw [Host.unstableSort2_eq_unstableSortBy]
    simp only [Host.unstableSortBy]
    rw [dif_pos (show 0 < 1 from Nat.one_pos)]
    exact (congrArg x (along_zero _ _ _)).trans (congrArg (fun f => x (Shape.Idx.ofFin (sortedFrom (unstableBefore (V n) 0 cmp f) p))) (e p))
  · rw [Host.unstableSort2_eq_unstableSortBy]
    simp only [Host.unstableSortBy]
    rw [dif_pos (show 0 < 1 from Nat.one_pos)]
    exact (congrArg y (along_zero _ _ _)).trans (congrArg (fun f => y (Shape.Idx.ofFin (sortedFrom (unstableBefore (V n) 0 cmp f) p))) (e p))
  · have := unstableBefore_sorted (V n) 0 cmp fiber (fun a b h h' => by rw [h1] at h h'; omega)
      (fun a b c h h' => by rw [ne_eq, h1] at *; omega) p q hpq
    rw [ne_eq, h1] at this
    exact not_lt.mp this

/-- Earlier in the stable order: a smaller key, or the same key and an earlier entry. -/
def Before (g : Fin n → ℤ) (a b : Fin n) : Prop := g a < g b ∨ (g a = g b ∧ a < b)

theorem Before.trans {g : Fin n → ℤ} {a b c : Fin n} (h : Before g a b) (h' : Before g b c) : Before g a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem pairwise_insert (g : Fin n → ℤ) (R : Fin n → Fin n → Bool) (hR : ∀ a b, R a b = true ↔ g a < g b) (a : Fin n) :
    ∀ l : List (Fin n), l.Pairwise (Before g) → (∀ b ∈ l, a < b) → (insertBefore R a l).Pairwise (Before g)
  | [], _, _ => List.pairwise_singleton _ _
  | b :: l, hl, ha => by
    obtain ⟨hb, hl'⟩ := List.pairwise_cons.mp hl
    unfold insertBefore
    split
    · rename_i h
      refine List.pairwise_cons.mpr ⟨fun c hc => ?_, pairwise_insert g R hR a l hl' fun c hc => ha c (List.mem_cons_of_mem _ hc)⟩
      rcases List.mem_cons.mp ((perm_insertBefore R a l).mem_iff.mp hc) with rfl | hc
      · exact Or.inl ((hR _ _).mp h)
      · exact hb c hc
    · rename_i h
      have hab : Before g a b := by
        rcases lt_trichotomy (g a) (g b) with k | k | k
        · exact Or.inl k
        · exact Or.inr ⟨k, ha b (List.mem_cons_self ..)⟩
        · exact absurd ((hR _ _).mpr k) h
      refine List.pairwise_cons.mpr ⟨fun c hc => ?_, hl⟩
      rcases List.mem_cons.mp hc with rfl | hc
      · exact hab
      · exact hab.trans (hb c hc)

theorem pairwise_stable (g : Fin n → ℤ) (R : Fin n → Fin n → Bool) (hR : ∀ a b, R a b = true ↔ g a < g b) :
    ∀ l : List (Fin n), l.Pairwise (· < ·) → (stableSort R l).Pairwise (Before g)
  | [], _ => List.Pairwise.nil
  | a :: l, hl => by
    obtain ⟨ha, hl'⟩ := List.pairwise_cons.mp hl
    unfold stableSort
    exact pairwise_insert g R hR a _ (pairwise_stable g R hR l hl') fun b hb => ha b ((perm_stableSort R l).mem_iff.mp hb)

/-- A stable sort's entries stand in the stable order. -/
theorem sortedFrom_before (g : Fin n → ℤ) (R : Fin n → Fin n → Bool) (hR : ∀ a b, R a b = true ↔ g a < g b)
    (p q : Fin n) (hpq : p < q) : Before g (sortedFrom R p) (sortedFrom R q) := by
  have h : ∀ a b : Fin (sortPositions n R).length, a < b → Before g ((sortPositions n R).get a) ((sortPositions n R).get b) :=
    List.pairwise_iff_get.mp (pairwise_stable g R hR (List.finRange n) (List.pairwise_lt_finRange n))
  unfold sortedFrom
  exact h _ _ (by simp only [Fin.lt_def, Fin.val_cast]; exact hpq)

/-- The stable sort. -/
theorem stable_arranged (x : (V n).Idx → BitVec 32) (y : (V n).Idx → α) (cmp : BitVec 32 × α → BitVec 32 × α → BitVec 1)
    (hc : ∀ l r, cmp l r = IntOp.cmpi .slt l.1 r.1) :
    ∃ π, Arranged x y (Host.sort2 (V n) 0 cmp x y).1 (Host.sort2 (V n) 0 cmp x y).2 π ∧ Stably x π := by
  let R : Fin n → Fin n → Bool := fun k k' =>
    cmp (x (Shape.Idx.ofFin k), y (Shape.Idx.ofFin k)) (x (Shape.Idx.ofFin k'), y (Shape.Idx.ofFin k')) == 1#1
  let g : Fin n → ℤ := fun k => (x (Shape.Idx.ofFin k)).toInt
  have hR : ∀ a b, R a b = true ↔ g a < g b := fun a b => by
    simp only [R, g, beq_iff_eq]; rw [hc]; exact slt_iff _ _
  have hB := sortedFrom_before g R hR
  have e : ∀ p : Fin n, (fun k : Fin n => (x ((Shape.Idx.ofFin p).along ⟨0, Nat.one_pos⟩ k), y ((Shape.Idx.ofFin p).along ⟨0, Nat.one_pos⟩ k)))
      = fun k => (x (Shape.Idx.ofFin k), y (Shape.Idx.ofFin k)) := fun p => funext fun k => congrArg (fun j => (x j, y j)) (along_zero _ _ k)
  refine ⟨sortedFrom R, ⟨sortedFrom_surjective _, fun p => ?_, fun p => ?_, fun p q hpq => ?_⟩, fun p q hpq e => ?_⟩
  · rw [Host.sort2_eq_sortBy]
    simp only [Host.sortBy]
    rw [dif_pos (show 0 < 1 from Nat.one_pos)]
    exact (congrArg x (along_zero _ _ _)).trans (congrArg (fun f : Fin n → BitVec 32 × α => x (Shape.Idx.ofFin (sortedFrom (fun k k' => cmp (f k) (f k') == 1#1) p))) (e p))
  · rw [Host.sort2_eq_sortBy]
    simp only [Host.sortBy]
    rw [dif_pos (show 0 < 1 from Nat.one_pos)]
    exact (congrArg y (along_zero _ _ _)).trans (congrArg (fun f : Fin n → BitVec 32 × α => y (Shape.Idx.ofFin (sortedFrom (fun k k' => cmp (f k) (f k') == 1#1) p))) (e p))
  · rcases hB p q hpq with h | ⟨h, _⟩
    · exact h.le
    · exact h.le
  · rcases hB p q hpq with h | ⟨_, h⟩
    · exact absurd (congrArg BitVec.toInt e) (ne_of_lt h)
    · exact h

/-! ## The last position of a key -/

theorem lastVal_eq {k : ℕ → ℕ} {v : ℕ → α} {z : α} {t p : ℕ} (hp : k p = t) :
    ∀ {n : ℕ}, p < n → (∀ q, p < q → q < n → k q ≠ t) → lastVal k v z t n = v p
  | n + 1, h, hq => by
    unfold lastVal
    by_cases e : p = n
    · subst e; rw [if_pos hp]
    · rw [if_neg (hq n (by omega) (by omega))]
      exact lastVal_eq hp (by omega) fun q h1 h2 => hq q h1 (by omega)

theorem lastVal_none {k : ℕ → ℕ} {v : ℕ → α} {z : α} {t : ℕ} :
    ∀ {n : ℕ}, (∀ q, q < n → k q ≠ t) → lastVal k v z t n = z
  | 0, _ => rfl
  | n + 1, hq => by
    unfold lastVal
    rw [if_neg (hq n (by omega))]
    exact lastVal_none fun q h => hq q (by omega)

/-- Of finitely many positions with a property, one is last. -/
theorem exists_last (P : Fin n → Prop) (h : ∃ p, P p) : ∃ p, P p ∧ ∀ q, p < q → ¬ P q := by
  classical
  obtain ⟨p, hp⟩ := h
  have hne : (Finset.univ.filter P).Nonempty := ⟨p, by simpa using hp⟩
  refine ⟨(Finset.univ.filter P).max' hne, by simpa using Finset.max'_mem _ hne, fun q hq hP => ?_⟩
  exact absurd (Finset.le_max' (Finset.univ.filter P) q (by simpa using hP)) (not_le.mpr hq)

end Cert.Proof.Spec
-- ==== Proof.Host.lean ====
/-
  The host's part of @main: the operations before the call, and what they leave in the two arrays the call reads. The
  sort is a parameter, so that one account serves the kernel as given and the kernel with the stable sort.
-/
module

public import proofs.«01_k».proof.Proof.Launch
public import proofs.«01_k».proof.Proof.Order

@[expose] public section

noncomputable section

namespace Cert.Proof.Sc

open Cert.KernelIdeal Cert.KernelIdeal.Gen Cert.Proof.Spec

open Idealize.ShloMosaic Idealize.ShloMosaic.TcCoe
open Idealize.SL.Sem
open Idealize.ShloMosaic.StableHlo
open Idealize.ShloMosaic.Pipeline (ucRefs)

variable {F : FTy → Type} [FloatOps F]

/-- The contents of an array of 262144 words. -/
abbrev KC (F : FTy → Type) : Type := (⟨S262144, .i32⟩ : BufTy).Contents (Elt F)
/-- The contents of an array of 262144 floats. -/
abbrev VC (F : FTy → Type) : Type := (⟨S262144, .f32⟩ : BufTy).Contents (Elt F)
/-- The contents of a word. -/
abbrev IC (F : FTy → Type) : Type := (⟨S_, .i32⟩ : BufTy).Contents (Elt F)

/-- @main's operations before the call, in order; `fk`, `fv` are the sort's two results. -/
abbrev hops (fk : KC F → VC F → KC F) (fv : KC F → VC F → VC F) : List (HloOp τ sig (Elt F)) :=
  [ nullary main_c (constantI S_ 32 4096#32),
    unary main_c main_v0 (broadcastInDim S262144 ![] bcast_S_S262144 : IC F → KC F),
    binary main_arg1 main_v0 main_v1 (muli : KC F → KC F → KC F),
    binary main_v1 main_arg2 main_v2 (addi : KC F → KC F → KC F),
    nullary main_c_0 (constantI S_ 32 20#32),
    unary main_c_0 main_v3 (broadcastInDim S262144 ![] bcast_S_S262144 : IC F → KC F),
    binary main_arg3 main_v3 main_v4 (minsi : KC F → KC F → KC F),
    nullary main_c_1 (constantI S_ 32 1#32),
    unary main_c_1 main_v5 (broadcastInDim S262144 ![] bcast_S_S262144 : IC F → KC F),
    binary main_v4 main_v5 main_v6 (subi : KC F → KC F → KC F),
    nullary main_c_2 (constantI S_ 32 0#32),
    nullary main_c_3 (constantI S_ 32 19#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S262144, .i32⟩) main_call0_v1) (broadcastInDim S262144 ![] bcast_S_S262144),
    TRef.binary (TRef.of (T := ⟨S262144, .i32⟩) main_call0_v1) (TRef.of (T := ⟨S262144, .i32⟩) main_v6) (TRef.of (T := ⟨S262144, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S262144, .i32⟩) main_call0_v4) (broadcastInDim S262144 ![] bcast_S_S262144),
    TRef.binary (TRef.of (T := ⟨S262144, .i32⟩) main_call0_v4) (TRef.of (T := ⟨S262144, .i32⟩) main_call0_v2) (TRef.of (T := ⟨S262144, .i32⟩) main_v7) minsi,
    TRef.nullary (TRef.of (T := ⟨S_, .i32⟩) main_call1_c) (constantI S_ 32 0#32),
    TRef.unary (TRef.of (T := ⟨S_, .i32⟩) main_call1_c) (TRef.of (T := ⟨S262144, .i32⟩) main_call1_v0) (broadcastInDim S262144 ![] bcast_S_S262144),
    TRef.binary (TRef.of (T := ⟨S262144, .i32⟩) main_v7) (TRef.of (T := ⟨S262144, .i32⟩) main_call1_v0) (TRef.of (T := ⟨S262144, .i1⟩) main_call1_v1) (cmpi .slt),
    TRef.nullary (TRef.of (T := ⟨S_, .i32⟩) main_call1_c_0) (constantI S_ 32 20#32),
    TRef.unary (TRef.of (T := ⟨S_, .i32⟩) main_call1_c_0) (TRef.of (T := ⟨S262144, .i32⟩) main_call1_v2) (broadcastInDim S262144 ![] bcast_S_S262144),
    TRef.binary (TRef.of (T := ⟨S262144, .i32⟩) main_v7) (TRef.of (T := ⟨S262144, .i32⟩) main_call1_v2) (TRef.of (T := ⟨S262144, .i32⟩) main_call1_v3) addi,
    TRef.ternary (TRef.of (T := ⟨S262144, .i1⟩) main_call1_v1) (TRef.of (T := ⟨S262144, .i32⟩) main_call1_v3) (TRef.of (T := ⟨S262144, .i32⟩) main_v7) (TRef.of (T := ⟨S262144, .i32⟩) main_call1_v4) select,
    TRef.unary (TRef.of (T := ⟨S262144, .i32⟩) main_call1_v4) (TRef.of (T := ⟨S262144x1, .i32⟩) main_call1_v5) (broadcastInDim S262144x1 ![0] bcast_S262144_S262144x1_0),
    TRef.nullary (TRef.of (T := ⟨S1, .i32⟩) main_call1_c_1) (constantI S1 32 19#32),
    TRef.nullary (TRef.of (T := ⟨S_, .i32⟩) main_call1_c_2) (constantI S_ 32 0#32),
    TRef.unary (TRef.of (T := ⟨S_, .i32⟩) main_call1_c_2) (TRef.of (T := ⟨S262144x1, .i32⟩) main_call1_v6) (broadcastInDim S262144x1 ![] bcast_S_S262144x1),
    TRef.binary (TRef.of (T := ⟨S262144x1, .i32⟩) main_call1_v5) (TRef.of (T := ⟨S262144x1, .i32⟩) main_call1_v6) (TRef.of (T := ⟨S262144x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S262144x1, .i32⟩) main_call1_v9) (broadcastInDim S262144x1 ![0, 1] bcast_S1x1_S262144x1_0_1),
    TRef.binary (TRef.of (T := ⟨S262144x1, .i32⟩) main_call1_v5) (TRef.of (T := ⟨S262144x1, .i32⟩) main_call1_v9) (TRef.of (T := ⟨S262144x1, .i1⟩) main_call1_v10) (cmpi .sle),
    TRef.binary (TRef.of (T := ⟨S262144x1, .i1⟩) main_call1_v7) (TRef.of (T := ⟨S262144x1, .i1⟩) main_call1_v10) (TRef.of (T := ⟨S262144x1, .i1⟩) main_call1_v11) andi,
    TRef.nullary (TRef.of (T := ⟨S_, .i1⟩) main_call1_c_3) (constantI S_ 1 1#1),
    TRef.binary (TRef.of (T := ⟨S262144x1, .i1⟩) main_call1_v11) (TRef.of (T := ⟨S_, .i1⟩) main_call1_c_3) (TRef.of (T := ⟨S262144, .i1⟩) main_call1_v12) (fun x v => Host.reduce IntOp.andi x v reducesTo_S262144x1_S262144_d1 h_S_),
    TRef.binary (TRef.of (T := ⟨S20, .f32⟩) main_arg4) (TRef.of (T := ⟨S262144x1, .i32⟩) main_call1_v5) (TRef.of (T := ⟨S262144, .f32⟩) main_call1_v13) (fun x i => Host.gather gather_S20_S262144x1_S262144_n_0_n_n_0_1_1 x i),
    TRef.nullary (TRef.of (T := ⟨S_, .f32⟩) main_call1_cst) (constant S_ .f32 0x7FC00000#32),
    TRef.unary (TRef.of (T := ⟨S_, .f32⟩) main_call1_cst) (TRef.of (T := ⟨S262144, .f32⟩) main_call1_v14) (broadcastInDim S262144 ![] bcast_S_S262144),
    TRef.ternary (TRef.of (T := ⟨S262144, .i1⟩) main_call1_v12) (TRef.of (T := ⟨S262144, .f32⟩) main_call1_v13) (TRef.of (T := ⟨S262144, .f32⟩) main_call1_v14) (TRef.of (T := ⟨S262144, .f32⟩) main_v8) select,
    binary main_v2 main_v8 main_v9_0 fk,
    binary main_v2 main_v8 main_v9_1 fv,
    nullary main_c_4 (constantI S_ 32 16777216#32),
    TRef.binary (TRef.of (T := ⟨S262144, .i32⟩) main_v9_0) (TRef.of (T := ⟨S_, .i32⟩) main_c_4) (TRef.of (T := ⟨S264192, .i32⟩) main_v10) (fun x v => pad S264192 ![0] ![2048] ![0] x v pads_S262144_S264192_020480 h_S_),
    nullary main_c_5 (constantI S_ 32 0#32),
    TRef.unary (TRef.of (T := ⟨S_, .i32⟩) main_c_5) (TRef.of (T := ⟨S_, .f32⟩) main_call3_v0) (sitofp .f32),
    TRef.binary (TRef.of (T := ⟨S262144, .f32⟩) main_v9_1) (TRef.of (T := ⟨S_, .f32⟩) main_call3_v0) (TRef.of (T := ⟨S264192, .f32⟩) main_v11) (fun x v => pad S264192 ![0] ![2048] ![0] x v pads_S262144_S264192_020480 h_S_)]

/-! ## What they compute -/

/-- The key of every entry: its source's row and its destination's column as one number. -/
def keys (a b : KC F) : KC F := addi (muli a (broadcastInDim S262144 ![] bcast_S_S262144 (constantI S_ 32 4096#32))) b

/-- The index of every entry's path length into the 20 biases. -/
def lens (l : KC F) : KC F :=
  minsi (broadcastInDim S262144 ![] bcast_S_S262144 (constantI S_ 32 19#32))
    (maxsi (broadcastInDim S262144 ![] bcast_S_S262144 (constantI S_ 32 0#32))
      (subi (minsi l (broadcastInDim S262144 ![] bcast_S_S262144 (constantI S_ 32 20#32)))
        (broadcastInDim S262144 ![] bcast_S_S262144 (constantI S_ 32 1#32))))

/-- The index as `take` reads it, a negative one counted from the end, as a column. -/
def column (i : KC F) : (⟨S262144x1, .i32⟩ : BufTy).Contents (Elt F) :=
  broadcastInDim S262144x1 ![0] bcast_S262144_S262144x1_0
    (select (cmpi .slt i (broadcastInDim S262144 ![] bcast_S_S262144 (constantI S_ 32 0#32)))
      (addi i (broadcastInDim S262144 ![] bcast_S_S262144 (constantI S_ 32 20#32))) i)

/-- The bias of every entry; `take` gives no number where the index is outside the table. -/
def taken (t : (⟨S20, .f32⟩ : BufTy).Contents (Elt F)) (i : KC F) : VC F :=
  select
    (Host.reduce IntOp.andi
      (andi (cmpi .sge (column i) (broadcastInDim S262144x1 ![] bcast_S_S262144x1 (constantI S_ 32 0#32)))
        (cmpi .sle (column i) (broadcastInDim S262144x1 ![0, 1] bcast_S1x1_S262144x1_0_1
          (broadcastInDim S1x1 ![1] bcast_S1_S1x1_1 (constantI S1 32 19#32)))))
      (constantI S_ 1 1#1) reducesTo_S262144x1_S262144_d1 h_S_)
    (Host.gather gather_S20_S262144x1_S262144_n_0_n_n_0_1_1 t (column i))
    (broadcastInDim S262144 ![] bcast_S_S262144 (constant S_ .f32 0x7FC00000#32))

section run

variable (m : (ℓ : Loc nD τ sig) → Buf (Elt F) ℓ) (fk : KC F → VC F → KC F) (fv : KC F → VC F → VC F)

/-- The keys and the values of the arguments in memory `m`. -/
abbrev mkeys (d : Dev nD) : KC F := keys (m ((d.tc : Thread nD τ).loc main_arg1)) (m ((d.tc : Thread nD τ).loc main_arg2))
abbrev mvals (d : Dev nD) : VC F := taken (m ((d.tc : Thread nD τ).loc main_arg4)) (lens (m ((d.tc : Thread nD τ).loc main_arg3)))

set_option maxRecDepth 8192 in
set_option maxHeartbeats 2000000 in
/-- The call's keys: the sorted keys, padded. -/
theorem host_keys (d : Dev nD) : kb₁ m (hops fk fv) d
    = pad S264192 ![0] ![2048] ![0] (fk (mkeys m d) (mvals m d)) (constantI S_ 32 16777216#32) pads_S262144_S264192_020480 h_S_ := by
  unfold kb₁ V1
  simp only [hops, TRef.binary, TRef.nullary, TRef.ternary, TRef.unary, TRef.toBuf, TRef.ofBuf, cast_eq]
  after_results_simp <;> rfl

set_option maxRecDepth 8192 in
set_option maxHeartbeats 2000000 in
/-- The call's values: the sorted values, padded. -/
theorem host_vals (d : Dev nD) : vb₁ m (hops fk fv) d
    = pad S264192 ![0] ![2048] ![0] (fv (mkeys m d) (mvals m d)) (sitofp .f32 (constantI S_ 32 0#32)) pads_S262144_S264192_020480 h_S_ := by
  unfold vb₁ V1
  simp only [hops, TRef.binary, TRef.nullary, TRef.ternary, TRef.unary, TRef.toBuf, TRef.ofBuf, cast_eq]
  after_results_simp <;> rfl

set_option maxRecDepth 8192 in
theorem hops_sub : (hops fk fv).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., binary_bufs_sub .., nullary_bufs_sub .., binary_bufs_sub .., nullary_bufs_sub .., unary_bufs_sub .., binary_bufs_sub ..⟩

set_option maxRecDepth 8192 in
theorem hops_fresh : (hops fk fv).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end run

end Cert.Proof.Sc

end
-- ==== Proof.Pre.lean ====
/-
  What the preconditions say: every source and destination is a row's number, and (the second one) entries that name
  the same place have the same clipped path length.
-/
module

public import proofs.«01_k».proof.Proof.Host
public import proofs.«01_k».proof.Proof.Gen.Pre_in_range
public import proofs.«01_k».proof.Proof.Gen.Pre_agreeing
public import Idealize.ShloMosaic.Lib.ReduceAll
public import Idealize.ShloMosaic.Lib.StableHlo.Predicate
public import Idealize.ShloMosaic.Lib.Routing.Shapes

@[expose] public section

namespace Cert.Proof.Sc

open Cert.KernelIdeal Cert.KernelIdeal.Gen
open Idealize.ShloMosaic

variable {F : FTy → Type} [FloatOps F]

/-- Every entry's two numbers are rows of a matrix of 4096 rows. -/
def InRange (a b : KC F) : Prop := ∀ i : S262144.Idx, (a i).toNat < 4096 ∧ (b i).toNat < 4096

/-- Entries of one key have one path length index. -/
def Agree (a b l : KC F) : Prop := ∀ i j : S262144.Idx, keys a b i = keys a b j → lens l i = lens l j

theorem toNat_lt_of_cmp (x : BitVec 32) (h0 : IntOp.cmpi .sge x 0#32 = 1#1) (h1 : IntOp.cmpi .slt x 4096#32 = 1#1) : x.toNat < 4096 := by
  have h0' : (0#32 : BitVec 32).toInt ≤ x.toInt := by
    have h : BitVec.ofBool ((0#32 : BitVec 32).sle x) = 1#1 := h0
    rw [BitVec.sle] at h
    by_contra hc
    rw [decide_eq_false hc] at h
    exact absurd h (by decide)
  have h1' := (Spec.slt_iff _ _).mp h1
  rw [show (0#32 : BitVec 32).toInt = 0 from rfl] at h0'
  rw [show (4096#32 : BitVec 32).toInt = 4096 from rfl] at h1'
  rw [BitVec.toInt_eq_toNat_cond] at h0' h1'
  split at h1' <;> omega

/-- The index of a single word. -/
abbrev i0 : S_.Idx := fun a => a.elim0

instance : Subsingleton (⟨0, ![]⟩ : Shape).Idx := ⟨fun a b => funext fun x => x.elim0⟩

/-- The four comparisons, each over all entries. -/
theorem inRange_of_all (a b : KC F)
    (h : IntOp.andi (IntOp.andi (IntOp.andi
      (Host.reduce IntOp.andi (cmpi .sge a (broadcastInDim S262144 ![] bcast_S_S262144 (constantI S_ 32 0#32))) (constantI S_ 1 1#1) Pre_in_range.Gen.reducesTo_S262144_S_d0 h_S_ i0)
      (Host.reduce IntOp.andi (cmpi .slt a (broadcastInDim S262144 ![] bcast_S_S262144 (constantI S_ 32 4096#32))) (constantI S_ 1 1#1) Pre_in_range.Gen.reducesTo_S262144_S_d0 h_S_ i0))
      (Host.reduce IntOp.andi (cmpi .sge b (broadcastInDim S262144 ![] bcast_S_S262144 (constantI S_ 32 0#32))) (constantI S_ 1 1#1) Pre_in_range.Gen.reducesTo_S262144_S_d0 h_S_ i0))
      (Host.reduce IntOp.andi (cmpi .slt b (broadcastInDim S262144 ![] bcast_S_S262144 (constantI S_ 32 4096#32))) (constantI S_ 1 1#1) Pre_in_range.Gen.reducesTo_S262144_S_d0 h_S_ i0)
      = 1#1) : InRange a b := by
  obtain ⟨h, h4⟩ := IntOp.andi_eq_one.1 h
  obtain ⟨h, h3⟩ := IntOp.andi_eq_one.1 h
  obtain ⟨h1, h2⟩ := IntOp.andi_eq_one.1 h
  exact fun i => ⟨toNat_lt_of_cmp _ (Host.reduce_andi_all _ _ _ _ _ h1 i) (Host.reduce_andi_all _ _ _ _ _ h2 i),
    toNat_lt_of_cmp _ (Host.reduce_andi_all _ _ _ _ _ h3 i) (Host.reduce_andi_all _ _ _ _ _ h4 i)⟩

theorem inRange_of (q : (⟨S4096x256, .f32⟩ : BufTy).Contents (Elt F)) (a b l : KC F) (t : (⟨S20, .f32⟩ : BufTy).Contents (Elt F))
    (h : Pre_in_range.fn (F := F) q a b l t = fun _ => 1#1) : InRange a b :=
  inRange_of_all a b (congrFun h i0)

/-- The table of the path length index each place was last given, read back at every entry's place. -/
def readBack (a b l : KC F) : KC F :=
  Host.gather Pre_agreeing.gather_S16777216_S262144x1_S262144_n_0_n_n_0_1_1
    (Host.scatter Pre_agreeing.scatter_S16777216_S262144x1_S262144_n_0_0_1 (fun _ b => b)
      (broadcastInDim Pre_agreeing.S16777216 ![] Pre_agreeing.Gen.bcast_S_S16777216 (constantI S_ 32 0#32))
      (broadcastInDim S262144x1 ![0] bcast_S262144_S262144x1_0
        (select (cmpi .slt (keys a b) (broadcastInDim S262144 ![] bcast_S_S262144 (constantI S_ 32 0#32)))
          (addi (keys a b) (broadcastInDim S262144 ![] bcast_S_S262144 (constantI S_ 32 16777216#32))) (keys a b)))
      (lens l))
    (broadcastInDim S262144x1 ![0] bcast_S262144_S262144x1_0
      (select (cmpi .slt (keys a b) (broadcastInDim S262144 ![] bcast_S_S262144 (constantI S_ 32 0#32)))
        (addi (keys a b) (broadcastInDim S262144 ![] bcast_S_S262144 (constantI S_ 32 16777216#32))) (keys a b)))

theorem bcast_col (x : S262144.Idx → BitVec 32) (p : Fin 262144) :
    broadcastInDim S262144x1 ![0] bcast_S262144_S262144x1_0 x (StableHlo.Predicate.ixP p) = x (Shape.Idx.ofFin p) := by
  refine congrArg x ?_
  funext d
  match d with
  | ⟨0, _⟩ => exact Fin.ext rfl

/-- Two entries of one index read one entry of the table. -/
theorem gather_congr {α : Type} {N n w : ℕ} (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1)
    (x : (⟨1, ![N]⟩ : Shape).Idx → α) (idx : IVec ⟨2, ![n, 1]⟩ w) (p q : Fin n) (hN : 0 < N)
    (h : idx (StableHlo.Predicate.ixP p) = idx (StableHlo.Predicate.ixP q)) :
    Host.gather d x idx (Shape.Idx.ofFin p) = Host.gather d x idx (Shape.Idx.ofFin q) := by
  rw [StableHlo.Predicate.gather_take d hcoll hob hsim hivd x idx p hN, StableHlo.Predicate.gather_take d hcoll hob hsim hivd x idx q hN]
  exact congrArg (fun k => x (Shape.Idx.ofFin k)) (Fin.ext (congrArg (fun w => min w.toInt.toNat (N - 1)) h))

/-- What is read back depends on the entry's key alone. -/
theorem readBack_congr (a b l : KC F) (p q : Fin 262144) (h : keys a b (Shape.Idx.ofFin p) = keys a b (Shape.Idx.ofFin q)) :
    readBack a b l (Shape.Idx.ofFin p) = readBack a b l (Shape.Idx.ofFin q) := by
  refine gather_congr _ rfl rfl rfl rfl _ _ p q (by decide) ?_
  rw [bcast_col, bcast_col]
  exact congrArg (fun k => Scalar.select (IntOp.cmpi .slt k 0#32) (IntOp.addi k 16777216#32) k) h

theorem agreeing_of (q : (⟨S4096x256, .f32⟩ : BufTy).Contents (Elt F)) (a b l : KC F) (t : (⟨S20, .f32⟩ : BufTy).Contents (Elt F))
    (h : Pre_agreeing.fn (F := F) q a b l t = fun _ => 1#1) : InRange a b ∧ Agree a b l := by
  have h' : IntOp.andi _ (Host.reduce IntOp.andi (cmpi .eq (readBack a b l) (lens l)) (constantI S_ 1 1#1) Pre_in_range.Gen.reducesTo_S262144_S_d0 h_S_ i0) = 1#1 :=
    congrFun h i0
  obtain ⟨h1, h2⟩ := IntOp.andi_eq_one.1 h'
  refine ⟨inRange_of_all a b h1, fun i j e => ?_⟩
  have hr := Host.reduce_andi_all _ _ _ _ _ h2
  have hi : readBack a b l i = lens l i := StableHlo.Predicate.cmpi_eq_iff.mp (hr i)
  have hj : readBack a b l j = lens l j := StableHlo.Predicate.cmpi_eq_iff.mp (hr j)
  rw [Shape.Idx.eq_ofFin i] at e hi ⊢
  rw [Shape.Idx.eq_ofFin j] at e hj ⊢
  rw [← hi, ← hj]
  exact readBack_congr a b l _ _ e

end Cert.Proof.Sc
-- ==== Proof.Scatter.lean ====
/-
  A scatter of a vector of values into a matrix, two index words each, later updates over earlier ones: an entry of the
  result is the value of the last update that names it.
-/
module

public import Idealize.ShloMosaic.Lib.Routing.OpsPair
public import Idealize.ShloMosaic.Lib.Routing.OpsSet

@[expose] public section

namespace Cert.Proof.Scatter

open Idealize.ShloMosaic Idealize.ShloMosaic.Routing Idealize.ShloMosaic.ValueIdx

/-- A fold that takes the value of each hit ends with the last hit's. -/
theorem foldl_last {α : Type} : ∀ {n : ℕ} (P : Fin n → Prop) [DecidablePred P] (v : Fin n → α) (z : α) (a : Fin n), P a → (∀ b, a < b → ¬ P b) →
    (List.finRange n).foldl (fun x k => if P k then v k else x) z = v a
  | 0, _, _, _, _, a, _, _ => a.elim0
  | n + 1, P, _, v, z, a, ha, hl => by
    rw [List.finRange_succ_last, List.foldl_append, List.foldl_map]
    show (if P (Fin.last n) then v (Fin.last n) else _) = v a
    rcases Fin.eq_castSucc_or_eq_last a with ⟨b, rfl⟩ | rfl
    · rw [if_neg (hl _ (Fin.castSucc_lt_last b))]
      exact foldl_last (fun k => P k.castSucc) (fun k => v k.castSucc) z b ha fun c hc => hl _ (Fin.castSucc_lt_castSucc_iff.mpr hc)
    · rw [if_pos ha]

/-- Update `a` lands at `(r, c)` exactly when its two words, read signed, are `r` and `c`. -/
theorem lands_pair {R C A w : ℕ} (d : ScatterDims (shape2 R C) (shape2 A 2) (shape1 A)) (hiw : d.insertedWindowDims = [0, 1])
    (hsd : d.scatterDimsToOperandDims = [0, 1]) (hivd : d.indexVectorDim = 1) (idx : IVec (shape2 A 2) w) (a : Fin A) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => by rw [hsd]; fin_cases q <;> simp
  -- both axes of the matrix are inserted: an update has no window
  have hwin : ∀ q : Fin 2, d.window (ix1 a) q = 0 := fun q => by
    unfold ScatterDims.window
    rw [dif_neg fun h => (of_decide_eq_true (List.mem_filter.1 h).2) (by rw [hiw]; fin_cases q <;> simp)]
  -- word `q` of the update stands in row `a`, column `q`
  have hsi : ∀ q : Fin 2, d.siIdx (ix1 a) ⟨d.scatterDimsToOperandDims.idxOf q, List.idxOf_lt_length_iff.2 (hm q)⟩ = ix2 a q := fun q => by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      have one : ∀ x : Fin 1, ((ix1 a : (shape1 A).Idx) x).val = a.val := fun x => by
        match x with
        | ⟨0, _⟩ => rfl
      exact one _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 a) idx q = (idx (ix2 a q)).toInt := fun q => by
    unfold ScatterDims.start
    rw [dif_pos (hm q), hsi]
  rw [resultIdx?_ix2, hstart, hstart, hwin, hwin]
  omega

variable {α : Type} {R C A w : ℕ} (d : ScatterDims (shape2 R C) (shape2 A 2) (shape1 A)) (hiw : d.insertedWindowDims = [0, 1])
  (hsd : d.scatterDimsToOperandDims = [0, 1]) (hivd : d.indexVectorDim = 1) (x0 : (shape2 R C).Idx → α) (idx : IVec (shape2 A 2) w)
  (upd : (shape1 A).Idx → α) (r : Fin R) (c : Fin C)

include hiw hsd hivd

/-- Where update `a` is the last to name an entry, the entry is its value. -/
theorem scatter_last (a : Fin A) (ha : (idx (ix2 a 0)).toInt = r.val ∧ (idx (ix2 a 1)).toInt = c.val)
    (hl : ∀ b, a < b → ¬ ((idx (ix2 b 0)).toInt = r.val ∧ (idx (ix2 b 1)).toInt = c.val)) :
    Host.scatter d (fun _ b => b) x0 idx upd (ix2 r c) = upd (ix1 a) := by
  rw [scatter_at]
  have e : ∀ n : Fin (shape1 A).numel, (d.resultIdx? ((shape1 A).rowMajor.symm n) idx = some (ix2 r c))
      ↔ ((idx (ix2 (n.cast (numel1 A)) 0)).toInt = r.val ∧ (idx (ix2 (n.cast (numel1 A)) 1)).toInt = c.val) := fun n => by
    rw [symm1]; exact lands_pair d hiw hsd hivd idx _ r c
  rw [foldl_last (fun n => d.resultIdx? ((shape1 A).rowMajor.symm n) idx = some (ix2 r c)) (fun n => upd ((shape1 A).rowMajor.symm n))
    (x0 (ix2 r c)) (a.cast (numel1 A).symm) ((e _).mpr ha) fun b hb h => hl (b.cast (numel1 A)) hb ((e b).mp h), symm1]
  rfl

/-- Where no update names an entry, the entry is the operand's. -/
theorem scatter_none (hn : ∀ b, ¬ ((idx (ix2 b 0)).toInt = r.val ∧ (idx (ix2 b 1)).toInt = c.val)) :
    Host.scatter d (fun _ b => b) x0 idx upd (ix2 r c) = x0 (ix2 r c) := by
  refine scatter_set_miss d x0 idx upd _ fun k h => ?_
  obtain ⟨a, rfl⟩ : ∃ a : Fin A, k = ix1 a := ⟨k 0, by funext b; match b with | ⟨0, _⟩ => rfl⟩
  exact hn a ((lands_pair d hiw hsd hivd idx a r c).mp h)

end Cert.Proof.Scatter
-- ==== Proof.Value.lean ====
/-
  The kernel's result is the reference's: every place holds the value of an entry that names it, zero where none does.
  The reference takes the last such entry; the kernel the last in the sorted order, which is the same entry when the
  sort is stable, and has the same value when entries of one place agree.
-/
module

public import proofs.«01_k».proof.Proof.Pre
public import proofs.«01_k».proof.Proof.Scatter
public import proofs.«01_k».proof.Proof.Gen.ReferenceIdeal
public import Idealize.ShloMosaic.Lib.Pipeline.Value
public import Idealize.ShloMosaic.Lib.WordArith

@[expose] public section

namespace Cert.Proof.Sc

open Cert.KernelIdeal Cert.KernelIdeal.Gen Cert.Proof.Spec
open Idealize.ShloMosaic

variable {F : FTy → Type} [FloatOps F]

/-- Entry `e`'s place. -/
abbrev at1 {α : Type} (x : S262144.Idx → α) (e : Fin 262144) : α := x (Shape.Idx.ofFin e)

/-- Entry `e` names place `j`. -/
def Names (a b : KC F) (j : S4096x4096.Idx) (e : Fin 262144) : Prop := (at1 a e).toNat = (j 0).val ∧ (at1 b e).toNat = (j 1).val

/-! ## The keys as numbers -/

theorem key_toNat (x y : BitVec 32) (hx : x.toNat < 4096) (hy : y.toNat < 4096) : (x * 4096#32 + y).toNat = x.toNat * 4096 + y.toNat := by
  rw [BitVec.toNat_add, BitVec.toNat_mul, show (4096#32 : BitVec 32).toNat = 4096 from rfl]
  omega

theorem keys_toNat {a b : KC F} (h : InRange a b) (e : Fin 262144) : (at1 (keys a b) e).toNat = (at1 a e).toNat * 4096 + (at1 b e).toNat :=
  key_toNat _ _ (h _).1 (h _).2

theorem keys_eq_iff {a b : KC F} (h : InRange a b) (j : S4096x4096.Idx) (e : Fin 262144) :
    (at1 (keys a b) e).toNat = (j 0).val * 4096 + (j 1).val ↔ Names a b j e := by
  rw [keys_toNat h]
  have h1 : (at1 a e).toNat < 4096 ∧ (at1 b e).toNat < 4096 := h (Shape.Idx.ofFin e)
  have h2 : (j 0).val < 4096 := (j 0).isLt
  have h3 : (j 1).val < 4096 := (j 1).isLt
  unfold Names
  generalize (at1 a e).toNat = x at *
  generalize (at1 b e).toNat = y at *
  generalize (j 0).val = u at *
  generalize (j 1).val = v at *
  constructor
  · intro e; omega
  · rintro ⟨h4, h5⟩; rw [h4, h5]

theorem keys_toInt {a b : KC F} (h : InRange a b) (e : Fin 262144) : (at1 (keys a b) e).toInt = ((at1 (keys a b) e).toNat : ℤ) := by
  have := keys_toNat h e
  have h1 : (at1 a e).toNat < 4096 ∧ (at1 b e).toNat < 4096 := h (Shape.Idx.ofFin e)
  rw [BitVec.toInt_eq_toNat_cond, if_pos (by omega)]

/-- A padded array's entry within the original. -/
theorem pad_at {α : Type} (x : S262144.Idx → α) (v : S_.Idx → α) (p : ℕ) (h : p < 264192) (h' : p < 262144) :
    pad S264192 ![0] ![2048] ![0] x v pads_S262144_S264192_020480 h_S_ (ix1 p h) = at1 x ⟨p, h'⟩ := by
  rw [show (ix1 p h : S264192.Idx) = ValueIdx.ix1 (⟨p, h⟩ : Fin 264192) from ext1 rfl]
  refine (Routing.pad1 x v pads_S262144_S264192_020480 h_S_ ⟨p, h⟩).trans ?_
  rw [dif_pos ⟨Nat.zero_le _, h'⟩]
  exact congrArg x (ext1 rfl)

section sorted

variable {α : Type} {a b : KC F} {y : S262144.Idx → α} {x' : KC F} {y' : S262144.Idx → α} {π : Fin 262144 → Fin 262144}
  (hA : Arranged (keys a b) y x' y' π) (hR : InRange a b) (kb : S264192.Idx → BitVec 32) (vb : S264192.Idx → α) (c : S_.Idx → BitVec 32) (c' : S_.Idx → α)
  (hk : kb = pad S264192 ![0] ![2048] ![0] x' c pads_S262144_S264192_020480 h_S_)
  (hv : vb = pad S264192 ![0] ![2048] ![0] y' c' pads_S262144_S264192_020480 h_S_)

include hA hk in
theorem keyAt_eq (p : ℕ) (h : p < 262144) : keyAt kb p = (at1 (keys a b) (π ⟨p, h⟩)).toNat := by
  unfold keyAt
  rw [dif_pos (by omega), hk, pad_at x' c p (by omega) h]
  exact congrArg BitVec.toNat (hA.key ⟨p, h⟩)

include hA hv in
theorem valAt_eq (z : α) (p : ℕ) (h : p < 262144) : valAt z vb p = at1 y (π ⟨p, h⟩) := by
  unfold valAt
  rw [dif_pos (by omega), hv, pad_at y' c' p (by omega) h]
  exact hA.val ⟨p, h⟩

include hA hR hk in
/-- The call is given keys in order, below 2 ^ 24. -/
theorem sorted_keyAt : Sorted (keyAt kb) := by
  constructor
  · intro p q hpq hq
    rcases Nat.eq_or_lt_of_le hpq with rfl | hlt
    · exact le_refl _
    · rw [keyAt_eq hA kb c hk p (by omega), keyAt_eq hA kb c hk q hq]
      have := hA.asc ⟨p, by omega⟩ ⟨q, hq⟩ hlt
      have e1 := keys_toInt hR (π ⟨p, by omega⟩)
      have e2 := keys_toInt hR (π ⟨q, hq⟩)
      unfold at1 at e1 e2 ⊢
      omega
  · intro p hp
    rw [keyAt_eq hA kb c hk p hp, keys_toNat hR]
    have := hR (Shape.Idx.ofFin (π ⟨p, hp⟩))
    unfold at1
    omega

include hA hR hk in
/-- A place no entry names keeps the first value. -/
theorem out_none (z : α) (j : S4096x4096.Idx) (hn : ∀ e, ¬ Names a b j e) : outBuf (keyAt kb) (valAt z vb) z j = z := by
  refine lastVal_none fun q hq h => ?_
  rw [keyAt_eq hA kb c hk q hq] at h
  exact hn _ ((keys_eq_iff hR j _).mp h)

include hA hR hk hv in
/-- A place some entry names holds the value of the last such entry, if the sort was stable or entries of one key agree. -/
theorem out_last (hs : Stably (keys a b) π ∨ ∀ e e', at1 (keys a b) e = at1 (keys a b) e' → at1 y e = at1 y e')
    (z : α) (j : S4096x4096.Idx) (e : Fin 262144) (he : Names a b j e) (hl : ∀ e', e < e' → ¬ Names a b j e') :
    outBuf (keyAt kb) (valAt z vb) z j = at1 y e := by
  obtain ⟨p₀, hp₀⟩ := hA.surj e
  obtain ⟨p, hp, hpl⟩ := exists_last (fun p => Names a b j (π p)) ⟨p₀, by rw [hp₀]; exact he⟩
  have hval : outBuf (keyAt kb) (valAt z vb) z j = at1 y (π p) := by
    have h := lastVal_eq (k := keyAt kb) (v := valAt z vb) (z := z) (t := (j 0).val * 4096 + (j 1).val) (p := p.val)
      (by rw [keyAt_eq hA kb c hk _ p.isLt]; exact (keys_eq_iff hR j _).mpr hp) p.isLt
      (fun q h1 h2 hq => by
        rw [keyAt_eq hA kb c hk q h2] at hq
        exact hpl ⟨q, h2⟩ h1 ((keys_eq_iff hR j _).mp hq))
    exact h.trans (valAt_eq hA vb c' hv z _ p.isLt)
  have hkey : ∀ q, Names a b j q → at1 (keys a b) q = at1 (keys a b) e := fun q hq =>
    BitVec.eq_of_toNat_eq (((keys_eq_iff hR j q).mpr hq).trans ((keys_eq_iff hR j e).mpr he).symm)
  rw [hval]
  rcases hs with hs | hs
  · rcases lt_trichotomy p₀ p with h | h | h
    · have h1 := hs p₀ p h (by rw [hp₀]; exact (hkey _ hp).symm)
      rw [hp₀] at h1
      exact absurd hp (hl _ h1)
    · rw [← h, hp₀]
    · exact absurd (show Names a b j (π p₀) by rw [hp₀]; exact he) (hpl _ h)
  · exact hs _ _ (hkey _ hp)

end sorted

/-! ## Entries of one path length index have one value -/

theorem clamp_lt (x : BitVec 32) : (IntOp.minsi 19#32 (IntOp.maxsi 0#32 x)).toNat < 20 := by
  have h1 : (IntOp.maxsi 0#32 x).toInt = max 0 x.toInt := WordArith.toInt_maxsi_zero x
  generalize IntOp.maxsi 0#32 x = w at h1
  unfold IntOp.minsi
  split
  · decide
  · rename_i h
    have h2 : ¬ (19#32 : BitVec 32).toInt < w.toInt := by
      intro hc; exact h (by rw [BitVec.slt]; exact decide_eq_true hc)
    rw [show (19#32 : BitVec 32).toInt = 19 from rfl] at h2
    have h3 : 0 ≤ w.toInt := by rw [h1]; exact le_max_left _ _
    rw [BitVec.toInt_eq_toNat_cond] at h2 h3
    have := w.isLt
    split at h2 <;> omega

theorem wrap_small (x c : BitVec 32) (h : x.toNat < 4096) : Scalar.select (IntOp.cmpi .slt x 0#32) c x = x :=
  Routing.wrap_of_lt x c (by have : 2 ^ (32 - 1) = 2147483648 := rfl; omega)

theorem column_at (l : KC F) (p : Fin 262144) : column (lens l) (StableHlo.Predicate.ixP p) = at1 (lens l) p := by
  unfold column
  rw [bcast_col]
  exact wrap_small _ _ (by have := clamp_lt (at1 (subi (minsi l (broadcastInDim S262144 ![] bcast_S_S262144 (constantI S_ 32 20#32)))
    (broadcastInDim S262144 ![] bcast_S_S262144 (constantI S_ 32 1#32))) p); exact this.trans (by decide))

theorem cmp_small (x : BitVec 32) (h : x.toNat < 20) : IntOp.andi (IntOp.cmpi .sge x 0#32) (IntOp.cmpi .sle x 19#32) = 1#1 := by
  rw [IntOp.andi_eq_one]
  exact ⟨(StableHlo.Predicate.sge_iff_toNat (by omega) (by decide)).mpr (Nat.zero_le _),
    (StableHlo.Predicate.sle_iff_toNat (by omega) (by decide)).mpr (by have : (19#32 : BitVec 32).toNat = 19 := rfl; omega)⟩

theorem select_one {α : Type} {s : Shape} (c : IVec s 1) (x y : s.Idx → α) (i : s.Idx) (h : c i = 1#1) : select c x y i = x i := if_pos h

/-- Every index is inside the table, so `take` takes. -/
theorem taken_eq (t : (⟨S20, .f32⟩ : BufTy).Contents (Elt F)) (l : KC F) (i : S262144.Idx) :
    taken t (lens l) i = Host.gather gather_S20_S262144x1_S262144_n_0_n_n_0_1_1 t (column (lens l)) i := by
  refine select_one _ _ _ _ ?_
  refine Host.reduce_andi_one _ _ _ _ _ rfl fun k => ?_
  obtain ⟨p, rfl⟩ : ∃ p : Fin 262144, k = StableHlo.Predicate.ixP p :=
    ⟨k 0, by funext d; match d with | ⟨0, _⟩ => rfl | ⟨1, _⟩ => exact Subsingleton.elim (α := Fin 1) _ _⟩
  have h := cmp_small (column (lens l) (StableHlo.Predicate.ixP p)) (by rw [column_at]; exact clamp_lt _)
  exact h

theorem taken_congr (t : (⟨S20, .f32⟩ : BufTy).Contents (Elt F)) (l : KC F) (e e' : Fin 262144) (h : at1 (lens l) e = at1 (lens l) e') :
    at1 (taken t (lens l)) e = at1 (taken t (lens l)) e' := by
  unfold at1
  rw [taken_eq, taken_eq]
  refine gather_congr _ rfl rfl rfl rfl _ _ e e' (by decide) ?_
  rw [column_at, column_at, h]

/-! ## The reference -/

/-- The reference's index words: each entry's source and destination, side by side. -/
def pairs (a b : KC F) : IVec ReferenceIdeal.S262144x2 32 :=
  concatenate ReferenceIdeal.S262144x2 1
    [⟨S262144x1, broadcastInDim S262144x1 ![0] bcast_S262144_S262144x1_0
      (select (cmpi .slt a (broadcastInDim S262144 ![] bcast_S_S262144 (constantI S_ 32 0#32)))
        (addi a (broadcastInDim S262144 ![] bcast_S_S262144 (constantI S_ 32 4096#32))) a)⟩,
     ⟨S262144x1, broadcastInDim S262144x1 ![0] bcast_S262144_S262144x1_0
      (select (cmpi .slt b (broadcastInDim S262144 ![] bcast_S_S262144 (constantI S_ 32 0#32)))
        (addi b (broadcastInDim S262144 ![] bcast_S_S262144 (constantI S_ 32 4096#32))) b)⟩]
    ReferenceIdeal.Gen.concatenates_S262144x1_S262144x1_S262144x2_d1

/-- The reference's result, of the entries' places and values. -/
def refOut (a b : KC F) (y : VC F) : (⟨S4096x4096, .f32⟩ : BufTy).Contents (Elt F) :=
  Host.scatter ReferenceIdeal.scatter_S4096x4096_S262144x2_S262144_n_01_01_1 (fun _ b => b)
    (broadcastInDim S4096x4096 ![] ReferenceIdeal.Gen.bcast_S_S4096x4096 (constant S_ .f32 0x00000000#32)) (pairs a b) y

theorem toInt_small (x : BitVec 32) (h : x.toNat < 4096) : x.toInt = (x.toNat : ℤ) := by
  rw [BitVec.toInt_eq_toNat_cond, if_pos (by omega)]

/-- Two columns side by side: the first. -/
theorem beside_left {α : Type} {n : ℕ} (x y : (⟨2, ![n, 1]⟩ : Shape).Idx → α) (h : Shape.Concatenates [⟨2, ![n, 1]⟩, ⟨2, ![n, 1]⟩] ⟨2, ![n, 2]⟩ 1) (p : Fin n) :
    concatenate ⟨2, ![n, 2]⟩ 1 [⟨⟨2, ![n, 1]⟩, x⟩, ⟨⟨2, ![n, 1]⟩, y⟩] h (ValueIdx.ix2 p (0 : Fin 2)) = x (StableHlo.Predicate.ixP p) :=
  concatenate_pair_apply_left 1 x y h _ rfl (StableHlo.Predicate.ixP p) fun d => by match d with | ⟨0, _⟩ => rfl | ⟨1, _⟩ => rfl

/-- Two columns side by side: the second. -/
theorem beside_right {α : Type} {n : ℕ} (x y : (⟨2, ![n, 1]⟩ : Shape).Idx → α) (h : Shape.Concatenates [⟨2, ![n, 1]⟩, ⟨2, ![n, 1]⟩] ⟨2, ![n, 2]⟩ 1) (p : Fin n) :
    concatenate ⟨2, ![n, 2]⟩ 1 [⟨⟨2, ![n, 1]⟩, x⟩, ⟨⟨2, ![n, 1]⟩, y⟩] h (ValueIdx.ix2 p (1 : Fin 2)) = y (StableHlo.Predicate.ixP p) :=
  concatenate_pair_apply_right 1 x y h _ rfl rfl (StableHlo.Predicate.ixP p)
    (fun d hd => by match d, hd with | ⟨0, _⟩, _ => rfl | ⟨1, _⟩, hd => exact absurd rfl hd) rfl

theorem pairs_names {a b : KC F} (hR : InRange a b) (j : S4096x4096.Idx) (e : Fin 262144) :
    ((pairs a b (ValueIdx.ix2 e (0 : Fin 2))).toInt = ((j 0).val : ℤ) ∧ (pairs a b (ValueIdx.ix2 e (1 : Fin 2))).toInt = ((j 1).val : ℤ)) ↔ Names a b j e := by
  have hr := hR (Shape.Idx.ofFin e)
  have h0 : pairs a b (ValueIdx.ix2 e (0 : Fin 2)) = at1 a e := by
    refine (beside_left _ _ _ e).trans ?_
    rw [bcast_col]
    exact wrap_small _ _ hr.1
  have h1 : pairs a b (ValueIdx.ix2 e (1 : Fin 2)) = at1 b e := by
    refine (beside_right _ _ _ e).trans ?_
    rw [bcast_col]
    exact wrap_small _ _ hr.2
  rw [h0, h1]
  unfold Names at1
  rw [toInt_small _ hr.1, toInt_small _ hr.2]
  omega

theorem eq_ix2 (j : S4096x4096.Idx) : j = ValueIdx.ix2 (j 0) (j 1) := by
  funext d; match d with | ⟨0, _⟩ => rfl | ⟨1, _⟩ => rfl

theorem ref_last {a b : KC F} (hR : InRange a b) (y : VC F) (j : S4096x4096.Idx) (e : Fin 262144) (he : Names a b j e)
    (hl : ∀ e', e < e' → ¬ Names a b j e') : refOut a b y j = at1 y e := by
  rw [eq_ix2 j]
  refine (Scatter.scatter_last _ rfl rfl rfl _ (pairs a b) y (j 0) (j 1) e ((pairs_names hR j e).mpr he)
    fun e' h hc => hl e' h ((pairs_names hR j e').mp hc)).trans ?_
  exact congrArg y (ext1 rfl)

theorem ref_none {a b : KC F} (hR : InRange a b) (y : VC F) (j : S4096x4096.Idx) (hn : ∀ e, ¬ Names a b j e) : refOut a b y j = fz := by
  rw [eq_ix2 j]
  exact Scatter.scatter_none _ rfl rfl rfl _ (pairs a b) y (j 0) (j 1) fun e hc => hn e ((pairs_names hR j e).mp hc)

/-! ## The two together -/

theorem out_eq_ref {a b : KC F} {y : VC F} {x' : KC F} {y' : VC F} {π : Fin 262144 → Fin 262144} (hA : Arranged (keys a b) y x' y' π) (hR : InRange a b)
    (hs : Stably (keys a b) π ∨ ∀ e e', at1 (keys a b) e = at1 (keys a b) e' → at1 y e = at1 y e')
    (kb : S264192.Idx → BitVec 32) (vb : S264192.Idx → F .f32) (c : S_.Idx → BitVec 32) (c' : S_.Idx → F .f32)
    (hk : kb = pad S264192 ![0] ![2048] ![0] x' c pads_S262144_S264192_020480 h_S_)
    (hv : vb = pad S264192 ![0] ![2048] ![0] y' c' pads_S262144_S264192_020480 h_S_) :
    outBuf (keyAt kb) (valAt fz vb) fz = refOut a b y := by
  funext j
  by_cases h : ∃ e, Names a b j e
  · obtain ⟨e, he, hl⟩ := exists_last _ h
    rw [out_last hA hR kb vb c c' hk hv hs fz j e he hl, ref_last hR y j e he hl]
  · rw [out_none hA hR kb vb c hk fz j (fun e he => h ⟨e, he⟩), ref_none hR y j fun e he => h ⟨e, he⟩]

end Cert.Proof.Sc
-- ==== Proof.Run.lean ====
/-
  The kernel's run, with either sort: the arguments end unchanged, the result is the reference's where the sort is stable
  or entries of one place have one value, and every semaphore reads zero.
-/
module

public import proofs.«01_k».proof.Proof.Host
public import proofs.«01_k».proof.Proof.Value
public import proofs.«01_k».proof.Proof.Gen.Kernel
public import proofs.«01_k».proof.Proof.Gen.Stable
public import proofs.«01_k».proof.Proof.Gen.StableIdeal

@[expose] public section

noncomputable section

namespace Cert.Proof.Sc

open Cert.KernelIdeal Cert.KernelIdeal.Gen Cert.Proof.Spec

open Idealize.ShloMosaic Idealize.ShloMosaic.TcCoe
open Idealize.SL.Sem
open Idealize.ShloMosaic.StableHlo
open Idealize.ShloMosaic.Pipeline (ucRefs)

variable {F : FTy → Type} [FloatOps F]

section host

variable (m : (ℓ : Loc nD τ sig) → Buf (Elt F) ℓ) (fk : KC F → VC F → KC F) (fv : KC F → VC F → VC F) (d : Dev nD)

set_option maxRecDepth 8192 in
set_option maxHeartbeats 2000000 in
/-- No operation before the call writes an argument. -/
theorem host_args : V1 m (hops fk fv) d (Proc.devRef .tc main_arg0) = m ((d.tc : Thread nD τ).loc main_arg0)
    ∧ V1 m (hops fk fv) d (Proc.devRef .tc main_arg1) = m ((d.tc : Thread nD τ).loc main_arg1)
    ∧ V1 m (hops fk fv) d (Proc.devRef .tc main_arg2) = m ((d.tc : Thread nD τ).loc main_arg2)
    ∧ V1 m (hops fk fv) d (Proc.devRef .tc main_arg3) = m ((d.tc : Thread nD τ).loc main_arg3)
    ∧ V1 m (hops fk fv) d (Proc.devRef .tc main_arg4) = m ((d.tc : Thread nD τ).loc main_arg4) := by
  unfold V1
  simp only [hops, TRef.binary, TRef.nullary, TRef.ternary, TRef.unary, TRef.toBuf, TRef.ofBuf, cast_eq]
  refine ⟨?_, ?_, ?_, ?_, ?_⟩ <;> (after_results_simp <;> rfl)

theorem mem_rest (b : Ref sig .tc) (h : (Proc.devRef (τ := τ) .tc b).isScoped = false) (hb : Proc.devRef .tc b ∉ S3) : Proc.devRef .tc b ∈ ucRefs τ sig \ S3 :=
  Finset.mem_sdiff.mpr ⟨Finset.mem_filter.mpr ⟨Finset.mem_map.mpr ⟨b, Finset.mem_univ _, rfl⟩, by simp [h]⟩, hb⟩

end host

section run

variable (m : (ℓ : Loc nD τ sig) → Buf (Elt F) ℓ)

/-- The arguments of memory `m` are those of memory `m'`, on device `d`. -/
def Kept (m' : (ℓ : Loc nD τ sig) → Buf (Elt F) ℓ) (d : Dev nD) : Prop :=
  m' ((d.tc : Thread nD τ).loc main_arg0) = m ((d.tc : Thread nD τ).loc main_arg0)
    ∧ m' ((d.tc : Thread nD τ).loc main_arg1) = m ((d.tc : Thread nD τ).loc main_arg1)
    ∧ m' ((d.tc : Thread nD τ).loc main_arg2) = m ((d.tc : Thread nD τ).loc main_arg2)
    ∧ m' ((d.tc : Thread nD τ).loc main_arg3) = m ((d.tc : Thread nD τ).loc main_arg3)
    ∧ m' ((d.tc : Thread nD τ).loc main_arg4) = m ((d.tc : Thread nD τ).loc main_arg4)

/-- The reference's result of the arguments in `m`. -/
def refOf (d : Dev nD) : Buf (Elt F) ((d.tc : Thread nD τ).loc main_v12) :=
  refOut (m ((d.tc : Thread nD τ).loc main_arg1)) (m ((d.tc : Thread nD τ).loc main_arg2)) (mvals m d)

/-- How a run ends; `st` says the sort is stable. -/
def Ends (st : Prop) (r : PUnit × MemSt nD τ sig (Elt F)) : Prop :=
  (∀ d, Kept m r.2.mem d ∧ ((st ∨ ∀ e e', at1 (mkeys m d) e = at1 (mkeys m d) e' → at1 (mvals m d) e = at1 (mvals m d) e') →
      r.2.mem ((d.tc : Thread nD τ).loc main_v12) = refOf m d))
    ∧ r.2.sem = fun _ => 0

/-- The two index arguments name rows and columns. -/
abbrev Ranged : Prop := ∀ d : Dev nD, InRange (m ((d.tc : Thread nD τ).loc main_arg1)) (m ((d.tc : Thread nD τ).loc main_arg2))

theorem run_sorted [∀ e, Nonempty (Elt F e)] (ρ : Dev nD → PrngReg) (fk : KC F → VC F → KC F) (fv : KC F → VC F → VC F)
    (main₀ : Dev nD → Prog (TpuEff nD τ sig (Elt F) (SparseCore.Sig (ΛP (F := F)) 1) .tc) PUnit) (hm : main₀ = main' (hops fk fv)) (hR : Ranged m) (st : Prop)
    (hs : ∀ d, ∃ π, Arranged (mkeys m d) (mvals m d) (fk (mkeys m d) (mvals m d)) (fv (mkeys m d) (mvals m d)) π ∧ (st → Stably (mkeys m d) π)) :
    θ_run ((K (F := F)).defs (D (F := F))) ((K (F := F)).threads main₀) ⟨m, fun _ => 0, ρ⟩ (Ends m st) := by
  refine (θ_run _ _ _).mono ?_ (run_ops m ρ (hops fk fv) main₀ hm (List.forall_iff_forall_mem.mp (hops_sub fk fv)) (List.forall_iff_forall_mem.mp (hops_fresh fk fv)) fun d => ?_)
  · rintro r ⟨h, hz⟩
    refine ⟨fun d => ⟨?_, fun ht => ?_⟩, hz⟩
    · obtain ⟨h0, h1, h2, h3, h4⟩ := host_args m fk fv d
      exact ⟨((h d).2 _ (mem_rest main_arg0 (by decide) (by decide))).trans h0, ((h d).2 _ (mem_rest main_arg1 (by decide) (by decide))).trans h1,
        ((h d).2 _ (mem_rest main_arg2 (by decide) (by decide))).trans h2, ((h d).2 _ (mem_rest main_arg3 (by decide) (by decide))).trans h3,
        ((h d).2 _ (mem_rest main_arg4 (by decide) (by decide))).trans h4⟩
    · obtain ⟨π, hA, hst⟩ := hs d
      exact (h d).1.trans (out_eq_ref hA (hR d) (ht.imp hst id) _ _ _ _ (host_keys m fk fv d) (host_vals m fk fv d))
  · obtain ⟨π, hA, -⟩ := hs d
    exact sorted_keyAt hA (hR d) _ _ (host_keys m fk fv d)

set_option maxRecDepth 8192 in
/-- The kernel as given. -/
theorem main_given : Cert.KernelIdeal.main (F := F) = main' (hops (fun x y => (Host.unstableSort2 S262144 0 comparator_i32_f32_d0 x y).1)
    (fun x y => (Host.unstableSort2 S262144 0 comparator_i32_f32_d0 x y).2)) := rfl

set_option maxRecDepth 8192 in
set_option maxHeartbeats 4000000 in
/-- The kernel with the stable sort. -/
theorem main_stable : Cert.StableIdeal.main (F := F) = main' (hops (fun x y => (Host.sort2 S262144 0 comparator_i32_f32_d0 x y).1)
    (fun x y => (Host.sort2 S262144 0 comparator_i32_f32_d0 x y).2)) := rfl

theorem run_given [∀ e, Nonempty (Elt F e)] (ρ : Dev nD → PrngReg) (hR : Ranged m) :
    θ_run (Cert.KernelIdeal.defs (F := F)) (Cert.KernelIdeal.threads (F := F)) ⟨m, fun _ => 0, ρ⟩ (Ends m False) :=
  run_sorted m ρ _ _ _ main_given hR False fun d => by
    obtain ⟨π, h⟩ := unstable_arranged (mkeys m d) (mvals m d) comparator_i32_f32_d0 fun _ _ => rfl
    exact ⟨π, h, False.elim⟩

theorem run_stable [∀ e, Nonempty (Elt F e)] (ρ : Dev nD → PrngReg) (hR : Ranged m) :
    θ_run (Cert.StableIdeal.defs (F := F)) (Cert.StableIdeal.threads (F := F)) ⟨m, fun _ => 0, ρ⟩ (Ends m True) :=
  run_sorted m ρ _ _ _ main_stable hR True fun d => by
    obtain ⟨π, h, hs⟩ := stable_arranged (mkeys m d) (mvals m d) comparator_i32_f32_d0 fun _ _ => rfl
    exact ⟨π, h, fun _ => hs⟩

end run

end Cert.Proof.Sc

end
-- ==== Proof.Ref.lean ====
/-
  The reference's run: its result, as the kernel's account states it, its arguments unchanged, and every semaphore zero.
-/
module

public import proofs.«01_k».proof.Proof.Run
public import proofs.«01_k».proof.Proof.Gen.ReferenceIdeal.Run
public import proofs.«01_k».proof.Proof.Gen.Reference.Run
public import Idealize.ShloMosaic.Lib.Quiescent

@[expose] public section

noncomputable section

namespace Cert.Proof.Ref

open Idealize.ShloMosaic Idealize.SL.Sem
open Cert.Proof.Sc

variable {F : FTy → Type} [FloatOps F]

set_option maxRecDepth 8192 in
set_option maxHeartbeats 2000000 in
theorem res_ideal (m : (ℓ : Loc Cert.ReferenceIdeal.nD Cert.ReferenceIdeal.τ Cert.ReferenceIdeal.sig) → Buf (Elt F) ℓ) (c : Dev Cert.ReferenceIdeal.nD) :
    Cert.ReferenceIdeal.Value.res_main_v20 m c = refOut (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (taken (m ((c.tc : Thread Cert.ReferenceIdeal.nD Cert.ReferenceIdeal.τ).loc Cert.ReferenceIdeal.main_arg4))
        (lens (m ((c.tc : Thread Cert.ReferenceIdeal.nD Cert.ReferenceIdeal.τ).loc Cert.ReferenceIdeal.main_arg3)))) := by
  unfold Cert.ReferenceIdeal.Value.res_main_v20
  rfl

set_option maxRecDepth 8192 in
set_option maxHeartbeats 2000000 in
theorem res_printed (m : (ℓ : Loc Cert.Reference.nD Cert.Reference.τ Cert.Reference.sig) → Buf (Elt F) ℓ) (c : Dev Cert.Reference.nD) :
    Cert.Reference.Value.res_main_v20 m c = refOut (m ((c.tc : Thread Cert.Reference.nD Cert.Reference.τ).loc Cert.Reference.main_arg1))
      (m ((c.tc : Thread Cert.Reference.nD Cert.Reference.τ).loc Cert.Reference.main_arg2))
      (taken (m ((c.tc : Thread Cert.Reference.nD Cert.Reference.τ).loc Cert.Reference.main_arg4))
        (lens (m ((c.tc : Thread Cert.Reference.nD Cert.Reference.τ).loc Cert.Reference.main_arg3)))) := by
  unfold Cert.Reference.Value.res_main_v20
  rfl

theorem no_sems_ideal (s : MemSt Cert.ReferenceIdeal.nD Cert.ReferenceIdeal.τ Cert.ReferenceIdeal.sig (Elt F)) : s.sem = fun _ => 0 :=
  Idealize.ShloMosaic.sem_eq_zero_of_no_sems (by decide) s

theorem no_sems_printed (s : MemSt Cert.Reference.nD Cert.Reference.τ Cert.Reference.sig (Elt F)) : s.sem = fun _ => 0 :=
  Idealize.ShloMosaic.sem_eq_zero_of_no_sems (by decide) s

end Cert.Proof.Ref

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_in_range
public import proofs.«01_k».proof.Proof.Gen.Pre_agreeing
public import proofs.«01_k».proof.Proof.Gen.Stable
public import proofs.«01_k».proof.Proof.Gen.StableIdeal
public import proofs.«01_k».proof.Proof.Run
public import proofs.«01_k».proof.Proof.Ref

@[expose] public section

noncomputable section

namespace Cert.Proof

open Idealize.ShloMosaic Idealize.SL.Sem
open Cert.Proof.Sc

/-! ## What the preconditions give -/

section pre

variable {F : FTy → Type} [FloatOps F] (m : (ℓ : Loc Cert.KernelIdeal.nD Cert.KernelIdeal.τ Cert.KernelIdeal.sig) → Buf (Elt F) ℓ)

/-- The arguments on device `c`. -/
abbrev arg0 (c : Dev Cert.KernelIdeal.nD) := m ((c.tc : Thread Cert.KernelIdeal.nD Cert.KernelIdeal.τ).loc Cert.KernelIdeal.main_arg0)
abbrev arg1 (c : Dev Cert.KernelIdeal.nD) := m ((c.tc : Thread Cert.KernelIdeal.nD Cert.KernelIdeal.τ).loc Cert.KernelIdeal.main_arg1)
abbrev arg2 (c : Dev Cert.KernelIdeal.nD) := m ((c.tc : Thread Cert.KernelIdeal.nD Cert.KernelIdeal.τ).loc Cert.KernelIdeal.main_arg2)
abbrev arg3 (c : Dev Cert.KernelIdeal.nD) := m ((c.tc : Thread Cert.KernelIdeal.nD Cert.KernelIdeal.τ).loc Cert.KernelIdeal.main_arg3)
abbrev arg4 (c : Dev Cert.KernelIdeal.nD) := m ((c.tc : Thread Cert.KernelIdeal.nD Cert.KernelIdeal.τ).loc Cert.KernelIdeal.main_arg4)

theorem ranged_of_range (h : ∀ c, Cert.Pre_in_range.fn (F := F) (arg0 m c) (arg1 m c) (arg2 m c) (arg3 m c) (arg4 m c) = fun _ => 1#1) : Ranged m :=
  fun c => inRange_of _ _ _ _ _ (h c)

theorem ranged_of_agreeing (h : ∀ c, Cert.Pre_agreeing.fn (F := F) (arg0 m c) (arg1 m c) (arg2 m c) (arg3 m c) (arg4 m c) = fun _ => 1#1) : Ranged m :=
  fun c => (agreeing_of _ _ _ _ _ (h c)).1

/-- Entries of one key have one value. -/
theorem tie_of_agreeing (h : ∀ c, Cert.Pre_agreeing.fn (F := F) (arg0 m c) (arg1 m c) (arg2 m c) (arg3 m c) (arg4 m c) = fun _ => 1#1)
    (c : Dev Cert.KernelIdeal.nD) (e e' : Fin 262144) (hk : at1 (mkeys m c) e = at1 (mkeys m c) e') : at1 (mvals m c) e = at1 (mvals m c) e' :=
  taken_congr _ _ e e' ((agreeing_of _ _ _ _ _ (h c)).2 _ _ hk)

end pre

/-- A run's end, read at the arguments and the semaphores. -/
theorem frame_of {F : FTy → Type} [FloatOps F] {m : (ℓ : Loc Cert.KernelIdeal.nD Cert.KernelIdeal.τ Cert.KernelIdeal.sig) → Buf (Elt F) ℓ} {st : Prop}
    {r : PUnit × MemSt Cert.KernelIdeal.nD Cert.KernelIdeal.τ Cert.KernelIdeal.sig (Elt F)} (h : Ends m st r) :
    (∀ c, Kept m r.2.mem c) ∧ r.2.sem = fun _ => 0 := ⟨fun c => (h.1 c).1, h.2⟩

/-- Equal arguments, equal results of the reference. -/
theorem ref_congr {F : FTy → Type} [FloatOps F] {a a' b b' l l' : KC F} {t t' : (⟨Cert.KernelIdeal.S20, .f32⟩ : BufTy).Contents (Elt F)}
    (ha : a' = a) (hb : b' = b) (hl : l' = l) (ht : t' = t) : refOut a' b' (taken t' (lens l')) = refOut a b (taken t (lens l)) := by
  subst ha hb hl ht; rfl

/-! ## The frames -/

theorem frame_kernel : Cert.quiescent_Kernel := fun m ρ h =>
  (θ_run Cert.KernelIdeal.defs _ _).mono (fun _ h => frame_of h) (run_given (F := Bits) m ρ (ranged_of_range m h))

theorem frame_kernel_agreeing : Cert.quiescent_Kernel_pre_agreeing := fun m ρ h =>
  (θ_run Cert.KernelIdeal.defs _ _).mono (fun _ h => frame_of h) (run_given (F := Bits) m ρ (ranged_of_agreeing m h))

theorem frame_ideal : Cert.quiescent_KernelIdeal := fun m ρ h =>
  (θ_run Cert.KernelIdeal.defs _ _).mono (fun _ h => frame_of h) (run_given (F := Ideal) m ρ (ranged_of_range m h))

theorem frame_ideal_agreeing : Cert.quiescent_KernelIdeal_pre_agreeing := fun m ρ h =>
  (θ_run Cert.KernelIdeal.defs _ _).mono (fun _ h => frame_of h) (run_given (F := Ideal) m ρ (ranged_of_agreeing m h))

theorem frame_stable : Cert.quiescent_Stable := fun m ρ h =>
  (θ_run Cert.StableIdeal.defs _ _).mono (fun _ h => frame_of h) (run_stable (F := Bits) m ρ (ranged_of_range m h))

theorem frame_stable_ideal : Cert.quiescent_StableIdeal := fun m ρ h =>
  (θ_run Cert.StableIdeal.defs _ _).mono (fun _ h => frame_of h) (run_stable (F := Ideal) m ρ (ranged_of_range m h))

theorem frame_ref_ideal : Cert.quiescent_ReferenceIdeal := fun m ρ _ =>
  (θ_run Cert.ReferenceIdeal.defs _ _).mono (fun r h => ⟨fun c => (h c).2, Ref.no_sems_ideal r.2⟩) (Cert.ReferenceIdeal.Value.run (F := Ideal) m ρ)

theorem frame_ref_agreeing : Cert.quiescent_Reference := fun m ρ _ =>
  (θ_run Cert.Reference.defs _ _).mono (fun r h => ⟨fun c => (h c).2, Ref.no_sems_printed r.2⟩) (Cert.Reference.Value.run (F := Bits) m ρ)

/-! ## The values -/

theorem algebraic_given : Cert.algebraic_KernelIdeal_ReferenceIdeal_pre_agreeing := fun m ρ m' ρ' h e => ⟨refOf m,
  (θ_run Cert.KernelIdeal.defs _ _).mono (fun _ hr c => ⟨(hr.1 c).2 (.inr (tie_of_agreeing m h c)), (hr.1 c).1⟩) (run_given (F := Ideal) m ρ (ranged_of_agreeing m h)),
  (θ_run Cert.ReferenceIdeal.defs _ _).mono (fun _ hr c => ⟨(hr c).1.trans ((Ref.res_ideal m' c).trans
    (ref_congr (e c).2.1 (e c).2.2.1 (e c).2.2.2.1 (e c).2.2.2.2)), (hr c).2⟩) (Cert.ReferenceIdeal.Value.run (F := Ideal) m' ρ')⟩

theorem bitexact_given : Cert.bitexact_Kernel_Reference_pre_agreeing := fun m ρ m' ρ' h e => ⟨refOf m,
  (θ_run Cert.KernelIdeal.defs _ _).mono (fun _ hr c => ⟨(hr.1 c).2 (.inr (tie_of_agreeing m h c)), (hr.1 c).1⟩) (run_given (F := Bits) m ρ (ranged_of_agreeing m h)),
  (θ_run Cert.Reference.defs _ _).mono (fun _ hr c => ⟨(hr c).1.trans ((Ref.res_printed m' c).trans
    (ref_congr (e c).2.1 (e c).2.2.1 (e c).2.2.2.1 (e c).2.2.2.2)), (hr c).2⟩) (Cert.Reference.Value.run (F := Bits) m' ρ')⟩

theorem algebraic_stable : Cert.algebraic_StableIdeal_ReferenceIdeal := fun m ρ m' ρ' h e => ⟨refOf m,
  (θ_run Cert.StableIdeal.defs _ _).mono (fun _ hr c => ⟨(hr.1 c).2 (.inl trivial), (hr.1 c).1⟩) (run_stable (F := Ideal) m ρ (ranged_of_range m h)),
  (θ_run Cert.ReferenceIdeal.defs _ _).mono (fun _ hr c => ⟨(hr c).1.trans ((Ref.res_ideal m' c).trans
    (ref_congr (e c).2.1 (e c).2.2.1 (e c).2.2.2.1 (e c).2.2.2.2)), (hr c).2⟩) (Cert.ReferenceIdeal.Value.run (F := Ideal) m' ρ')⟩

theorem bitexact_stable : Cert.bitexact_Stable_Reference := fun m ρ m' ρ' h e => ⟨refOf m,
  (θ_run Cert.StableIdeal.defs _ _).mono (fun _ hr c => ⟨(hr.1 c).2 (.inl trivial), (hr.1 c).1⟩) (run_stable (F := Bits) m ρ (ranged_of_range m h)),
  (θ_run Cert.Reference.defs _ _).mono (fun _ hr c => ⟨(hr c).1.trans ((Ref.res_printed m' c).trans
    (ref_congr (e c).2.1 (e c).2.2.1 (e c).2.2.2.1 (e c).2.2.2.2)), (hr c).2⟩) (Cert.Reference.Value.run (F := Bits) m' ρ')⟩

theorem claim : Cert.Claim := ⟨Cert.Kernel.Gen.facts, Cert.KernelIdeal.Gen.facts, Cert.ReferenceIdeal.Gen.facts, Cert.Reference.Gen.facts,
  Cert.Stable.Gen.facts, Cert.StableIdeal.Gen.facts, Cert.Pre_in_range.Gen.facts, Cert.Pre_agreeing.Gen.facts,
  frame_kernel, frame_kernel_agreeing, frame_ideal, frame_ideal_agreeing,
  frame_ref_ideal, fun m ρ _ => frame_ref_ideal m ρ trivial, fun m ρ _ => frame_ref_ideal m ρ trivial,
  frame_ref_agreeing, fun m ρ _ => (θ_run Cert.Reference.defs _ _).mono (fun r h => ⟨fun c => (h c).2, Ref.no_sems_printed r.2⟩) (Cert.Reference.Value.run (F := Bits) m ρ),
  frame_stable, frame_stable_ideal, trivial, algebraic_given, bitexact_given, trivial, algebraic_stable, bitexact_stable⟩

end Cert.Proof

end
